-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v6) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)
      ∧ m' ((c.tc : Thread Cert.ProjReferenceIdeal.nD Cert.ProjReferenceIdeal.τ).loc Cert.ProjReferenceIdeal.main_arg15) = m ((c.tc : Thread Cert.ProjIdeal.nD Cert.ProjIdeal.τ).loc Cert.ProjIdeal.main_arg15)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)) (v6 : (c : Dev Cert.ProjIdeal.nD) → Buf (Elt Ideal) ((c.tc : Thread Cert.ProjIdeal.nD Cert.ProjIdeal.τ).loc Cert.ProjIdeal.main_v9_6)) (v7 : (c : Dev Cert.ProjIdeal.nD) → Buf (Elt Ideal) ((c.tc : Thread Cert.ProjIdeal.nD Cert.ProjIdeal.τ).loc Cert.ProjIdeal.main_v9_7)) (v8 : (c : Dev Cert.ProjIdeal.nD) → Buf (Elt Ideal) ((c.tc : Thread Cert.ProjIdeal.nD Cert.ProjIdeal.τ).loc Cert.ProjIdeal.main_v9_8)) (v9 : (c : Dev Cert.ProjIdeal.nD) → Buf (Elt Ideal) ((c.tc : Thread Cert.ProjIdeal.nD Cert.ProjIdeal.τ).loc Cert.ProjIdeal.main_v9_9)) (v10 : (c : Dev Cert.ProjIdeal.nD) → Buf (Elt Ideal) ((c.tc : Thread Cert.ProjIdeal.nD Cert.ProjIdeal.τ).loc Cert.ProjIdeal.main_v9_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_v9_6) = v6 c
          ∧ r.2.mem ((c.tc : Thread Cert.ProjIdeal.nD Cert.ProjIdeal.τ).loc Cert.ProjIdeal.main_v9_7) = v7 c
          ∧ r.2.mem ((c.tc : Thread Cert.ProjIdeal.nD Cert.ProjIdeal.τ).loc Cert.ProjIdeal.main_v9_8) = v8 c
          ∧ r.2.mem ((c.tc : Thread Cert.ProjIdeal.nD Cert.ProjIdeal.τ).loc Cert.ProjIdeal.main_v9_9) = v9 c
          ∧ r.2.mem ((c.tc : Thread Cert.ProjIdeal.nD Cert.ProjIdeal.τ).loc Cert.ProjIdeal.main_v9_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v11_0) = v0 c
          ∧ r.2.mem ((c.tc : Thread Cert.ProjReferenceIdeal.nD Cert.ProjReferenceIdeal.τ).loc Cert.ProjReferenceIdeal.main_v11_1) = v1 c
          ∧ r.2.mem ((c.tc : Thread Cert.ProjReferenceIdeal.nD Cert.ProjReferenceIdeal.τ).loc Cert.ProjReferenceIdeal.main_v11_2) = v2 c
          ∧ r.2.mem ((c.tc : Thread Cert.ProjReferenceIdeal.nD Cert.ProjReferenceIdeal.τ).loc Cert.ProjReferenceIdeal.main_v11_3) = v3 c
          ∧ r.2.mem ((c.tc : Thread Cert.ProjReferenceIdeal.nD Cert.ProjReferenceIdeal.τ).loc Cert.ProjReferenceIdeal.main_v11_4) = v4 c
          ∧ r.2.mem ((c.tc : Thread Cert.ProjReferenceIdeal.nD Cert.ProjReferenceIdeal.τ).loc Cert.ProjReferenceIdeal.main_v11_5) = v5 c
          ∧ r.2.mem ((c.tc : Thread Cert.ProjReferenceIdeal.nD Cert.ProjReferenceIdeal.τ).loc Cert.ProjReferenceIdeal.main_v11_6) = v6 c
          ∧ r.2.mem ((c.tc : Thread Cert.ProjReferenceIdeal.nD Cert.ProjReferenceIdeal.τ).loc Cert.ProjReferenceIdeal.main_v11_7) = v7 c
          ∧ r.2.mem ((c.tc : Thread Cert.ProjReferenceIdeal.nD Cert.ProjReferenceIdeal.τ).loc Cert.ProjReferenceIdeal.main_v11_8) = v8 c
          ∧ r.2.mem ((c.tc : Thread Cert.ProjReferenceIdeal.nD Cert.ProjReferenceIdeal.τ).loc Cert.ProjReferenceIdeal.main_v11_9) = v9 c
          ∧ r.2.mem ((c.tc : Thread Cert.ProjReferenceIdeal.nD Cert.ProjReferenceIdeal.τ).loc Cert.ProjReferenceIdeal.main_v11_10) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15))

def Claim : Prop :=
  ∃ (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts),
    quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
-- ==== Mlp.lean ====
abbrev S768x4096 : Shape := ⟨2, ![768, 4096]⟩
abbrev S768x1 : Shape := ⟨2, ![768, 1]⟩
abbrev S32x128x2560 : Shape := ⟨3, ![32, 128, 2560]⟩
abbrev S2560 : Shape := ⟨1, ![2560]⟩
abbrev S48x16x2560 : Shape := ⟨3, ![48, 16, 2560]⟩
abbrev S1280x19456 : Shape := ⟨2, ![1280, 19456]⟩
abbrev S19456 : Shape := ⟨1, ![19456]⟩
abbrev S4864x2560 : Shape := ⟨2, ![4864, 2560]⟩
abbrev S768x2560 : Shape := ⟨2, ![768, 2560]⟩
abbrev S4096x2560 : Shape := ⟨2, ![4096, 2560]⟩
abbrev S1x2560 : Shape := ⟨2, ![1, 2560]⟩
abbrev S1x19456 : Shape := ⟨2, ![1, 19456]⟩
abbrev S4096x512 : Shape := ⟨2, ![4096, 512]⟩
abbrev S1x512 : Shape := ⟨2, ![1, 512]⟩
abbrev S768x512 : Shape := ⟨2, ![768, 512]⟩
abbrev S1280x512 : Shape := ⟨2, ![1280, 512]⟩
abbrev S256x2560 : Shape := ⟨2, ![256, 2560]⟩
abbrev S768 : Shape := ⟨1, ![768]⟩
abbrev S256x1x2560 : Shape := ⟨3, ![256, 1, 2560]⟩
abbrev S256x2x2560 : Shape := ⟨3, ![256, 2, 2560]⟩
abbrev S512x2560 : Shape := ⟨2, ![512, 2560]⟩
abbrev S1280x1x512 : Shape := ⟨3, ![1280, 1, 512]⟩
abbrev S1280x2x512 : Shape := ⟨3, ![1280, 2, 512]⟩
abbrev S2560x512 : Shape := ⟨2, ![2560, 512]⟩

abbrev nBuf : Space → Nat
  | .hbm => 17
  | .vmem => 25
  | .smem => 0
  | _ => 0

abbrev bufTy : (tb : Table) → Fin (tcTables nBuf tb) → BufTy
  | .hbm, ⟨0, _⟩ => ⟨S768x4096, .fp8e4m3⟩
  | .hbm, ⟨1, _⟩ => ⟨S768x1, .f32⟩
  | .hbm, ⟨2, _⟩ => ⟨S32x128x2560, .fp8e4m3⟩
  | .hbm, ⟨3, _⟩ => ⟨S2560, .f32⟩
  | .hbm, ⟨4, _⟩ => ⟨S48x16x2560, .bf16⟩
  | .hbm, ⟨5, _⟩ => ⟨S2560, .f32⟩
  | .hbm, ⟨6, _⟩ => ⟨S1280x19456, .i8⟩
  | .hbm, ⟨7, _⟩ => ⟨S19456, .f32⟩
  | .hbm, ⟨8, _⟩ => ⟨S4864x2560, .i8⟩
  | .hbm, ⟨9, _⟩ => ⟨S2560, .f32⟩
  | .hbm, ⟨10, _⟩ => ⟨S768x2560, .bf16⟩
  | .hbm, ⟨11, _⟩ => ⟨S4096x2560, .fp8e4m3⟩
  | .hbm, ⟨12, _⟩ => ⟨S1x2560, .f32⟩
  | .hbm, ⟨13, _⟩ => ⟨S1x2560, .f32⟩
  | .hbm, ⟨14, _⟩ => ⟨S1x19456, .f32⟩
  | .hbm, ⟨15, _⟩ => ⟨S1x2560, .f32⟩
  | .hbm, ⟨16, _⟩ => ⟨S768x2560, .bf16⟩
  | .local _ .vmem, ⟨0, _⟩ => ⟨S768x4096, .fp8e4m3⟩
  | .local _ .vmem, ⟨1, _⟩ => ⟨S768x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S768x512, .bf16⟩
  | .local _ .vmem, ⟨7, _⟩ => ⟨S768x512, .bf16⟩
  | .local _ .vmem, ⟨8, _⟩ => ⟨S1x2560, .f32⟩
  | .local _ .vmem, ⟨9, _⟩ => ⟨S1280x512, .i8⟩
  | .local _ .vmem, ⟨10, _⟩ => ⟨S1280x512, .i8⟩
  | .local _ .vmem, ⟨11, _⟩ => ⟨S1280x512, .i8⟩
  | .local _ .vmem, ⟨12, _⟩ => ⟨S1280x512, .i8⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S256x2560, .i8⟩
  | .local _ .vmem, ⟨18, _⟩ => ⟨S256x2560, .i8⟩
  | .local _ .vmem, ⟨19, _⟩ => ⟨S1x2560, .f32⟩
  | .local _ .vmem, ⟨20, _⟩ => ⟨S768x2560, .bf16⟩
  | .local _ .vmem, ⟨21, _⟩ => ⟨S768x2560, .f32⟩
  | .local _ .vmem, ⟨22, _⟩ => ⟨S768x2560, .bf16⟩
  | .local _ .vmem, ⟨23, _⟩ => ⟨S768x512, .bf16⟩
  | .local _ .vmem, ⟨24, _⟩ => ⟨S768x2560, .f32⟩
  | _, _ => ⟨S768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c512_i32 : BitVec 32 := 512#32
  let v18 : BitVec 32 := Scalar.muli arg0 c512_i32
  v18
def k0_off1 (i : grid0.Coords) : Fin 2 → Nat :=
  let c0_17 : Index := 0#32
  let arg0 : BitVec 32 := BitVec.ofNat 32 (i 0).val
  let c512_i32 : BitVec 32 := 512#32
  let v18 : BitVec 32 := Scalar.muli arg0 c512_i32
  let v19 : BitVec 32 := v18
  let v35 : Index := Scalar.indexCast v19
  ![0, v35.toNat]
def k0_cond5 (i : grid0.Coords) : BitVec 1 :=
  let arg0 : BitVec 32 := BitVec.ofNat 32 (i 0).val
  let c5_i32_0 : BitVec 32 := 5#32
  let v3 : BitVec 32 := Scalar.subi arg0 c5_i32_0
  let c19_i32_6 : BitVec 32 := 19#32
  let v15 : BitVec 1 := Scalar.cmpi .eq v3 c19_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c18_i32 : BitVec 32 := 18#32
  let v1 : BitVec 32 := Scalar.maxsi c0_i32 v0
  let v2 : BitVec 32 := Scalar.minsi c18_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c18_i32 : BitVec 32 := 18#32
  let v1 : BitVec 32 := Scalar.maxsi c0_i32 v0
  let v2 : BitVec 32 := Scalar.minsi c18_i32 v1
  let c19_i32 : BitVec 32 := 19#32
  let v3 : BitVec 32 := Scalar.addi c19_i32 v2
  let c0_i32_0 : BitVec 32 := 0#32
  let c0_i32_1 : BitVec 32 := 0#32
  ![c0_i32_0.toNat, v3.toNat]

def cc0_transform_8 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c18_i32 : BitVec 32 := 18#32
  let v1 : BitVec 32 := Scalar.maxsi c0_i32 v0
  let v2 : BitVec 32 := Scalar.minsi c18_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c18_i32 : BitVec 32 := 18#32
  let v1 : BitVec 32 := Scalar.maxsi c0_i32 v0
  let v2 : BitVec 32 := Scalar.minsi c18_i32 v1
  let c19_i32 : BitVec 32 := 19#32
  let v3 : BitVec 32 := Scalar.addi c19_i32 v2
  let c0_i32_0 : BitVec 32 := 0#32
  let c0_i32_1 : BitVec 32 := 0#32
  ![c0_i32_0.toNat, v3.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c5_i32 : BitVec 32 := 5#32
  let v1 : BitVec 32 := Scalar.subi v0 c5_i32
  let c0_i32 : BitVec 32 := 0#32
  let c18_i32 : BitVec 32 := 18#32
  let v2 : BitVec 32 := Scalar.maxsi c0_i32 v1
  let v3 : BitVec 32 := Scalar.minsi c18_i32 v2
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1280x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpReferenceIdeal.lean ====
abbrev S768x4096 : Shape := ⟨2, ![768, 4096]⟩
abbrev S768x1 : Shape := ⟨2, ![768, 1]⟩
abbrev S32x128x2560 : Shape := ⟨3, ![32, 128, 2560]⟩
abbrev S2560 : Shape := ⟨1, ![2560]⟩
abbrev S48x16x2560 : Shape := ⟨3, ![48, 16, 2560]⟩
abbrev S1280x19456 : Shape := ⟨2, ![1280, 19456]⟩
abbrev S19456 : Shape := ⟨1, ![19456]⟩
abbrev S4864x2560 : Shape := ⟨2, ![4864, 2560]⟩
abbrev S4096x2560 : Shape := ⟨2, ![4096, 2560]⟩
abbrev S1x2560 : Shape := ⟨2, ![1, 2560]⟩
abbrev S768x2560 : Shape := ⟨2, ![768, 2560]⟩
abbrev S1x19456 : Shape := ⟨2, ![1, 19456]⟩
abbrev S768 : Shape := ⟨1, ![768]⟩
abbrev S768x1280x2 : Shape := ⟨3, ![768, 1280, 2]⟩
abbrev S768x1280x1 : Shape := ⟨3, ![768, 1280, 1]⟩
abbrev S768x1280 : Shape := ⟨2, ![768, 1280]⟩
abbrev S768x19456 : Shape := ⟨2, ![768, 19456]⟩
abbrev S768x9728 : Shape := ⟨2, ![768, 9728]⟩
abbrev S768x4864x2 : Shape := ⟨3, ![768, 4864, 2]⟩
abbrev S768x4864x1 : Shape := ⟨3, ![768, 4864, 1]⟩
abbrev S768x4864 : Shape := ⟨2, ![768, 4864]⟩

abbrev nBuf : Space → Nat
  | .hbm => 17
  | .vmem => 11
  | .smem => 0
  | _ => 0

abbrev bufTy : (tb : Table) → Fin (tcTables nBuf tb) → BufTy
  | .hbm, ⟨0, _⟩ => ⟨S768x4096, .fp8e4m3⟩
  | .hbm, ⟨1, _⟩ => ⟨S768x1, .f32⟩
  | .hbm, ⟨2, _⟩ => ⟨S32x128x2560, .fp8e4m3⟩
  | .hbm, ⟨3, _⟩ => ⟨S2560, .f32⟩
  | .hbm, ⟨4, _⟩ => ⟨S48x16x2560, .bf16⟩
  | .hbm, ⟨5, _⟩ => ⟨S2560, .f32⟩
  | .hbm, ⟨6, _⟩ => ⟨S1280x19456, .i8⟩
  | .hbm, ⟨7, _⟩ => ⟨S19456, .f32⟩
  | .hbm, ⟨8, _⟩ => ⟨S4864x2560, .i8⟩
  | .hbm, ⟨9, _⟩ => ⟨S2560, .f32⟩
  | .hbm, ⟨10, _⟩ => ⟨S4096x2560, .fp8e4m3⟩
  | .hbm, ⟨11, _⟩ => ⟨S1x2560, .f32⟩
  | .hbm, ⟨12, _⟩ => ⟨S768x2560, .bf16⟩
  | .hbm, ⟨13, _⟩ => ⟨S1x2560, .f32⟩
  | .hbm, ⟨14, _⟩ => ⟨S1x19456, .f32⟩
  | .hbm, ⟨15, _⟩ => ⟨S1x2560, .f32⟩
  | .hbm, ⟨16, _⟩ => ⟨S768x2560, .bf16⟩
  | .local _ .vmem, ⟨0, _⟩ => ⟨S768x4096, .fp8e4m3⟩
  | .local _ .vmem, ⟨1, _⟩ => ⟨S768x1, .f32⟩
  | .local _ .vmem, ⟨2, _⟩ => ⟨S4096x2560, .fp8e4m3⟩
  | .local _ .vmem, ⟨3, _⟩ => ⟨S1x2560, .f32⟩
  | .local _ .vmem, ⟨4, _⟩ => ⟨S768x2560, .bf16⟩
  | .local _ .vmem, ⟨5, _⟩ => ⟨S1x2560, .f32⟩
  | .local _ .vmem, ⟨6, _⟩ => ⟨S1280x19456, .i8⟩
  | .local _ .vmem, ⟨7, _⟩ => ⟨S1x19456, .f32⟩
  | .local _ .vmem, ⟨8, _⟩ => ⟨S4864x2560, .i8⟩
  | .local _ .vmem, ⟨9, _⟩ => ⟨S1x2560, .f32⟩
  | .local _ .vmem, ⟨10, _⟩ => ⟨S768x2560, .bf16⟩
  | _, _ => ⟨S768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x19456 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x19456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4864x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proj.lean ====
abbrev S768x12800 : Shape := ⟨2, ![768, 12800]⟩
abbrev S6400x2560 : Shape := ⟨2, ![6400, 2560]⟩
abbrev S2560 : Shape := ⟨1, ![2560]⟩
abbrev S48x16x2560 : Shape := ⟨3, ![48, 16, 2560]⟩
abbrev S2560x6144 : Shape := ⟨2, ![2560, 6144]⟩
abbrev S6144 : Shape := ⟨1, ![6144]⟩
abbrev S128 : Shape := ⟨1, ![128]⟩
abbrev S768x128 : Shape := ⟨2, ![768, 128]⟩
abbrev S48x16x128 : Shape := ⟨3, ![48, 16, 128]⟩
abbrev S8 : Shape := ⟨1, ![8]⟩
abbrev S768x2560 : Shape := ⟨2, ![768, 2560]⟩
abbrev S1x2560 : Shape := ⟨2, ![1, 2560]⟩
abbrev S1x6144 : Shape := ⟨2, ![1, 6144]⟩
abbrev S1x128 : Shape := ⟨2, ![1, 128]⟩
abbrev S768x1 : Shape := ⟨2, ![768, 1]⟩
abbrev S768x1024 : Shape := ⟨2, ![768, 1024]⟩
abbrev S768x4096 : Shape := ⟨2, ![768, 4096]⟩
abbrev S768x1280 : Shape := ⟨2, ![768, 1280]⟩
abbrev S640x2560 : Shape := ⟨2, ![640, 2560]⟩
abbrev S96x2560 : Shape := ⟨2, ![96, 2560]⟩
abbrev S2560x512 : Shape := ⟨2, ![2560, 512]⟩
abbrev S768x512 : Shape := ⟨2, ![768, 512]⟩
abbrev S640x1x2560 : Shape := ⟨3, ![640, 1, 2560]⟩
abbrev S640x2x2560 : Shape := ⟨3, ![640, 2, 2560]⟩
abbrev S1280x2560 : Shape := ⟨2, ![1280, 2560]⟩
abbrev S96 : Shape := ⟨1, ![96]⟩
abbrev S96x1 : Shape := ⟨2, ![96, 1]⟩
abbrev S768 : Shape := ⟨1, ![768]⟩
abbrev S1 : Shape := ⟨1, ![1]⟩

abbrev nBuf : Space → Nat
  | .hbm => 36
  | .vmem => 39
  | .smem => 2
  | _ => 0

abbrev bufTy : (tb : Table) → Fin (tcTables nBuf tb) → BufTy
  | .hbm, ⟨0, _⟩ => ⟨S768x12800, .bf16⟩
  | .hbm, ⟨1, _⟩ => ⟨S6400x2560, .i8⟩
  | .hbm, ⟨2, _⟩ => ⟨S2560, .f32⟩
  | .hbm, ⟨3, _⟩ => ⟨S2560, .f32⟩
  | .hbm, ⟨4, _⟩ => ⟨S48x16x2560, .bf16⟩
  | .hbm, ⟨5, _⟩ => ⟨S2560, .f32⟩
  | .hbm, ⟨6, _⟩ => ⟨S2560x6144, .fp8e4m3⟩
  | .hbm, ⟨7, _⟩ => ⟨S6144, .f32⟩
  | .hbm, ⟨8, _⟩ => ⟨S128, .f32⟩
  | .hbm, ⟨9, _⟩ => ⟨S128, .f32⟩
  | .hbm, ⟨10, _⟩ => ⟨S768x128, .f32⟩
  | .hbm, ⟨11, _⟩ => ⟨S768x128, .f32⟩
  | .hbm, ⟨12, _⟩ => ⟨S48x16x128, .f32⟩
  | .hbm, ⟨13, _⟩ => ⟨S48x16x128, .f32⟩
  | .hbm, ⟨14, _⟩ => ⟨S8, .f32⟩
  | .hbm, ⟨15, _⟩ => ⟨S8, .f32⟩
  | .hbm, ⟨16, _⟩ => ⟨S768x2560, .bf16⟩
  | .hbm, ⟨17, _⟩ => ⟨S1x2560, .f32⟩
  | .hbm, ⟨18, _⟩ => ⟨S1x2560, .f32⟩
  | .hbm, ⟨19, _⟩ => ⟨S1x2560, .f32⟩
  | .hbm, ⟨20, _⟩ => ⟨S1x6144, .f32⟩
  | .hbm, ⟨21, _⟩ => ⟨S1x128, .f32⟩
  | .hbm, ⟨22, _⟩ => ⟨S1x128, .f32⟩
  | .hbm, ⟨23, _⟩ => ⟨S768x128, .f32⟩
  | .hbm, ⟨24, _⟩ => ⟨S768x128, .f32⟩
  | .hbm, ⟨25, _⟩ => ⟨S768x2560, .bf16⟩
  | .hbm, ⟨26, _⟩ => ⟨S768x2560, .bf16⟩
  | .hbm, ⟨27, _⟩ => ⟨S768x2560, .fp8e4m3⟩
  | .hbm, ⟨28, _⟩ => ⟨S768x1, .f32⟩
  | .hbm, ⟨29, _⟩ => ⟨S768x1024, .fp8e4m3⟩
  | .hbm, ⟨30, _⟩ => ⟨S768x1024, .fp8e4m3⟩
  | .hbm, ⟨31, _⟩ => ⟨S768x2560, .fp8e4m3⟩
  | .hbm, ⟨32, _⟩ => ⟨S768x1, .f32⟩
  | .hbm, ⟨33, _⟩ => ⟨S768x4096, .bf16⟩
  | .hbm, ⟨34, _⟩ => ⟨S768x1024, .bf16⟩
  | .hbm, ⟨35, _⟩ => ⟨S768x1024, .bf16⟩
  | .local _ .vmem, ⟨0, _⟩ => ⟨S768x1280, .bf16⟩
  | .local _ .vmem, ⟨1, _⟩ => ⟨S768x1280, .bf16⟩
  | .local _ .vmem, ⟨2, _⟩ => ⟨S640x2560, .i8⟩
  | .local _ .vmem, ⟨3, _⟩ => ⟨S640x2560, .i8⟩
  | .local _ .vmem, ⟨4, _⟩ => ⟨S1x2560, .f32⟩
  | .local _ .vmem, ⟨5, _⟩ => ⟨S1x2560, .f32⟩
  | .local _ .vmem, ⟨6, _⟩ => ⟨S96x2560, .bf16⟩
  | .local _ .vmem, ⟨7, _⟩ => ⟨S96x2560, .bf16⟩
  | .local _ .vmem, ⟨8, _⟩ => ⟨S1x2560, .f32⟩
  | .local _ .vmem, ⟨9, _⟩ => ⟨S2560x512, .fp8e4m3⟩
  | .local _ .vmem, ⟨10, _⟩ => ⟨S2560x512, .fp8e4m3⟩
  | .local _ .vmem, ⟨11, _⟩ => ⟨S1x6144, .f32⟩
  | .local _ .vmem, ⟨12, _⟩ => ⟨S1x128, .f32⟩
  | .local _ .vmem, ⟨13, _⟩ => ⟨S1x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | .local _ .vmem, ⟨18, _⟩ => ⟨S96x2560, .bf16⟩
  | .local _ .vmem, ⟨19, _⟩ => ⟨S96x2560, .bf16⟩
  | .local _ .vmem, ⟨20, _⟩ => ⟨S96x2560, .bf16⟩
  | .local _ .vmem, ⟨21, _⟩ => ⟨S96x2560, .bf16⟩
  | .local _ .vmem, ⟨22, _⟩ => ⟨S768x2560, .fp8e4m3⟩
  | .local _ .vmem, ⟨23, _⟩ => ⟨S768x1, .f32⟩
  | .local _ .vmem, ⟨24, _⟩ => ⟨S768x512, .fp8e4m3⟩
  | .local _ .vmem, ⟨25, _⟩ => ⟨S768x512, .fp8e4m3⟩
  | .local _ .vmem, ⟨26, _⟩ => ⟨S768x512, .fp8e4m3⟩
  | .local _ .vmem, ⟨27, _⟩ => ⟨S768x512, .fp8e4m3⟩
  | .local _ .vmem, ⟨28, _⟩ => ⟨S768x2560, .fp8e4m3⟩
  | .local _ .vmem, ⟨29, _⟩ => ⟨S768x1, .f32⟩
  | .local _ .vmem, ⟨30, _⟩ => ⟨S768x512, .bf16⟩
  | .local _ .vmem, ⟨31, _⟩ => ⟨S768x512, .bf16⟩
  | .local _ .vmem, ⟨32, _⟩ => ⟨S768x512, .bf16⟩
  | .local _ .vmem, ⟨33, _⟩ => ⟨S768x512, .bf16⟩
  | .local _ .vmem, ⟨34, _⟩ => ⟨S768x512, .bf16⟩
  | .local _ .vmem, ⟨35, _⟩ => ⟨S768x512, .bf16⟩
  | .local _ .vmem, ⟨36, _⟩ => ⟨S768x2560, .f32⟩
  | .local _ .vmem, ⟨37, _⟩ => ⟨S768x512, .f32⟩
  | .local _ .vmem, ⟨38, _⟩ => ⟨S768x512, .f32⟩
  | .local _ .smem, ⟨0, _⟩ => ⟨S8, .f32⟩
  | .local _ .smem, ⟨1, _⟩ => ⟨S8, .f32⟩
  | _, _ => ⟨S768x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v9_4 : Ref sig .tc := ⟨.hbm, 29, rfl⟩
abbrev main_v9_5 : Ref sig .tc := ⟨.hbm, 30, rfl⟩
abbrev main_v9_6 : Ref sig .tc := ⟨.hbm, 31, rfl⟩
abbrev main_v9_7 : Ref sig .tc := ⟨.hbm, 32, rfl⟩
abbrev main_v9_8 : Ref sig .tc := ⟨.hbm, 33, rfl⟩
abbrev main_v9_9 : Ref sig .tc := ⟨.hbm, 34, rfl⟩
abbrev main_v9_10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_stg14_0 : Ref sig .tc := ⟨.smem, 0, rfl⟩
abbrev cc0_stg15_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem23_0 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37

abbrev nD : Nat := 1
abbrev τ : Topo := Topo.v7x

variable {F : FTy → Type} [FloatOps F]

abbrev grid0 : Pipeline.Grid := ⟨1, ![23], ![false]⟩

def k0_cond3 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_2 : BitVec 32 := 0#32
  let v8 : BitVec 1 := Scalar.cmpi .ne v7 c0_i32_2
  v8

def k0_mult1 (i : grid0.Coords) : BitVec 32 :=
  let arg0 : BitVec 32 := BitVec.ofNat 32 (i 0).val
  let c96_i32 : BitVec 32 := 96#32
  let v39 : BitVec 32 := Scalar.muli arg0 c96_i32
  v39
def k0_off1 (i : grid0.Coords) : Fin 2 → Nat :=
  let arg0 : BitVec 32 := BitVec.ofNat 32 (i 0).val
  let c96_i32 : BitVec 32 := 96#32
  let v39 : BitVec 32 := Scalar.muli arg0 c96_i32
  let v40 : BitVec 32 := v39
  let v74 : Index := Scalar.indexCast v40
  let c0_31 : Index := 0#32
  ![v74.toNat, 0]
def k0_off2 (i : grid0.Coords) : Fin 2 → Nat :=
  let arg0 : BitVec 32 := BitVec.ofNat 32 (i 0).val
  let c96_i32 : BitVec 32 := 96#32
  let v39 : BitVec 32 := Scalar.muli arg0 c96_i32
  let v40 : BitVec 32 := v39
  let v76 : Index := Scalar.indexCast v40
  let c0_32 : Index := 0#32
  ![v76.toNat, 0]
def k0_cond4 (i : grid0.Coords) : BitVec 1 :=
  let arg0 : BitVec 32 := BitVec.ofNat 32 (i 0).val
  let c10_i32_3 : BitVec 32 := 10#32
  let v9 : BitVec 32 := Scalar.subi arg0 c10_i32_3
  let c0_i32_4 : BitVec 32 := 0#32
  let v10 : BitVec 1 := Scalar.cmpi .sge v9 c0_i32_4
  let c8_i32_5 : BitVec 32 := 8#32
  let v11 : BitVec 1 := Scalar.cmpi .slt v9 c8_i32_5
  let v12 : BitVec 1 := Scalar.andi v10 v11
  let v13 : BitVec 32 := Scalar.extui v12
  let c0_i32_6 : BitVec 32 := 0#32
  let v14 : BitVec 1 := Scalar.cmpi .ne v13 c0_i32_6
  v14

def k0_mult2 (i : grid0.Coords) : BitVec 32 :=
  let arg0 : BitVec 32 := BitVec.ofNat 32 (i 0).val
  let c10_i32_3 : BitVec 32 := 10#32
  let v9 : BitVec 32 := Scalar.subi arg0 c10_i32_3
  let c96_i32 : BitVec 32 := 96#32
  let v39 : BitVec 32 := Scalar.muli v9 c96_i32
  v39
def k0_off3 (i : grid0.Coords) : Fin 2 → Nat :=
  let arg0 : BitVec 32 := BitVec.ofNat 32 (i 0).val
  let c10_i32_3 : BitVec 32 := 10#32
  let v9 : BitVec 32 := Scalar.subi arg0 c10_i32_3
  let c96_i32 : BitVec 32 := 96#32
  let v39 : BitVec 32 := Scalar.muli v9 c96_i32
  let v40 : BitVec 32 := v39
  let v41 : Index := Scalar.indexCast v40
  let c0 : Index := 0#32
  ![v41.toNat, 0]
def k0_off4 (i : grid0.Coords) : Fin 2 → Nat :=
  let arg0 : BitVec 32 := BitVec.ofNat 32 (i 0).val
  let c10_i32_3 : BitVec 32 := 10#32
  let v9 : BitVec 32 := Scalar.subi arg0 c10_i32_3
  let c96_i32 : BitVec 32 := 96#32
  let v39 : BitVec 32 := Scalar.muli v9 c96_i32
  let v40 : BitVec 32 := v39
  let v83 : Index := Scalar.indexCast v40
  let c0_37 : Index := 0#32
  ![v83.toNat, 0]
def k0_cond5 (i : grid0.Coords) : BitVec 1 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c0_i32_7 : BitVec 32 := 0#32
  let v16 : BitVec 1 := Scalar.cmpi .sge v15 c0_i32_7
  let c8_i32_8 : BitVec 32 := 8#32
  let v17 : BitVec 1 := Scalar.cmpi .slt v15 c8_i32_8
  let v18 : BitVec 1 := Scalar.andi v16 v17
  let v19 : BitVec 32 := Scalar.extui v18
  let c0_i32_9 : BitVec 32 := 0#32
  let v20 : BitVec 1 := Scalar.cmpi .ne v19 c0_i32_9
  v20

def k0_mult3 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v39 : BitVec 32 := Scalar.muli v15 c512_i32
  let c0_i32_20 : BitVec 32 := 0#32
  let v40 : BitVec 32 := Scalar.addi v39 c0_i32_20
  v40
def k0_off5 (i : grid0.Coords) (c0_i32_20 : BitVec 32) : Fin 2 → Nat :=
  let c0_24 : Index := 0#32
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v39 : BitVec 32 := Scalar.muli v15 c512_i32
  let v40 : BitVec 32 := Scalar.addi v39 c0_i32_20
  let v41 : BitVec 32 := v40
  let v47 : Index := Scalar.indexCast v41
  ![0, v47.toNat]
def k0_mult4 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v39 : BitVec 32 := Scalar.muli v15 c512_i32
  let c128_i32 : BitVec 32 := 128#32
  let v84 : BitVec 32 := Scalar.addi v39 c128_i32
  v84
def k0_mult5 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v39 : BitVec 32 := Scalar.muli v15 c512_i32
  let c256_i32 : BitVec 32 := 256#32
  let v128 : BitVec 32 := Scalar.addi v39 c256_i32
  v128
def k0_mult6 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v39 : BitVec 32 := Scalar.muli v15 c512_i32
  let c384_i32 : BitVec 32 := 384#32
  let v172 : BitVec 32 := Scalar.addi v39 c384_i32
  v172
def k0_cond6 (i : grid0.Coords) : BitVec 1 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c8_i32_10 : BitVec 32 := 8#32
  let v21 : BitVec 1 := Scalar.cmpi .sge v15 c8_i32_10
  let c10_i32_11 : BitVec 32 := 10#32
  let v22 : BitVec 1 := Scalar.cmpi .slt v15 c10_i32_11
  let v23 : BitVec 1 := Scalar.andi v21 v22
  let v24 : BitVec 32 := Scalar.extui v23
  let c0_i32_12 : BitVec 32 := 0#32
  let v25 : BitVec 1 := Scalar.cmpi .ne v24 c0_i32_12
  v25

def k0_mult7 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v41 : BitVec 32 := Scalar.muli v15 c512_i32
  let c0_i32_21 : BitVec 32 := 0#32
  let v42 : BitVec 32 := Scalar.addi v41 c0_i32_21
  v42
def k0_off6 (i : grid0.Coords) (c0_i32_21 : BitVec 32) : Fin 2 → Nat :=
  let c0_25 : Index := 0#32
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v41 : BitVec 32 := Scalar.muli v15 c512_i32
  let v42 : BitVec 32 := Scalar.addi v41 c0_i32_21
  let v43 : BitVec 32 := v42
  let v49 : Index := Scalar.indexCast v43
  ![0, v49.toNat]
def k0_mult8 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v41 : BitVec 32 := Scalar.muli v15 c512_i32
  let c128_i32 : BitVec 32 := 128#32
  let v86 : BitVec 32 := Scalar.addi v41 c128_i32
  v86
def k0_mult9 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v41 : BitVec 32 := Scalar.muli v15 c512_i32
  let c256_i32 : BitVec 32 := 256#32
  let v130 : BitVec 32 := Scalar.addi v41 c256_i32
  v130
def k0_mult10 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v41 : BitVec 32 := Scalar.muli v15 c512_i32
  let c384_i32 : BitVec 32 := 384#32
  let v174 : BitVec 32 := Scalar.addi v41 c384_i32
  v174
def k0_mult11 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_96 : BitVec 32 := 512#32
  let v218 : BitVec 32 := Scalar.muli v15 c512_i32_96
  let c0_i32_97 : BitVec 32 := 0#32
  let v219 : BitVec 32 := Scalar.addi v218 c0_i32_97
  v219
def k0_off7 (i : grid0.Coords) (c0_i32_116 : BitVec 32) : Fin 1 → Nat :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c8_i32_20 : BitVec 32 := 8#32
  let v39 : BitVec 32 := Scalar.subi v15 c8_i32_20
  let c4_i32 : BitVec 32 := 4#32
  let v40 : BitVec 32 := Scalar.muli v39 c4_i32
  let v259 : BitVec 32 := Scalar.addi v40 c0_i32_116
  let v260 : Index := Scalar.indexCast v259
  ![v260.toNat]
def k0_mult12 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_96 : BitVec 32 := 512#32
  let v218 : BitVec 32 := Scalar.muli v15 c512_i32_96
  let c128_i32_121 : BitVec 32 := 128#32
  let v270 : BitVec 32 := Scalar.addi v218 c128_i32_121
  v270
def k0_mult13 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_96 : BitVec 32 := 512#32
  let v218 : BitVec 32 := Scalar.muli v15 c512_i32_96
  let c256_i32_145 : BitVec 32 := 256#32
  let v321 : BitVec 32 := Scalar.addi v218 c256_i32_145
  v321
def k0_mult14 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_96 : BitVec 32 := 512#32
  let v218 : BitVec 32 := Scalar.muli v15 c512_i32_96
  let c384_i32_168 : BitVec 32 := 384#32
  let v372 : BitVec 32 := Scalar.addi v218 c384_i32_168
  v372
def k0_cond7 (i : grid0.Coords) : BitVec 1 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c10_i32_13 : BitVec 32 := 10#32
  let v26 : BitVec 1 := Scalar.cmpi .sge v15 c10_i32_13
  let v27 : BitVec 32 := Scalar.extui v26
  let c0_i32_14 : BitVec 32 := 0#32
  let v28 : BitVec 1 := Scalar.cmpi .ne v27 c0_i32_14
  v28

def k0_mult15 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v42 : BitVec 32 := Scalar.muli v15 c512_i32
  let c0_i32_21 : BitVec 32 := 0#32
  let v43 : BitVec 32 := Scalar.addi v42 c0_i32_21
  v43
def k0_off8 (i : grid0.Coords) (c0_i32_21 : BitVec 32) : Fin 2 → Nat :=
  let c0_25 : Index := 0#32
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v42 : BitVec 32 := Scalar.muli v15 c512_i32
  let v43 : BitVec 32 := Scalar.addi v42 c0_i32_21
  let v44 : BitVec 32 := v43
  let v50 : Index := Scalar.indexCast v44
  ![0, v50.toNat]
def k0_mult16 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v42 : BitVec 32 := Scalar.muli v15 c512_i32
  let c128_i32 : BitVec 32 := 128#32
  let v57 : BitVec 32 := Scalar.addi v42 c128_i32
  v57
def k0_mult17 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v42 : BitVec 32 := Scalar.muli v15 c512_i32
  let c256_i32 : BitVec 32 := 256#32
  let v71 : BitVec 32 := Scalar.addi v42 c256_i32
  v71
def k0_mult18 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32 : BitVec 32 := 512#32
  let v42 : BitVec 32 := Scalar.muli v15 c512_i32
  let c384_i32 : BitVec 32 := 384#32
  let v85 : BitVec 32 := Scalar.addi v42 c384_i32
  v85
def k0_mult19 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_46 : BitVec 32 := 512#32
  let v99 : BitVec 32 := Scalar.muli v15 c512_i32_46
  let c0_i32_47 : BitVec 32 := 0#32
  let v100 : BitVec 32 := Scalar.addi v99 c0_i32_47
  v100
def k0_off9 (i : grid0.Coords) (c0_i32_53 : BitVec 32) : Fin 1 → Nat :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c8_i32_20 : BitVec 32 := 8#32
  let v39 : BitVec 32 := Scalar.subi v15 c8_i32_20
  let c2_i32 : BitVec 32 := 2#32
  let v40 : BitVec 32 := Scalar.subi v39 c2_i32
  let c4_i32 : BitVec 32 := 4#32
  let v41 : BitVec 32 := Scalar.muli v40 c4_i32
  let v112 : BitVec 32 := Scalar.addi v41 c0_i32_53
  let v113 : Index := Scalar.indexCast v112
  ![v113.toNat]
def k0_mult20 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_46 : BitVec 32 := 512#32
  let v99 : BitVec 32 := Scalar.muli v15 c512_i32_46
  let c128_i32_57 : BitVec 32 := 128#32
  let v123 : BitVec 32 := Scalar.addi v99 c128_i32_57
  v123
def k0_mult21 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_46 : BitVec 32 := 512#32
  let v99 : BitVec 32 := Scalar.muli v15 c512_i32_46
  let c256_i32_68 : BitVec 32 := 256#32
  let v146 : BitVec 32 := Scalar.addi v99 c256_i32_68
  v146
def k0_mult22 (i : grid0.Coords) : BitVec 32 :=
  let arg0 : BitVec 32 := BitVec.ofNat 32 (i 0).val
  let c10_i32_3 : BitVec 32 := 10#32
  let v9 : BitVec 32 := Scalar.subi arg0 c10_i32_3
  let c1_i32 : BitVec 32 := 1#32
  let v15 : BitVec 32 := Scalar.subi v9 c1_i32
  let c512_i32_46 : BitVec 32 := 512#32
  let v99 : BitVec 32 := Scalar.muli v15 c512_i32_46
  let c384_i32_79 : BitVec 32 := 384#32
  let v169 : BitVec 32 := Scalar.addi v99 c384_i32_79
  v169
def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c9_i32 : BitVec 32 := 9#32
  let v1 : BitVec 32 := Scalar.maxsi c0_i32_0 v0
  let v2 : BitVec 32 := Scalar.minsi c9_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c9_i32 : BitVec 32 := 9#32
  let v1 : BitVec 32 := Scalar.maxsi c0_i32_0 v0
  let v2 : BitVec 32 := Scalar.minsi c9_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_17 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c19_i32 : BitVec 32 := 19#32
  let v0 : BitVec 32 := Scalar.subi arg0 c19_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_21 (i : grid0.Coords) : Fin 2 → Nat :=
  let arg0 : BitVec 32 := BitVec.ofNat 32 (i 0).val
  let c21_i32 : BitVec 32 := 21#32
  let v0 : BitVec 32 := Scalar.subi arg0 c21_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_25 (i : grid0.Coords) : Fin 2 → Nat :=
  let arg0 : BitVec 32 := BitVec.ofNat 32 (i 0).val
  let c19_i32 : BitVec 32 := 19#32
  let v0 : BitVec 32 := Scalar.subi arg0 c19_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_26 (i : grid0.Coords) : Fin 2 → Nat :=
  let arg0 : BitVec 32 := BitVec.ofNat 32 (i 0).val
  let c21_i32 : BitVec 32 := 21#32
  let v0 : BitVec 32 := Scalar.subi arg0 c21_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

abbrev stage0_0 : Fin 2 → Memref sig .tc .vmem S768x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2560x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S96x2560 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S96x2560 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S768x2560 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S768x512 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S768x512 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S768x2560 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S768x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S768x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S768x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S768x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ProjReferenceIdeal.lean ====
abbrev S768x12800 : Shape := ⟨2, ![768, 12800]⟩
abbrev S6400x2560 : Shape := ⟨2, ![6400, 2560]⟩
abbrev S2560 : Shape := ⟨1, ![2560]⟩
abbrev S48x16x2560 : Shape := ⟨3, ![48, 16, 2560]⟩
abbrev S2560x6144 : Shape := ⟨2, ![2560, 6144]⟩
abbrev S6144 : Shape := ⟨1, ![6144]⟩
abbrev S128 : Shape := ⟨1, ![128]⟩
abbrev S768x128 : Shape := ⟨2, ![768, 128]⟩
abbrev S48x16x128 : Shape := ⟨3, ![48, 16, 128]⟩
abbrev S8 : Shape := ⟨1, ![8]⟩
abbrev S1x2560 : Shape := ⟨2, ![1, 2560]⟩
abbrev S768x2560 : Shape := ⟨2, ![768, 2560]⟩
abbrev S1x6144 : Shape := ⟨2, ![1, 6144]⟩
abbrev S1x128 : Shape := ⟨2, ![1, 128]⟩
abbrev S1x8x1 : Shape := ⟨3, ![1, 8, 1]⟩
abbrev S768x1 : Shape := ⟨2, ![768, 1]⟩
abbrev S768x1024 : Shape := ⟨2, ![768, 1024]⟩
abbrev S768x4096 : Shape := ⟨2, ![768, 4096]⟩
abbrev S768x6400x2 : Shape := ⟨3, ![768, 6400, 2]⟩
abbrev S768x6400x1 : Shape := ⟨3, ![768, 6400, 1]⟩
abbrev S768x6400 : Shape := ⟨2, ![768, 6400]⟩
abbrev S768 : Shape := ⟨1, ![768]⟩
abbrev S768x1x128 : Shape := ⟨3, ![768, 1, 128]⟩
abbrev S1x1x128 : Shape := ⟨3, ![1, 1, 128]⟩
abbrev S2560x2048 : Shape := ⟨2, ![2560, 2048]⟩
abbrev S1x2048 : Shape := ⟨2, ![1, 2048]⟩
abbrev S768x2048 : Shape := ⟨2, ![768, 2048]⟩
abbrev S768x8x128 : Shape := ⟨3, ![768, 8, 128]⟩
abbrev S768x8 : Shape := ⟨2, ![768, 8]⟩
abbrev S768x8x1 : Shape := ⟨3, ![768, 8, 1]⟩
abbrev S768x8x64 : Shape := ⟨3, ![768, 8, 64]⟩
abbrev S768x6144 : Shape := ⟨2, ![768, 6144]⟩
abbrev S768x32x128 : Shape := ⟨3, ![768, 32, 128]⟩
abbrev S768x32 : Shape := ⟨2, ![768, 32]⟩
abbrev S768x32x1 : Shape := ⟨3, ![768, 32, 1]⟩
abbrev S768x32x64 : Shape := ⟨3, ![768, 32, 64]⟩

abbrev nBuf : Space → Nat
  | .hbm => 38
  | .vmem => 27
  | .smem => 0
  | _ => 0

abbrev bufTy : (tb : Table) → Fin (tcTables nBuf tb) → BufTy
  | .hbm, ⟨0, _⟩ => ⟨S768x12800, .bf16⟩
  | .hbm, ⟨1, _⟩ => ⟨S6400x2560, .i8⟩
  | .hbm, ⟨2, _⟩ => ⟨S2560, .f32⟩
  | .hbm, ⟨3, _⟩ => ⟨S2560, .f32⟩
  | .hbm, ⟨4, _⟩ => ⟨S48x16x2560, .bf16⟩
  | .hbm, ⟨5, _⟩ => ⟨S2560, .f32⟩
  | .hbm, ⟨6, _⟩ => ⟨S2560x6144, .fp8e4m3⟩
  | .hbm, ⟨7, _⟩ => ⟨S6144, .f32⟩
  | .hbm, ⟨8, _⟩ => ⟨S128, .f32⟩
  | .hbm, ⟨9, _⟩ => ⟨S128, .f32⟩
  | .hbm, ⟨10, _⟩ => ⟨S768x128, .f32⟩
  | .hbm, ⟨11, _⟩ => ⟨S768x128, .f32⟩
  | .hbm, ⟨12, _⟩ => ⟨S48x16x128, .f32⟩
  | .hbm, ⟨13, _⟩ => ⟨S48x16x128, .f32⟩
  | .hbm, ⟨14, _⟩ => ⟨S8, .f32⟩
  | .hbm, ⟨15, _⟩ => ⟨S8, .f32⟩
  | .hbm, ⟨16, _⟩ => ⟨S1x2560, .f32⟩
  | .hbm, ⟨17, _⟩ => ⟨S1x2560, .f32⟩
  | .hbm, ⟨18, _⟩ => ⟨S768x2560, .bf16⟩
  | .hbm, ⟨19, _⟩ => ⟨S1x2560, .f32⟩
  | .hbm, ⟨20, _⟩ => ⟨S1x6144, .f32⟩
  | .hbm, ⟨21, _⟩ => ⟨S1x128, .f32⟩
  | .hbm, ⟨22, _⟩ => ⟨S1x128, .f32⟩
  | .hbm, ⟨23, _⟩ => ⟨S768x128, .f32⟩
  | .hbm, ⟨24, _⟩ => ⟨S768x128, .f32⟩
  | .hbm, ⟨25, _⟩ => ⟨S1x8x1, .f32⟩
  | .hbm, ⟨26, _⟩ => ⟨S1x8x1, .f32⟩
  | .hbm, ⟨27, _⟩ => ⟨S768x2560, .bf16⟩
  | .hbm, ⟨28, _⟩ => ⟨S768x2560, .bf16⟩
  | .hbm, ⟨29, _⟩ => ⟨S768x2560, .fp8e4m3⟩
  | .hbm, ⟨30, _⟩ => ⟨S768x1, .f32⟩
  | .hbm, ⟨31, _⟩ => ⟨S768x1024, .fp8e4m3⟩
  | .hbm, ⟨32, _⟩ => ⟨S768x1024, .fp8e4m3⟩
  | .hbm, ⟨33, _⟩ => ⟨S768x2560, .fp8e4m3⟩
  | .hbm, ⟨34, _⟩ => ⟨S768x1, .f32⟩
  | .hbm, ⟨35, _⟩ => ⟨S768x4096, .bf16⟩
  | .hbm, ⟨36, _⟩ => ⟨S768x1024, .bf16⟩
  | .hbm, ⟨37, _⟩ => ⟨S768x1024, .bf16⟩
  | .local _ .vmem, ⟨0, _⟩ => ⟨S768x12800, .bf16⟩
  | .local _ .vmem, ⟨1, _⟩ => ⟨S6400x2560, .i8⟩
  | .local _ .vmem, ⟨2, _⟩ => ⟨S1x2560, .f32⟩
  | .local _ .vmem, ⟨3, _⟩ => ⟨S1x2560, .f32⟩
  | .local _ .vmem, ⟨4, _⟩ => ⟨S768x2560, .bf16⟩
  | .local _ .vmem, ⟨5, _⟩ => ⟨S1x2560, .f32⟩
  | .local _ .vmem, ⟨6, _⟩ => ⟨S2560x6144, .fp8e4m3⟩
  | .local _ .vmem, ⟨7, _⟩ => ⟨S1x6144, .f32⟩
  | .local _ .vmem, ⟨8, _⟩ => ⟨S1x128, .f32⟩
  | .local _ .vmem, ⟨9, _⟩ => ⟨S1x128, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S1x8x1, .f32⟩
  | .local _ .vmem, ⟨15, _⟩ => ⟨S1x8x1, .f32⟩
  | .local _ .vmem, ⟨16, _⟩ => ⟨S768x2560, .bf16⟩
  | .local _ .vmem, ⟨17, _⟩ => ⟨S768x2560, .bf16⟩
  | .local _ .vmem, ⟨18, _⟩ => ⟨S768x2560, .fp8e4m3⟩
  | .local _ .vmem, ⟨19, _⟩ => ⟨S768x1, .f32⟩
  | .local _ .vmem, ⟨20, _⟩ => ⟨S768x1024, .fp8e4m3⟩
  | .local _ .vmem, ⟨21, _⟩ => ⟨S768x1024, .fp8e4m3⟩
  | .local _ .vmem, ⟨22, _⟩ => ⟨S768x2560, .fp8e4m3⟩
  | .local _ .vmem, ⟨23, _⟩ => ⟨S768x1, .f32⟩
  | .local _ .vmem, ⟨24, _⟩ => ⟨S768x4096, .bf16⟩
  | .local _ .vmem, ⟨25, _⟩ => ⟨S768x1024, .bf16⟩
  | .local _ .vmem, ⟨26, _⟩ => ⟨S768x1024, .bf16⟩
  | _, _ => ⟨S768x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v11_5 : Ref sig .tc := ⟨.hbm, 32, rfl⟩
abbrev main_v11_6 : Ref sig .tc := ⟨.hbm, 33, rfl⟩
abbrev main_v11_7 : Ref sig .tc := ⟨.hbm, 34, rfl⟩
abbrev main_v11_8 : Ref sig .tc := ⟨.hbm, 35, rfl⟩
abbrev main_v11_9 : Ref sig .tc := ⟨.hbm, 36, rfl⟩
abbrev main_v11_10 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S768x12800 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x6144 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S768x2560 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S768x2560 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S768x2560 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S768x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S768x1024 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S768x1024 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S768x2560 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S768x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S768x4096 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S768x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S768x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Proof.Loads.lean ====
/- LOADS AND STORES OF A WHOLE RANK-TWO BUFFER, with the extents written out as a literal pair, so that they rewrite as printed. -/
module

public import Idealize.ShloMosaic.Lib.VecWindow
public import Idealize.ShloMosaic.Lib.Pipeline.Frame

@[expose] public section

noncomputable section

namespace Cert.Loads

open Idealize.ShloMosaic

variable {sig : RefSig} {κ : Kind} {sp : Space} {e : EltTy} {Val : EltTy → Type} [∀ e, Nonempty (Val e)] {n0 n1 : ℕ}

/-- A load of all of a buffer held at the contents that read `X` reads `X`. -/
theorem load_unread (m : Memref sig κ sp ⟨2, ![n0, n1]⟩ e) (h : m.IsWhole) (X : (⟨2, ![n0, n1]⟩ : Shape).Idx → Val e)
    (inb : ∀ a, (![0, 0] : Fin 2 → ℕ) a + (![n0, n1] : Fin 2 → ℕ) a ≤ (⟨2, ![n0, n1]⟩ : Shape).size a) :
    View.readAt Val m.view (Rect.unit (s := ⟨2, ![n0, n1]⟩) ![0, 0] ![n0, n1] inb).toLoadRect (h.unread X) = X :=
  (View.readAt_full m.view (h.unread X) (off := ![0, 0]) inb).trans (h.read_unread X)

/-- After a store of all of a buffer it reads the payload. -/
theorem read_stored (v : View sig κ sp ⟨2, ![n0, n1]⟩ e) (f : v.ty.Contents Val) (X : (⟨2, ![n0, n1]⟩ : Shape).Idx → Val e)
    (inb : ∀ a, (![0, 0] : Fin 2 → ℕ) a + (![n0, n1] : Fin 2 → ℕ) a ≤ (⟨2, ![n0, n1]⟩ : Shape).size a) (L : List (View.Piece Val ⟨2, ![n0, n1]⟩ e)) :
    v.read Val (v.writes Val f (⟨Rect.unit (s := ⟨2, ![n0, n1]⟩) ![0, 0] ![n0, n1] inb, X⟩ :: L)) = X :=
  View.read_writes_full v f (off := ![0, 0]) inb X L

/-- A load of all of a buffer after a store of all of it reads the payload. -/
theorem load_stored (v : View sig κ sp ⟨2, ![n0, n1]⟩ e) (X : (⟨2, ![n0, n1]⟩ : Shape).Idx → Val e)
    (inb inb' : ∀ a, (![0, 0] : Fin 2 → ℕ) a + (![n0, n1] : Fin 2 → ℕ) a ≤ (⟨2, ![n0, n1]⟩ : Shape).size a) (L : List (View.Piece Val ⟨2, ![n0, n1]⟩ e)) :
    v.readCov (⟨Rect.unit (s := ⟨2, ![n0, n1]⟩) ![0, 0] ![n0, n1] inb', X⟩ :: L) (Rect.unit (s := ⟨2, ![n0, n1]⟩) ![0, 0] ![n0, n1] inb).toLoadRect = X :=
  View.readCov_full v (off := ![0, 0]) (off' := ![0, 0]) inb inb' X L

end Cert.Loads

end
-- ==== Proof.MlpIdeal.Body.lean ====
/- THE BODY, CASE BY CASE. What one run of the kernel body does to the buffers it is handed, at the four kinds of grid point:
   a column tile of the attention output's product (points 0..4), the norm and the first feed-forward tile (point 5), a
   feed-forward tile beside the fold of the one before (points 6..23), the last fold and the result (point 24). Each triple
   names what is in every scratch afterwards from what was in it before. -/
module

public import proofs.«01_k».proof.Proof.Gen.MlpIdeal.Frame
public import proofs.«01_k».proof.Proof.Gen.MlpIdeal.Skeleton
public import proofs.«01_k».proof.Proof.Loads

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the points -/

/-- The body's five branch conditions. -/
abbrev cond0_1 (i : grid0.Coords) : Prop := k0_cond1 i = 1#1
abbrev cond0_2 (i : grid0.Coords) : Prop := (Scalar.cmpi .ne (Scalar.extui (Scalar.cmpi .eq (Scalar.subi (BitVec.ofNat 32 (i 0).val) 5#32) 0#32)) 0#32) = 1#1
abbrev cond0_3 (i : grid0.Coords) : Prop := (Scalar.cmpi .ne (Scalar.extui (Scalar.cmpi .sge (Scalar.subi (BitVec.ofNat 32 (i 0).val) 5#32) 1#32)) 0#32) = 1#1
abbrev cond0_4 (i : grid0.Coords) : Prop := (Scalar.cmpi .ne (Scalar.extui (Scalar.andi (Scalar.cmpi .sge (Scalar.subi (BitVec.ofNat 32 (i 0).val) 5#32) 0#32) (Scalar.cmpi .slt (Scalar.subi (BitVec.ofNat 32 (i 0).val) 5#32) 19#32))) 0#32) = 1#1
abbrev cond0_5 (i : grid0.Coords) : Prop := k0_cond5 i = 1#1

theorem hcond0_1 : ∀ t : Fin cfg0.N, cond0_1 (grid0.coords t) ↔ t.val < 5 :=
  (by decide +kernel : ∀ t : Fin grid0.N, cond0_1 (grid0.coords t) ↔ t.val < 5)
theorem hcond0_2 : ∀ t : Fin cfg0.N, cond0_2 (grid0.coords t) ↔ t.val = 5 :=
  (by decide +kernel : ∀ t : Fin grid0.N, cond0_2 (grid0.coords t) ↔ t.val = 5)
theorem hcond0_3 : ∀ t : Fin cfg0.N, cond0_3 (grid0.coords t) ↔ 6 ≤ t.val :=
  (by decide +kernel : ∀ t : Fin grid0.N, cond0_3 (grid0.coords t) ↔ 6 ≤ t.val)
theorem hcond0_4 : ∀ t : Fin cfg0.N, cond0_4 (grid0.coords t) ↔ (5 ≤ t.val ∧ t.val ≤ 23) :=
  (by decide +kernel : ∀ t : Fin grid0.N, cond0_4 (grid0.coords t) ↔ (5 ≤ t.val ∧ t.val ≤ 23))
theorem hcond0_5 : ∀ t : Fin cfg0.N, cond0_5 (grid0.coords t) ↔ t.val = 24 :=
  (by decide +kernel : ∀ t : Fin grid0.N, cond0_5 (grid0.coords t) ↔ t.val = 24)

/-- The columns stored at point `t < 5` begin at `512 t`. -/
theorem off1_val : ∀ t : Fin cfg0.N, t.val < 5 → k0_off1 (grid0.coords t) = ![0, 512 * t.val] :=
  (by decide +kernel : ∀ t : Fin grid0.N, t.val < 5 → k0_off1 (grid0.coords t) = ![0, 512 * t.val])

/-! ## The triples -/

variable (c : Dev nD) (i : grid0.Coords)
  (arg1 : Memref sig .tc .vmem S768x4096 .fp8e4m3) (harg1 : arg1.IsWhole)
  (arg2 : Memref sig .tc .vmem S768x1 .f32) (harg2 : arg2.IsWhole)
  (arg3 : Memref sig .tc .vmem S4096x512 .fp8e4m3) (harg3 : arg3.IsWhole)
  (arg4 : Memref sig .tc .vmem S1x512 .f32) (harg4 : arg4.IsWhole)
  (arg5 : Memref sig .tc .vmem S768x512 .bf16) (harg5 : arg5.IsWhole)
  (arg6 : Memref sig .tc .vmem S1x2560 .f32) (harg6 : arg6.IsWhole)
  (arg7 : Memref sig .tc .vmem S1280x512 .i8) (harg7 : arg7.IsWhole)
  (arg8 : Memref sig .tc .vmem S1280x512 .i8) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S256x2560 .i8) (harg11 : arg11.IsWhole)
  (arg12 : Memref sig .tc .vmem S1x2560 .f32) (harg12 : arg12.IsWhole)
  (arg13 : Memref sig .tc .vmem S768x2560 .bf16) (harg13 : arg13.IsWhole)
  (arg14 : Memref sig .tc .vmem S768x2560 .f32) (harg14 : arg14.IsWhole)
  (arg15 : Memref sig .tc .vmem S768x2560 .bf16) (harg15 : arg15.IsWhole)
  (arg16 : Memref sig .tc .vmem S768x512 .bf16) (harg16 : arg16.IsWhole)
  (arg17 : Memref sig .tc .vmem S768x2560 .f32) (harg17 : arg17.IsWhole)
  (x0 : Vec F S768x4096 .fp8e4m3) (x1 : Vec F S768x1 .f32) (x2 : Vec F S4096x512 .fp8e4m3) (x3 : Vec F S1x512 .f32) (x4 : Vec F S768x512 .bf16) (x5 : Vec F S1x2560 .f32) (x6 : Vec F S1280x512 .i8) (x7 : Vec F S1280x512 .i8) (x8 : Vec F S1x512 .f32) (x9 : Vec F S1x512 .f32) (x10 : Vec F S256x2560 .i8) (x11 : Vec F S1x2560 .f32) (y : Vec F S768x2560 .bf16) (s0 : Vec F S768x2560 .f32) (s1 : Vec F S768x2560 .bf16) (s2 : Vec F S768x512 .bf16) (s3 : Vec F S768x2560 .f32)

/-- The buffers the body is handed, each held whole at the contents given: the twelve inputs, the result, the four scratches. -/
def held : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare y ∗ owns (c : Thread nD τ) arg14 fullShare s0 ∗ owns (c : Thread nD τ) arg15 fullShare s1
    ∗ owns (c : Thread nD τ) arg16 fullShare s2 ∗ owns (c : Thread nD τ) arg17 fullShare s3)

set_option maxHeartbeats 3200000 in
/-- Points 0..4: one tile of 512 columns of the residual after the attention output's product. -/
theorem body_A (hc1 : cond0_1 i) (hc2 : ¬cond0_2 i) (hc3 : ¬cond0_3 i) (hc4 : ¬cond0_4 i) (hc5 : ¬cond0_5 i) (E : Set ℕ) :
    (held c arg1 arg2 arg3 arg4 arg5 arg6 arg7 arg8 arg9 arg10 arg11 arg12 arg13 arg14 arg15 arg16 arg17 x0 x1 x2 x3 x4 x5 x6 x7 x8 x9 x10 x11 y s0 s1 s2 s3 : sProp 𝕄)
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => held c arg1 arg2 arg3 arg4 arg5 arg6 arg7 arg8 arg9 arg10 arg11 arg12 arg13 arg14 arg15 arg16 arg17 x0 x1 x2 x3 x4 x5 x6 x7 x8 x9 x10 x11 y (VecWindow.put s0 (k0_off1 i) S768x512.size (k0_pay1 x0 x2 x1 x3 x4)) s1 s2 s3) := by
  simp only [cc0_mlp_eq_skeleton]; unfold cc0_mlp_skel
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc1 | sl_exact hc2 | sl_exact hc3 | sl_exact hc4 | sl_exact hc5)
  sl_step
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; rw [View.read_writes_cons_put _ _ _ _ _ rfl]; simp only [View.writes_nil, Cert.Loads.load_unread, Memref.IsWhole.read_unread]
  isplitl [H15]
  · iexists _; isplitr; swap; · iexact H15
    ipureintro; exact harg15.read_unread _
  isplitl [H16]
  · iexists _; isplitr; swap; · iexact H16
    ipureintro; exact harg16.read_unread _
  iexists _; isplitr; swap; · iexact H17
  ipureintro; exact harg17.read_unread _

set_option maxHeartbeats 3200000 in
/-- Point 5: the norm of the residual, the accumulator at zero, the first feed-forward tile. -/
theorem body_B (hc1 : ¬cond0_1 i) (hc2 : cond0_2 i) (hc3 : ¬cond0_3 i) (hc4 : cond0_4 i) (hc5 : ¬cond0_5 i) (E : Set ℕ) :
    (held c arg1 arg2 arg3 arg4 arg5 arg6 arg7 arg8 arg9 arg10 arg11 arg12 arg13 arg14 arg15 arg16 arg17 x0 x1 x2 x3 x4 x5 x6 x7 x8 x9 x10 x11 y s0 s1 s2 s3 : sProp 𝕄)
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => held c arg1 arg2 arg3 arg4 arg5 arg6 arg7 arg8 arg9 arg10 arg11 arg12 arg13 arg14 arg15 arg16 arg17 x0 x1 x2 x3 x4 x5 x6 x7 x8 x9 x10 x11 y s0 (k0_pay2 s0 x5) (k0_pay5 (k0_pay7 (k0_pay2 s0 x5) x6 x8 (k0_pay2 s0 x5) x7 x9)) (k0_pay3 (F := F))) := by
  simp only [cc0_mlp_eq_skeleton]; unfold cc0_mlp_skel
  simp only [k0_part1_eq_skeleton]; unfold k0_part1_skel
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc1 | sl_exact hc2 | sl_exact hc3 | sl_exact hc4 | sl_exact hc5)
  sl_step
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; delta body_B.sl.H15_1; simp only [Cert.Loads.load_unread, Cert.Loads.read_stored, Cert.Loads.load_stored]
  isplitl [H16]
  · iexists _; isplitr; swap; · iexact H16
    ipureintro; delta body_B.sl.v18 body_B.sl.H15_1; simp only [Cert.Loads.load_unread, Cert.Loads.read_stored, Cert.Loads.load_stored]
  iexists _; isplitr; swap; · iexact H17
  ipureintro; simp only [Cert.Loads.load_unread, Cert.Loads.read_stored, Cert.Loads.load_stored]

set_option maxHeartbeats 3200000 in
/-- Points 6..23: the feed-forward tile of the point before folded into the accumulator, then the next tile. -/
theorem body_C (hc1 : ¬cond0_1 i) (hc2 : ¬cond0_2 i) (hc3 : cond0_3 i) (hc4 : cond0_4 i) (hc5 : ¬cond0_5 i) (E : Set ℕ) :
    (held c arg1 arg2 arg3 arg4 arg5 arg6 arg7 arg8 arg9 arg10 arg11 arg12 arg13 arg14 arg15 arg16 arg17 x0 x1 x2 x3 x4 x5 x6 x7 x8 x9 x10 x11 y s0 s1 s2 s3 : sProp 𝕄)
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => held c arg1 arg2 arg3 arg4 arg5 arg6 arg7 arg8 arg9 arg10 arg11 arg12 arg13 arg14 arg15 arg16 arg17 x0 x1 x2 x3 x4 x5 x6 x7 x8 x9 x10 x11 y s0 s1 (k0_pay5 (k0_pay7 s1 x6 x8 s1 x7 x9)) (k0_pay4 s3 s2 x10)) := by
  simp only [cc0_mlp_eq_skeleton]; unfold cc0_mlp_skel
  simp only [k0_part1_eq_skeleton]; unfold k0_part1_skel
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc1 | sl_exact hc2 | sl_exact hc3 | sl_exact hc4 | sl_exact hc5)
  sl_step
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; simp only [Cert.Loads.load_unread, Cert.Loads.read_stored, Cert.Loads.load_stored]
  iexists _; isplitr; swap; · iexact H17
  ipureintro; simp only [Cert.Loads.load_unread, Cert.Loads.read_stored, Cert.Loads.load_stored]

set_option maxHeartbeats 3200000 in
/-- Point 24: the last fold, then the result. -/
theorem body_D (hc1 : ¬cond0_1 i) (hc2 : ¬cond0_2 i) (hc3 : cond0_3 i) (hc4 : ¬cond0_4 i) (hc5 : cond0_5 i) (E : Set ℕ) :
    (held c arg1 arg2 arg3 arg4 arg5 arg6 arg7 arg8 arg9 arg10 arg11 arg12 arg13 arg14 arg15 arg16 arg17 x0 x1 x2 x3 x4 x5 x6 x7 x8 x9 x10 x11 y s0 s1 s2 s3 : sProp 𝕄)
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => held c arg1 arg2 arg3 arg4 arg5 arg6 arg7 arg8 arg9 arg10 arg11 arg12 arg13 arg14 arg15 arg16 arg17 x0 x1 x2 x3 x4 x5 x6 x7 x8 x9 x10 x11 (k0_pay6 s0 (k0_pay4 s3 s2 x10) x11) s0 s1 s2 (k0_pay4 s3 s2 x10)) := by
  simp only [cc0_mlp_eq_skeleton]; unfold cc0_mlp_skel
  unfold held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc1 | sl_exact hc2 | sl_exact hc3 | sl_exact hc4 | sl_exact hc5)
  sl_step
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; delta body_D.sl.v19 body_D.sl.H17_1; simp only [Cert.Loads.load_unread, Cert.Loads.read_stored, Cert.Loads.load_stored]
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  iexists _; isplitr; swap; · iexact H17
  ipureintro; delta body_D.sl.H17_1; simp only [Cert.Loads.load_unread, Cert.Loads.read_stored, Cert.Loads.load_stored]

end Cert.MlpIdeal.Gen

end
-- ==== Proof.MlpIdeal.Run.lean ====
/- THE RUN. What the scratches hold between the grid's points (`Inv`: the columns of the residual done so far, then the normed
   row, the feed-forward tile of the point before and the accumulator), that the body carries it from each point to the next,
   and the launch: every execution of @main ends, with the result's array at what the last point stored. -/
module

public import proofs.«01_k».proof.Proof.MlpIdeal.Body
public import Idealize.ShloMosaic.Lib.ValueIdxCore
public import Idealize.ShloMosaic.Lib.Claim

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the points leave -/

/-- The grid's point number `n`. -/
def pt (n : ℕ) : Fin cfg0.N := ⟨n % 25, lt_of_lt_of_eq (Nat.mod_lt n (by decide)) (show 25 = cfg0.N from N_0.symm)⟩

theorem pt_val (t : Fin cfg0.N) : pt t.val = t :=
  Fin.ext (Nat.mod_eq_of_lt (lt_of_lt_of_eq t.isLt (show cfg0.N = 25 from N_0)))

/-- The residual after the attention output's product, tile of columns by tile of columns. -/
def H1v (c : Dev nD) : Vec F S768x2560 .f32 := fun j =>
  k0_pay1 (iblk m c 0 (pt ((j 1).val / 512))) (iblk m c 2 (pt ((j 1).val / 512))) (iblk m c 1 (pt ((j 1).val / 512)))
    (iblk m c 3 (pt ((j 1).val / 512))) (iblk m c 4 (pt ((j 1).val / 512))) (ix2 (j 0) ⟨(j 1).val % 512, Nat.mod_lt _ (by decide)⟩)
/-- Its norm. -/
def Hnv (c : Dev nD) : Vec F S768x2560 .bf16 := k0_pay2 (H1v m c) (iblk m c 5 (pt 5))
/-- The feed-forward tile number `n`, made at point `n + 5`. -/
def Actv (c : Dev nD) (n : ℕ) : Vec F S768x512 .bf16 :=
  k0_pay5 (k0_pay7 (Hnv m c) (iblk m c 6 (pt (n + 5))) (iblk m c 8 (pt (n + 5))) (Hnv m c) (iblk m c 7 (pt (n + 5))) (iblk m c 9 (pt (n + 5))))
/-- The accumulator with the first `n` tiles folded in, tile `n` at point `n + 6`. -/
def Accv (c : Dev nD) : ℕ → Vec F S768x2560 .f32
  | 0 => k0_pay3
  | n + 1 => k0_pay4 (Accv c n) (Actv m c n) (iblk m c 10 (pt (n + 6)))
/-- The result. -/
def Yv (c : Dev nD) : Vec F S768x2560 .bf16 := k0_pay6 (H1v m c) (Accv m c 19) (iblk m c 11 (pt 24))

/-- What the four scratches hold before point `n`. -/
def Inv (c : Dev nD) (n : ℕ) (s0 : Vec F S768x2560 .f32) (s1 : Vec F S768x2560 .bf16) (s2 : Vec F S768x512 .bf16) (s3 : Vec F S768x2560 .f32) : Prop :=
  (∀ j, (j 1).val < 512 * n → s0 j = H1v m c j) ∧ (6 ≤ n → n ≤ 24 → s1 = Hnv m c ∧ s2 = Actv m c (n - 6) ∧ s3 = Accv m c (n - 6))

theorem Inv.full {c : Dev nD} {n : ℕ} {s0 s1 s2 s3} (h : Inv m c n s0 s1 s2 s3) (hn : 5 ≤ n) : s0 = H1v m c :=
  funext fun j => h.1 j (by have := (j 1).isLt; have e : S768x2560.size 1 = 2560 := rfl; omega)

/-- A tile of columns stored at point `t < 5`. -/
theorem Inv.tile {c : Dev nD} {t : Fin cfg0.N} (ht : t.val < 5) {s0 s1 s2 s3} (h : Inv m c t.val s0 s1 s2 s3) :
    Inv m c (t.val + 1) (VecWindow.put s0 (k0_off1 (grid0.coords t)) S768x512.size
      (k0_pay1 (iblk m c 0 t) (iblk m c 2 t) (iblk m c 1 t) (iblk m c 3 t) (iblk m c 4 t))) s1 s2 s3 := by
  refine ⟨fun j hj => ?_, fun h6 _ => by omega⟩
  rw [off1_val t ht]
  have hj0 : (j 0).val < 768 := (j 0).isLt
  have hj1 : (j 1).val < 2560 := (j 1).isLt
  unfold VecWindow.put
  by_cases hlt : (j 1).val < 512 * t.val
  · rw [dif_neg]
    · exact h.1 j hlt
    · intro hall
      have := (hall 1).1
      simp only [Matrix.cons_val_one, Matrix.cons_val_zero, Matrix.cons_val_fin_one] at this
      omega
  · have e : (j 1).val / 512 = t.val := by omega
    rw [dif_pos]
    · unfold H1v
      rw [e, pt_val]
      refine congrArg _ ?_
      funext a
      fin_cases a
      · exact Fin.ext (show (j 0).val - 0 = (j 0).val by omega)
      · exact Fin.ext (show (j 1).val - 512 * t.val = (j 1).val % 512 by omega)
    · intro a
      fin_cases a
      · exact ⟨Nat.zero_le _, show (j 0).val < 0 + 768 by omega⟩
      · exact ⟨show 512 * t.val ≤ (j 1).val by omega, show (j 1).val < 512 * t.val + 512 by omega⟩

/-! ## The staging memrefs at a point -/

abbrev ms0_0 (t : Fin cfg0.N) : Memref sig .tc .vmem S768x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2560 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2560 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x2560 .bf16 := win0_12.stage (cfg0.slots t 12)
abbrev hs0_12 (t : Fin cfg0.N) : (ms0_12 t).IsWhole := hstage0_12 ((cfg0.slots t 12).cast nbuf0_12)
abbrev scM0_0 : Memref sig .tc .vmem S768x2560 .f32 := Memref.whole cc0_scratch0
abbrev scM0_1 : Memref sig .tc .vmem S768x2560 .bf16 := Memref.whole cc0_scratch1
abbrev scM0_2 : Memref sig .tc .vmem S768x512 .bf16 := Memref.whole cc0_scratch2
abbrev scM0_3 : Memref sig .tc .vmem S768x2560 .f32 := Memref.whole cc0_scratch3

/-- The buffers held at point `t`, the inputs at their blocks. -/
abbrev heldAt (c : Dev nD) (t : Fin cfg0.N) (y : Vec F S768x2560 .bf16) (s0 : Vec F S768x2560 .f32) (s1 : Vec F S768x2560 .bf16) (s2 : Vec F S768x512 .bf16) (s3 : Vec F S768x2560 .f32) : sProp 𝕄 :=
  held c (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y s0 s1 s2 s3

/-- THE STEP. At every point the body takes scratches that meet the invariant to scratches that meet the next point's, keeps the
    result's buffer before the last point and leaves the result there at it. -/
theorem step (c : Dev nD) (t : Fin cfg0.N) (y : Vec F S768x2560 .bf16) {s0 s1 s2 s3} (h : Inv m c t.val s0 s1 s2 s3) :
    ∃ y' s0' s1' s2' s3', Inv m c (t.val + 1) s0' s1' s2' s3' ∧ (t.val ≠ 24 → y' = y) ∧ (t.val = 24 → y' = Yv m c)
      ∧ (heldAt m c t y s0 s1 s2 s3 ⊢ wp frame (wpE (defs₀ (F := F)) Variants.none c none) Set.univ (bodyAt0 t) (fun _ => heldAt m c t y' s0' s1' s2' s3')) := by
  have hN : t.val < 25 := lt_of_lt_of_eq t.isLt (show cfg0.N = 25 from N_0)
  unfold heldAt bodyAt0
  by_cases h1 : t.val < 5
  · exact ⟨_, _, _, _, _, h.tile m h1, fun _ => rfl, fun e => by omega,
      body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y s0 s1 s2 s3
        ((hcond0_1 t).mpr h1) (fun e => by have := (hcond0_2 t).mp e; omega) (fun e => by have := (hcond0_3 t).mp e; omega)
        (fun e => by have := (hcond0_4 t).mp e; omega) (fun e => by have := (hcond0_5 t).mp e; omega) _⟩
  by_cases h2 : t.val = 5
  · have hf := h.full m (by omega)
    refine ⟨_, _, _, _, _, ?_, fun _ => rfl, fun e => by omega,
      body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y s0 s1 s2 s3
        (fun e => h1 ((hcond0_1 t).mp e)) ((hcond0_2 t).mpr h2) (fun e => by have := (hcond0_3 t).mp e; omega)
        ((hcond0_4 t).mpr (by omega)) (fun e => by have := (hcond0_5 t).mp e; omega) _⟩
    refine ⟨fun j _ => congrFun hf j, fun _ _ => ?_⟩
    have et : pt 5 = t := by rw [← h2]; exact pt_val t
    rw [show t.val + 1 - 6 = 0 by omega]
    unfold Actv Hnv Accv
    rw [show (0 + 5) = 5 from rfl, et, hf]
    exact ⟨rfl, rfl, rfl⟩
  have hf := h.full m (by omega)
  obtain ⟨e1, e2, e3⟩ := h.2 (by omega) (by omega)
  have et : pt t.val = t := pt_val t
  have eacc : Accv m c (t.val - 6 + 1) = k0_pay4 s3 s2 (iblk m c 10 t) := by
    show k0_pay4 (Accv m c (t.val - 6)) (Actv m c (t.val - 6)) (iblk m c 10 (pt (t.val - 6 + 6))) = _
    rw [show t.val - 6 + 6 = t.val by omega, et, e2, e3]
  by_cases h5 : t.val = 24
  · refine ⟨_, _, _, _, _, ?_, fun e => absurd h5 e, fun _ => ?_,
      body_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y s0 s1 s2 s3
        (fun e => h1 ((hcond0_1 t).mp e)) (fun e => h2 ((hcond0_2 t).mp e)) ((hcond0_3 t).mpr (by omega))
        (fun e => by have := (hcond0_4 t).mp e; omega) ((hcond0_5 t).mpr h5) _⟩
    · exact ⟨fun j _ => congrFun hf j, fun _ _ => by omega⟩
    · unfold Yv
      rw [← eacc, hf, show t.val - 6 + 1 = 19 by omega, show pt 24 = t by rw [← h5]; exact et]
  · refine ⟨_, _, _, _, _, ?_, fun _ => rfl, fun e => absurd e h5,
      body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y s0 s1 s2 s3
        (fun e => h1 ((hcond0_1 t).mp e)) (fun e => h2 ((hcond0_2 t).mp e)) ((hcond0_3 t).mpr (by omega))
        ((hcond0_4 t).mpr (by omega)) (fun e => by have := (hcond0_5 t).mp e; omega) _⟩
    refine ⟨fun j _ => congrFun hf j, fun _ _ => ⟨e1, ?_, ?_⟩⟩
    · unfold Actv
      rw [show t.val + 1 - 6 + 5 = t.val by omega, et, e1]
    · rw [← eacc, show t.val + 1 - 6 = t.val - 6 + 1 by omega]

/-! ## The pipeline's proof data -/

/-- The invariant before point `n`: the scratches at contents that meet `Inv`, the generator register at some state. -/
def PhiI (c : Dev nD) (n : ℕ) : sProp 𝕄 :=
  iprop((∃ s0 s1 s2 s3, ⌜Inv m c n s0 s1 s2 s3⌝ ∗ owns (c : Thread nD τ) scM0_0 fullShare s0 ∗ owns (c : Thread nD τ) scM0_1 fullShare s1
    ∗ owns (c : Thread nD τ) scM0_2 fullShare s2 ∗ owns (c : Thread nD τ) scM0_3 fullShare s3) ∗ (∃ r, prngReg c r))

/-- The proof data: every input's buffer at its block, the result's at the value of the last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Yv m c
  Φ t := PhiI m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = Yv m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (grid0.coords t) = false from rfl, after0_11]

theorem idleAt0_12 : ∀ t : Fin cfg0.N, t.val ≠ 24 → cfg0.idle 12 (grid0.coords t) = true :=
  (by decide +kernel : ∀ t : Fin grid0.N, t.val ≠ 24 → cfg0.idle 12 (grid0.coords t) = true)
theorem liveAt0_12 : ∀ t : Fin cfg0.N, t.val = 24 → cfg0.idle 12 (grid0.coords t) = false :=
  (by decide +kernel : ∀ t : Fin grid0.N, t.val = 24 → cfg0.idle 12 (grid0.coords t) = false)
theorem noFlush0_12 (t : Fin cfg0.N) (h : t.val ≠ 24) : (cfg0.win 12).flush t = false := by
  have hN : t.val < 25 := lt_of_lt_of_eq t.isLt (show cfg0.N = 25 from N_0)
  exact Bool.eq_false_iff.mpr fun e => by have := (flush0_12 t).mp e; omega

/-- What the body may leave in the result's buffer: before the last point what it found, at the last point the result. -/
theorem leaves0_12 (c : Dev nD) (t : Fin cfg0.N) (d) (y' : Vec F S768x2560 .bf16) (hk : t.val ≠ 24 → y' = (dats m 0 c).before 12 t d)
    (hl : t.val = 24 → y' = Yv m c) : (owns (c : Thread nD τ) (ms0_12 t) fullShare y' : sProp 𝕄) ⊢ (dats m 0 c).leavesExact 12 t := by
  by_cases h : t.val = 24
  · unfold Dat.leavesExact; rw [liveAt0_12 t h, after0_12, hl h]
  · rw [Dat.leavesExact_idle (dats m 0 c) 12 t (idleAt0_12 t h) (noFlush0_12 t h), hk h]
    iintro H; iexists d; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The generator register and what the windows owe, which the body does not touch. -/
abbrev rest (c : Dev nD) (t : Fin cfg0.N) : sProp 𝕄 := iprop((∃ r, prngReg c r) ∗ (dats m 0 c).owesAt () t.castSucc)

/-- What the body returns, from buffers that meet the next point's invariant. -/
theorem post_of (c : Dev nD) (t : Fin cfg0.N) (d) (y' : Vec F S768x2560 .bf16) {s0 s1 s2 s3} (h : Inv m c (t.val + 1) s0 s1 s2 s3)
    (hk : t.val ≠ 24 → y' = (dats m 0 c).before 12 t d) (hl : t.val = 24 → y' = Yv m c) :
    iprop(heldAt m c t y' s0 s1 s2 s3 ∗ rest m c t) ⊢ bodyPost m c t := by
  unfold bodyPost
  simp only [leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = PhiI m c (t.val + 1) from rfl]
  unfold PhiI heldAt held
  iintro ⟨⟨H0, H1, H2, H3, H4, H5, H6, H7, H8, H9, H10, H11, H12, HS0, HS1, HS2, HS3⟩, Hg, Ho⟩
  isplitl [HS0 HS1 HS2 HS3 Hg]
  · isplitl [HS0 HS1 HS2 HS3]
    · iexists s0, s1, s2, s3
      isplitr; · ipureintro; exact h
      isplitl [HS0]; · iexact HS0
      isplitl [HS1]; · iexact HS1
      isplitl [HS2]; · iexact HS2
      iexact HS3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (leaves0_12 m c t d y' hk hl)
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5, before0_6, before0_7, before0_8, before0_9, before0_10, before0_11]
  rw [show (dats m 0 c).Φ t.castSucc = PhiI m c t.val from rfl]
  unfold PhiI
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨y', s0', s1', s2', s3', hI', hk, hl, hw⟩ := step m c t ((dats m 0 c).before 12 t d12) hI
  have hw' : iprop(heldAt m c t ((dats m 0 c).before 12 t d12) s0 s1 s2 s3 ∗ rest m c t)
      ⊢ wp frame (wpE (defs₀ (F := F)) Variants.none c none) Set.univ (bodyAt0 t) (fun _ => bodyPost m c t) :=
    (sep_mono_l hw).trans ((wp_frame_r frame (wpE (defs₀ (F := F)) Variants.none c none) Set.univ).trans
      (wp_mono frame (wpE (defs₀ (F := F)) Variants.none c none) Set.univ fun _ => post_of m c t d12 y' hI' hk hl))
  iapply hw'
  unfold heldAt held
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HS3
  isplitl [Hg]; · iexact Hg
  iexact Ho

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scoped buffers at some contents, as the scratch memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Before the first point nothing is asked of the scratches. -/
theorem hin (c : Dev nD) : Pipeline.ΦA spec0 c ⊢ (dats m 0 c).Φ 0 := by
  rw [show (dats m 0 c).Φ 0 = PhiI m c 0 from rfl, PhiA0_eq]
  unfold PhiI
  iintro ⟨⟨⟨%s0, HS0⟩, ⟨%s1, HS1⟩, ⟨%s2, HS2⟩, ⟨%s3, HS3⟩⟩, Hg⟩
  isplitl [HS0 HS1 HS2 HS3]
  · iexists s0, s1, s2, s3
    isplitr; · ipureintro; exact ⟨fun j hj => by omega, fun h => by omega⟩
    isplitl [HS0]; · iexact HS0
    isplitl [HS1]; · iexact HS1
    isplitl [HS2]; · iexact HS2
    iexact HS3
  iexact Hg

/-- After the last point the scratches are given back. -/
theorem hout (c : Dev nD) : (dats m 0 c).Φ (Fin.last cfg0.N) ⊢ Pipeline.ΦA spec0 c := by
  rw [show (dats m 0 c).Φ (Fin.last cfg0.N) = PhiI m c (Fin.last cfg0.N).val from rfl, PhiA0_eq]
  unfold PhiI
  iintro ⟨⟨%s0, %s1, %s2, %s3, -, HS0, HS1, HS2, HS3⟩, Hg⟩
  isplitl [HS0 HS1 HS2 HS3]
  · isplitl [HS0]; · iexists s0; iexact HS0
    isplitl [HS1]; · iexists s1; iexact HS1
    isplitl [HS2]; · iexists s2; iexact HS2
    iexists s3; iexact HS3
  iexact Hg

/-! ## The launch and the frame -/

set_option backward.isDefEq.respectTransparency.types false in
/-- Every execution of @main ends with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MlpIdeal.Gen

end
-- ==== Proof.Mlp.Frame.lean ====
/- The frame of the printed program at the machine's own numbers. Its text is the idealized program's, in which nothing was
   rewritten, so the theorem proved there for any numbers is this one. -/
module

public import proofs.«01_k».proof.Proof.MlpIdeal.Run
public import proofs.«01_k».proof.Proof.Gen.Mlp.Frame
public import proofs.«01_k».proof.Defs

@[expose] public section

set_option maxRecDepth 16384

namespace Cert.Mlp

open Idealize.ShloMosaic

/-- The two programs' body tables are one table, -/
theorem defs₀_eq : Cert.Mlp.defs₀ (F := Bits) = Cert.MlpIdeal.defs₀ (F := Bits) := by
  unfold Cert.Mlp.defs₀ Cert.MlpIdeal.defs₀
  refine congrArg (Defs.onTc (Λ := Cert.Mlp.Λ₀)) (funext fun l => funext fun a => ?_)
  match l, a with
  | 0, (t, s) => exact rfl
  | ⟨n + 1, h⟩, _ => exact absurd h (Nat.not_lt.2 (Nat.le_add_left _ _))

/-- and so are the pipelines' around them, -/
theorem defs_eq : Cert.Mlp.defs (F := Bits) = Cert.MlpIdeal.defs (F := Bits) := by
  unfold Cert.Mlp.defs Cert.MlpIdeal.defs
  exact congrArg (Pipeline.defs (Cert.Mlp.pcfgs (F := Bits))) defs₀_eq

/-- and @main is the same program. -/
theorem main_eq : Cert.Mlp.main (F := Bits) = Cert.MlpIdeal.main (F := Bits) := rfl

theorem quiescent : Cert.quiescent_Mlp := fun m ρ _ => by
  have h := Cert.MlpIdeal.Gen.frame (F := Bits) m ρ
  rw [← defs_eq, ← main_eq] at h
  exact h

end Cert.Mlp

end
-- ==== Proof.Int4.lean ====
/- PRODUCTS WITH TWO INT4 ROWS IN A BYTE, over the extended reals. A byte of a packed array holds two rows: row `2 r` in the low
   nibble and row `2 r + 1` in the high one. A product with the unpacked matrix, and the sum of two products with the nibbles'
   matrices (the even columns with the low, the odd with the high), are one sum over all the rows. -/
module

public import Idealize.ShloMosaic.Lib.MatmulPlain
public import Idealize.ShloMosaic.Lib.ValueIdx
public import Idealize.ShloMosaic.Lib.Pipeline.Value

@[expose] public section

noncomputable section

namespace Cert.Int4

open Idealize.ShloMosaic Idealize.ShloMosaic.ValueIdx
open scoped BigOperators

abbrev S2 (a b : ℕ) : Shape := ⟨2, ![a, b]⟩
abbrev S3 (a b c : ℕ) : Shape := ⟨3, ![a, b, c]⟩

/-- The low nibble of a byte, sign-extended. -/
def low (b : BitVec 8) : BitVec 8 := IntOp.shrsi .vector (IntOp.shli .vector b 4#8) 4#8
/-- The high nibble of a byte, sign-extended. -/
def high (b : BitVec 8) : BitVec 8 := IntOp.shrsi .vector b 4#8

/-- Row `k` of the unpacked matrix: the low nibble at an even row, the high one at an odd row. -/
def nib {P K C : ℕ} (hK : K = 2 * P) (w : IVec (S2 P C) 8) (k : Fin K) (c : Fin C) : BitVec 8 :=
  if k.val % 2 = 0 then low (w (ix2 ⟨k.val / 2, by have := k.isLt; omega⟩ c)) else high (w (ix2 ⟨k.val / 2, by have := k.isLt; omega⟩ c))

/-- A plain product over a zero accumulator, at an index. -/
theorem product_apply {M K N : ℕ} {φ₁ φ₂ : FTy} (D : DotDims (S2 M K) (S2 K N) (S2 M N)) (hD : D = DotDims.plain M K N)
    (a : FVec Ideal (S2 M K) φ₁) (b : FVec Ideal (S2 K N) φ₂) (r : Fin M) (c : Fin N) :
    matmul D none a b (constant (S2 M N) .f32 0x00000000#32) (ix2 r c) = ∑ k : Fin K, a (ix2 r k) * b (ix2 k c) := by
  subst hD
  refine (Ideal.matmul_plain_apply none a b _ r c).trans ?_
  rw [constant_apply, Ideal.ofBits_zero_f32, zero_add]

theorem sum_range_pairs (F : ℕ → EReal) (P : ℕ) :
    ∑ k ∈ Finset.range (2 * P), F k = (∑ p ∈ Finset.range P, F (2 * p)) + ∑ p ∈ Finset.range P, F (2 * p + 1) := by
  induction P with
  | zero => simp
  | succ P ih =>
    rw [Nat.mul_succ, Finset.sum_range_succ, Finset.sum_range_succ, ih, Finset.sum_range_succ, Finset.sum_range_succ, add_assoc, add_add_add_comm]

/-- A sum over the rows is the sum over the even ones and the sum over the odd ones. -/
theorem sum_pairs {P K : ℕ} (hK : K = 2 * P) (f : Fin K → EReal) :
    ∑ k : Fin K, f k = (∑ p : Fin P, f ⟨2 * p.val, by have := p.isLt; omega⟩) + ∑ p : Fin P, f ⟨2 * p.val + 1, by have := p.isLt; omega⟩ := by
  subst hK
  have h := sum_range_pairs (fun k => if h : k < 2 * P then f ⟨k, h⟩ else 0) P
  rw [Finset.sum_range, Finset.sum_range, Finset.sum_range] at h
  refine Eq.trans (Finset.sum_congr rfl fun k _ => ?_) (h.trans (congrArg₂ (· + ·) (Finset.sum_congr rfl fun p _ => ?_) (Finset.sum_congr rfl fun p _ => ?_)))
  · rw [dif_pos k.isLt]
  · rw [dif_pos (by have := p.isLt; omega)]
  · rw [dif_pos (by have := p.isLt; omega)]

/-- The two nibbles' arrays, stacked row by row and read as one matrix. -/
theorem unpack_apply {P K C : ℕ} (hK : K = 2 * P) (lo hi : IVec (S2 P C) 8) (h1 h2 : (S2 P C).ShapeCasts (S3 P 1 C))
    (h3 : Shape.Concatenates [S3 P 1 C, S3 P 1 C] (S3 P 2 C) 1) (h4 : (S3 P 2 C).ShapeCasts (S2 K C)) (k : Fin K) (c : Fin C) :
    shapeCast (S2 K C) (concatenate (S3 P 2 C) 1 [⟨S3 P 1 C, shapeCast (S3 P 1 C) lo h1⟩, ⟨S3 P 1 C, shapeCast (S3 P 1 C) hi h2⟩] h3) h4 (ix2 k c)
      = if k.val % 2 = 0 then lo (ix2 ⟨k.val / 2, by have := k.isLt; omega⟩ c) else hi (ix2 ⟨k.val / 2, by have := k.isLt; omega⟩ c) := by
  have hk := k.isLt
  have hp : k.val / 2 < P := by omega
  rw [shapeCast_apply _ h4 (ix2 k c) (ix3 ⟨k.val / 2, hp⟩ ⟨k.val % 2, Nat.mod_lt _ (by decide)⟩ c) (by
    rw [Shape.rowMajor_val_two, Shape.rowMajor_val_three]
    show ((k.val / 2) * 2 + k.val % 2) * C + c.val = k.val * C + c.val
    rw [Nat.div_add_mod' k.val 2])]
  split
  · next h =>
    refine (concatenate_pair_apply_left (t := S3 P 2 C) (s₁ := S3 P 1 C) (s₂ := S3 P 1 C) 1 _ _ h3 _ rfl (ix3 ⟨k.val / 2, hp⟩ 0 c)
      (fun b => by fin_cases b <;> first | rfl | exact h.symm)).trans ?_
    exact shapeCast_apply _ h1 _ _ (by
      rw [Shape.rowMajor_val_two, Shape.rowMajor_val_three]
      show (k.val / 2) * C + c.val = ((k.val / 2) * 1 + 0) * C + c.val
      rw [Nat.mul_one, Nat.add_zero])
  · next h =>
    refine (concatenate_pair_apply_right (t := S3 P 2 C) (s₁ := S3 P 1 C) (s₂ := S3 P 1 C) 1 _ _ h3 _ rfl rfl (ix3 ⟨k.val / 2, hp⟩ 0 c)
      (fun b hb => by fin_cases b <;> first | rfl | exact absurd rfl hb) (by show 0 + 1 = k.val % 2; omega)).trans ?_
    exact shapeCast_apply _ h2 _ _ (by
      rw [Shape.rowMajor_val_two, Shape.rowMajor_val_three]
      show (k.val / 2) * C + c.val = ((k.val / 2) * 1 + 0) * C + c.val
      rw [Nat.mul_one, Nat.add_zero])

/-- Every second column of a matrix, from column `e`: the matrix read as pairs, one of each pair taken. -/
theorem column_apply {M K P : ℕ} (hK : K = 2 * P) (e : ℕ) (he : e < 2) {φ : FTy} (v : FVec Ideal (S2 M K) φ) (h1 : (S2 M K).ShapeCasts (S3 M P 2))
    (h2 : (S3 M P 2).Slices ![0, 0, e] (S3 M P 1)) (h3 : (S3 M P 1).ShapeCasts (S2 M P)) (r : Fin M) (p : Fin P) :
    shapeCast (S2 M P) (extractStridedSlice (S3 M P 1) ![0, 0, e] (shapeCast (S3 M P 2) v h1) h2) h3 (ix2 r p)
      = v (ix2 r ⟨2 * p.val + e, by have := p.isLt; omega⟩) := by
  subst hK
  rw [shapeCast_apply _ h3 (ix2 r p) (ix3 r p 0) (by
    rw [Shape.rowMajor_val_two, Shape.rowMajor_val_three]
    show (r.val * P + p.val) * 1 + 0 = r.val * P + p.val
    omega)]
  show shapeCast (S3 M P 2) v h1 _ = _
  refine shapeCast_apply _ h1 _ _ ?_
  rw [Shape.rowMajor_val_two, Shape.rowMajor_val_three]
  show r.val * (2 * P) + (2 * p.val + e) = ((0 + r.val) * P + (0 + p.val)) * 2 + (e + 0)
  ring

/-- THE PRODUCT WITH THE UNPACKED MATRIX. -/
theorem unpacked_apply {M P K C : ℕ} (hK : K = 2 * P) (D : DotDims (S2 M K) (S2 K C) (S2 M C)) (hD : D = DotDims.plain M K C)
    (a : FVec Ideal (S2 M K) .bf16) (w : IVec (S2 P C) 8) (h1 h2 : (S2 P C).ShapeCasts (S3 P 1 C))
    (h3 : Shape.Concatenates [S3 P 1 C, S3 P 1 C] (S3 P 2 C) 1) (h4 : (S3 P 2 C).ShapeCasts (S2 K C)) (r : Fin M) (c : Fin C) :
    matmul D none a (sitofp .bf16 (shapeCast (S2 K C) (concatenate (S3 P 2 C) 1
        [⟨S3 P 1 C, shapeCast (S3 P 1 C) (shrsi (shli w (broadcast (S2 P C) 4#8)) (broadcast (S2 P C) 4#8)) h1⟩,
         ⟨S3 P 1 C, shapeCast (S3 P 1 C) (shrsi w (broadcast (S2 P C) 4#8)) h2⟩] h3) h4)) (constant (S2 M C) .f32 0x00000000#32) (ix2 r c)
      = ∑ k : Fin K, a (ix2 r k) * (FloatOps.sitofp .bf16 (nib hK w k c) : Ideal .bf16) := by
  rw [product_apply D hD]
  refine Finset.sum_congr rfl fun k _ => ?_
  rw [sitofp_apply, unpack_apply hK]
  rfl

/-- THE SUM OF THE TWO NIBBLES' PRODUCTS. -/
theorem split_apply {M P K C : ℕ} (hK : K = 2 * P) (D : DotDims (S2 M P) (S2 P C) (S2 M C)) (hD : D = DotDims.plain M P C)
    (v : FVec Ideal (S2 M K) .bf16) (w : IVec (S2 P C) 8) (h1 : (S2 M K).ShapeCasts (S3 M P 2))
    (h2 : (S3 M P 2).Slices ![0, 0, 0] (S3 M P 1)) (h2' : (S3 M P 2).Slices ![0, 0, 1] (S3 M P 1)) (h3 h3' : (S3 M P 1).ShapeCasts (S2 M P))
    (r : Fin M) (c : Fin C) :
    addf (matmul D none (shapeCast (S2 M P) (extractStridedSlice (S3 M P 1) ![0, 0, 0] (shapeCast (S3 M P 2) v h1) h2) h3)
          (sitofp .bf16 (shrsi (shli w (broadcast (S2 P C) 4#8)) (broadcast (S2 P C) 4#8))) (constant (S2 M C) .f32 0x00000000#32))
        (matmul D none (shapeCast (S2 M P) (extractStridedSlice (S3 M P 1) ![0, 0, 1] (shapeCast (S3 M P 2) v h1) h2') h3')
          (sitofp .bf16 (shrsi w (broadcast (S2 P C) 4#8))) (constant (S2 M C) .f32 0x00000000#32)) (ix2 r c)
      = ∑ k : Fin K, v (ix2 r k) * (FloatOps.sitofp .bf16 (nib hK w k c) : Ideal .bf16) := by
  rw [addf_apply, product_apply D hD, product_apply D hD, sum_pairs hK]
  refine congrArg₂ (· + ·) (Finset.sum_congr rfl fun p _ => ?_) (Finset.sum_congr rfl fun p _ => ?_)
  · rw [column_apply hK 0 (by decide), sitofp_apply]
    unfold nib
    rw [if_pos (show (2 * p.val) % 2 = 0 by omega)]
    have e : (⟨2 * p.val / 2, by have := p.isLt; omega⟩ : Fin P) = p := Fin.ext (show 2 * p.val / 2 = p.val by omega)
    rw [e]; rfl
  · rw [column_apply hK 1 (by decide), sitofp_apply]
    unfold nib
    rw [if_neg (show ¬ (2 * p.val + 1) % 2 = 0 by omega)]
    have e : (⟨(2 * p.val + 1) / 2, by have := p.isLt; omega⟩ : Fin P) = p := Fin.ext (show (2 * p.val + 1) / 2 = p.val by omega)
    rw [e]; rfl

end Cert.Int4

end
-- ==== Proof.MlpSpec.lean ====
/- THE ATTENTION OUTPUT AND THE FEED-FORWARD BLOCK as formulas of the arrays' elements, over the extended reals, and the reads of
   broadcasts and slices at an index that both programs' terms are compared through. -/
module

public import proofs.«01_k».proof.Proof.Int4

@[expose] public section

noncomputable section

namespace Cert.MlpSpec

open Idealize.ShloMosaic Idealize.ShloMosaic.ValueIdx Cert.Int4
open scoped BigOperators

/-! ## Reads at an index -/

/-- One row broadcast down the rows. -/
theorem row_apply {α : Type} {M N : ℕ} (hN : N ≠ 1) (v : (S2 1 N).Idx → α) (h : (S2 1 N).Broadcasts (S2 M N)) (r : Fin M) (c : Fin N) :
    broadcastTo (S2 M N) v h (ix2 r c) = v (ix2 0 c) :=
  broadcastTo_apply v h _ _ fun a => by
    fin_cases a
    · rfl
    · exact (if_neg hN).symm
/-- One column broadcast across the columns. -/
theorem col_apply {α : Type} {M N : ℕ} (hM : M ≠ 1) (v : (S2 M 1).Idx → α) (h : (S2 M 1).Broadcasts (S2 M N)) (r : Fin M) (c : Fin N) :
    broadcastTo (S2 M N) v h (ix2 r c) = v (ix2 r 0) :=
  broadcastTo_apply v h _ _ fun a => by
    fin_cases a
    · exact (if_neg hM).symm
    · rfl
/-- A slice of the columns from column `o`. -/
theorem slice_apply {α : Type} {M N N' : ℕ} (o : ℕ) (v : (S2 M N).Idx → α) (h : (S2 M N).Slices ![0, o] (S2 M N')) (r : Fin M) (c : Fin N')
    (hc : o + c.val < N) : extractStridedSlice (S2 M N') ![0, o] v h (ix2 r c) = v (ix2 r ⟨o + c.val, hc⟩) := by
  unfold extractStridedSlice
  refine congrArg v (funext fun a => ?_)
  fin_cases a
  · exact Fin.ext (show 0 + r.val = r.val by omega)
  · rfl

/-- Only the product's sum differs. -/
theorem res_congr {x s s' a b : EReal} (h : s = s') : x + s * a * b = x + s' * a * b := by rw [h]
theorem res_congr' {x s s' a : EReal} (h : s = s') : x + s * a = x + s' * a := by rw [h]

/-! ## The formulas -/

/-- The residual after the attention output: `x + (a · wo) · as · so`. -/
def h1 (a : FVec Ideal (S2 768 4096) .fp8e4m3) (sa : FVec Ideal (S2 768 1) .f32) (wo : FVec Ideal (S2 4096 2560) .fp8e4m3)
    (so : FVec Ideal (S2 1 2560) .f32) (x : FVec Ideal (S2 768 2560) .bf16) : FVec Ideal (S2 768 2560) .f32 := fun j =>
  x j + (∑ k : Fin 4096, a (ix2 (j 0) k) * wo (ix2 k (j 1))) * sa (ix2 (j 0) 0) * so (ix2 0 (j 1))

/-- The gate's and the up projection's columns. -/
def gu (hn : FVec Ideal (S2 768 2560) .bf16) (w : IVec (S2 1280 19456) 8) (s : FVec Ideal (S2 1 19456) .f32) (r : Fin 768) (c : Fin 19456) : EReal :=
  (∑ k : Fin 2560, hn (ix2 r k) * (FloatOps.sitofp .bf16 (nib rfl w k c) : Ideal .bf16)) * s (ix2 0 c)

/-- `silu (gate) · up`. -/
def act (hn : FVec Ideal (S2 768 2560) .bf16) (w : IVec (S2 1280 19456) 8) (s : FVec Ideal (S2 1 19456) .f32) (r : Fin 768) (k : Fin 9728) : EReal :=
  gu hn w s r ⟨k.val, by have := k.isLt; omega⟩ * (FloatOps.logistic (gu hn w s r ⟨k.val, by have := k.isLt; omega⟩ : Ideal .f32) : Ideal .f32)
    * gu hn w s r ⟨9728 + k.val, by have := k.isLt; omega⟩

/-- The result: the residual plus the down projection. -/
def y (h : FVec Ideal (S2 768 2560) .f32) (hn : FVec Ideal (S2 768 2560) .bf16) (w : IVec (S2 1280 19456) 8) (s : FVec Ideal (S2 1 19456) .f32)
    (wd : IVec (S2 4864 2560) 8) (sd : FVec Ideal (S2 1 2560) .f32) : FVec Ideal (S2 768 2560) .bf16 := fun j =>
  h j + (∑ k : Fin 9728, act hn w s (j 0) k * (FloatOps.sitofp .bf16 (nib rfl wd k (j 1)) : Ideal .bf16)) * sd (ix2 0 (j 1))

end Cert.MlpSpec

end
-- ==== Proof.MlpIdeal.Value.lean ====
/- WHAT THE RUN LEAVES, as the formulas of MlpSpec over the whole arrays: every tile read at an index is a read of its array, the
   products of the tiles are the columns of the whole products, and the accumulator's sum over the tiles is the sum over the rows. -/
module

public import proofs.«01_k».proof.Proof.MlpIdeal.Run
public import proofs.«01_k».proof.Proof.MlpSpec
public import Idealize.ShloMosaic.Lib.Pipeline.ValueKit.Geometry

@[expose] public section

set_option maxRecDepth 16384

noncomputable section

namespace Cert.MlpIdeal.Gen

open Idealize.ShloMosaic Idealize.ShloMosaic.TcCoe Idealize.ShloMosaic.ValueIdx Cert.Int4 Cert.MlpSpec
open scoped BigOperators

/-! ## The payloads at an index -/

theorem pay1_apply (a : Vec Ideal S768x4096 .fp8e4m3) (wo : Vec Ideal S4096x512 .fp8e4m3) (sa : Vec Ideal S768x1 .f32)
    (so : Vec Ideal S1x512 .f32) (x : Vec Ideal S768x512 .bf16) (r : Fin 768) (q : Fin 512) :
    k0_pay1 (F := Ideal) a wo sa so x (ix2 r q)
      = x (ix2 r q) + (∑ k : Fin 4096, a (ix2 r k) * wo (ix2 k q)) * sa (ix2 r 0) * so (ix2 0 q) := by
  unfold k0_pay1
  simp only [shapeCast_self]
  rw [addf_apply, extf_apply, mulf_apply, mulf_apply,
    product_apply (M := 768) (K := 4096) (N := 512) dot_S768x4096_S4096x512_S768x512_1_0_0_1_n_n rfl, row_apply (by decide), col_apply (by decide)]

/-- The gate's or the up projection's tile. -/
theorem tile_apply (hn : FVec Ideal S768x2560 .bf16) (w : Vec Ideal S1280x512 .i8) (s : Vec Ideal S1x512 .f32) (r : Fin 768) (q : Fin 512) :
    mulf (matmul dot_S768x2560_S2560x512_S768x512_1_0_0_1_n_n none hn (sitofp .bf16 (shapeCast S2560x512 (concatenate S1280x2x512 1
        [⟨S1280x1x512, shapeCast S1280x1x512 (shrsi (shli w (broadcast S1280x512 4#8)) (broadcast S1280x512 4#8)) shapeCasts_S1280x512_S1280x1x512⟩,
         ⟨S1280x1x512, shapeCast S1280x1x512 (shrsi w (broadcast S1280x512 4#8)) shapeCasts_S1280x512_S1280x1x512⟩]
        concatenates_S1280x1x512_S1280x1x512_S1280x2x512_d1) shapeCasts_S1280x2x512_S2560x512)) (constant (F := Ideal) S768x512 .f32 0x00000000#32))
      (broadcastTo S768x512 s broadcasts_S1x512_S768x512) (ix2 r q)
      = (∑ k : Fin 2560, hn (ix2 r k) * (FloatOps.sitofp .bf16 (nib (P := 1280) (K := 2560) rfl w k q) : Ideal .bf16)) * s (ix2 0 q) := by
  rw [mulf_apply, unpacked_apply (M := 768) (P := 1280) (C := 512) (K := 2560) rfl dot_S768x2560_S2560x512_S768x512_1_0_0_1_n_n rfl,
    row_apply (by decide)]

theorem pay7_apply (hn : Vec Ideal S768x2560 .bf16) (wg : Vec Ideal S1280x512 .i8) (sg : Vec Ideal S1x512 .f32) (wu : Vec Ideal S1280x512 .i8)
    (su : Vec Ideal S1x512 .f32) (r : Fin 768) (q : Fin 512) (G U : EReal)
    (hG : (∑ k : Fin 2560, hn (ix2 r k) * (FloatOps.sitofp .bf16 (nib (P := 1280) (K := 2560) rfl wg k q) : Ideal .bf16)) * sg (ix2 0 q) = G)
    (hU : (∑ k : Fin 2560, hn (ix2 r k) * (FloatOps.sitofp .bf16 (nib (P := 1280) (K := 2560) rfl wu k q) : Ideal .bf16)) * su (ix2 0 q) = U) :
    k0_pay7 (F := Ideal) hn wg sg hn wu su (ix2 r q) = G * (FloatOps.logistic (G : Ideal .f32) : Ideal .f32) * U := by
  have eG := (tile_apply hn wg sg r q).trans hG
  have eU := (tile_apply hn wu su r q).trans hU
  unfold k0_pay7
  simp only [shapeCast_self]
  rw [truncf_apply, mulf_apply, mulf_apply]
  exact congrArg₂ (· * ·) (congrArg₂ (· * ·) eG (congrArg (fun z : Ideal .f32 => FloatOps.logistic z) eG)) eU

theorem pay4_apply (acc : Vec Ideal S768x2560 .f32) (a : Vec Ideal S768x512 .bf16) (w : Vec Ideal S256x2560 .i8) (r : Fin 768) (c : Fin 2560) :
    k0_pay4 (F := Ideal) acc a w (ix2 r c)
      = acc (ix2 r c) + ∑ k : Fin 512, a (ix2 r k) * (FloatOps.sitofp .bf16 (nib (P := 256) (K := 512) rfl w k c) : Ideal .bf16) := by
  unfold k0_pay4
  simp only [shapeCast_self]
  rw [addf_apply, unpacked_apply (M := 768) (P := 256) (C := 2560) (K := 512) rfl dot_S768x512_S512x2560_S768x2560_1_0_0_1_n_n rfl]

theorem pay6_apply (h : Vec Ideal S768x2560 .f32) (acc : Vec Ideal S768x2560 .f32) (s : Vec Ideal S1x2560 .f32) (r : Fin 768) (c : Fin 2560) :
    k0_pay6 (F := Ideal) h acc s (ix2 r c) = h (ix2 r c) + acc (ix2 r c) * s (ix2 0 c) := by
  unfold k0_pay6
  simp only [shapeCast_self]
  rw [truncf_apply, addf_apply, mulf_apply, row_apply (by decide)]

/-! ## The windows' blocks at an index -/

variable (m : (ℓ : Loc nD τ sig) → Buf (Elt Ideal) ℓ)

theorem idxA : ∀ t : Fin cfg0.N, win0_0.index t 0 = 0 ∧ win0_0.index t 1 = 0 ∧ win0_1.index t 0 = 0 ∧ win0_1.index t 1 = 0
    ∧ win0_5.index t 0 = 0 ∧ win0_5.index t 1 = 0 ∧ win0_11.index t 0 = 0 ∧ win0_11.index t 1 = 0 ∧ win0_12.index t 0 = 0 ∧ win0_12.index t 1 = 0 :=
  (by decide +kernel : ∀ t : Fin grid0.N, win0_0.index t 0 = 0 ∧ win0_0.index t 1 = 0 ∧ win0_1.index t 0 = 0 ∧ win0_1.index t 1 = 0
    ∧ win0_5.index t 0 = 0 ∧ win0_5.index t 1 = 0 ∧ win0_11.index t 0 = 0 ∧ win0_11.index t 1 = 0 ∧ win0_12.index t 0 = 0 ∧ win0_12.index t 1 = 0)
theorem idxB : ∀ t : Fin cfg0.N, t.val < 5 → win0_2.index t 0 = 0 ∧ win0_2.index t 1 = t.val ∧ win0_3.index t 0 = 0 ∧ win0_3.index t 1 = t.val
    ∧ win0_4.index t 0 = 0 ∧ win0_4.index t 1 = t.val :=
  (by decide +kernel : ∀ t : Fin grid0.N, t.val < 5 → win0_2.index t 0 = 0 ∧ win0_2.index t 1 = t.val ∧ win0_3.index t 0 = 0 ∧ win0_3.index t 1 = t.val
    ∧ win0_4.index t 0 = 0 ∧ win0_4.index t 1 = t.val)
theorem idxC : ∀ t : Fin cfg0.N, 5 ≤ t.val → t.val < 24 → win0_6.index t 0 = 0 ∧ win0_6.index t 1 = t.val - 5 ∧ win0_7.index t 0 = 0
    ∧ win0_7.index t 1 = 19 + (t.val - 5) ∧ win0_8.index t 0 = 0 ∧ win0_8.index t 1 = t.val - 5 ∧ win0_9.index t 0 = 0 ∧ win0_9.index t 1 = 19 + (t.val - 5) :=
  (by decide +kernel : ∀ t : Fin grid0.N, 5 ≤ t.val → t.val < 24 → win0_6.index t 0 = 0 ∧ win0_6.index t 1 = t.val - 5 ∧ win0_7.index t 0 = 0
    ∧ win0_7.index t 1 = 19 + (t.val - 5) ∧ win0_8.index t 0 = 0 ∧ win0_8.index t 1 = t.val - 5 ∧ win0_9.index t 0 = 0 ∧ win0_9.index t 1 = 19 + (t.val - 5))
theorem idxD : ∀ t : Fin cfg0.N, 6 ≤ t.val → win0_10.index t 0 = t.val - 6 ∧ win0_10.index t 1 = 0 :=
  (by decide +kernel : ∀ t : Fin grid0.N, 6 ≤ t.val → win0_10.index t 0 = t.val - 6 ∧ win0_10.index t 1 = 0)

theorem blk_0 (c : Dev nD) (t : Fin cfg0.N) (r : Fin 768) (k : Fin 4096) : iblk m c 0 t (ix2 r k) = V m c main_arg0 (ix2 r k) := by
  obtain ⟨h0, h1, -⟩ := idxA t
  show V m c main_arg0 (((cfg0.win 0).blk t).view.emb (ix2 r k)) = _
  refine congrArg _ (funext fun a => Fin.ext (((cfg0.win 0).rect_emb_val t _ a).trans ?_))
  fin_cases a
  · show win0_0.index t 0 * 768 + r.val = r.val; rw [h0]; omega
  · show win0_0.index t 1 * 4096 + k.val = k.val; rw [h1]; omega
theorem blk_1 (c : Dev nD) (t : Fin cfg0.N) (r : Fin 768) (k : Fin 1) : iblk m c 1 t (ix2 r k) = V m c main_arg1 (ix2 r k) := by
  obtain ⟨-, -, h0, h1, -⟩ := idxA t
  show V m c main_arg1 (((cfg0.win 1).blk t).view.emb (ix2 r k)) = _
  refine congrArg _ (funext fun a => Fin.ext (((cfg0.win 1).rect_emb_val t _ a).trans ?_))
  fin_cases a
  · show win0_1.index t 0 * 768 + r.val = r.val; rw [h0]; omega
  · show win0_1.index t 1 * 1 + k.val = k.val; rw [h1]; omega
theorem blk_5 (c : Dev nD) (t : Fin cfg0.N) (r : Fin 1) (k : Fin 2560) : iblk m c 5 t (ix2 r k) = V m c main_v3 (ix2 r k) := by
  obtain ⟨-, -, -, -, h0, h1, -⟩ := idxA t
  show V m c main_v3 (((cfg0.win 5).blk t).view.emb (ix2 r k)) = _
  refine congrArg _ (funext fun a => Fin.ext (((cfg0.win 5).rect_emb_val t _ a).trans ?_))
  fin_cases a
  · show win0_5.index t 0 * 1 + r.val = r.val; rw [h0]; omega
  · show win0_5.index t 1 * 2560 + k.val = k.val; rw [h1]; omega
theorem blk_11 (c : Dev nD) (t : Fin cfg0.N) (r : Fin 1) (k : Fin 2560) : iblk m c 11 t (ix2 r k) = V m c main_v5 (ix2 r k) := by
  obtain ⟨-, -, -, -, -, -, h0, h1, -⟩ := idxA t
  show V m c main_v5 (((cfg0.win 11).blk t).view.emb (ix2 r k)) = _
  refine congrArg _ (funext fun a => Fin.ext (((cfg0.win 11).rect_emb_val t _ a).trans ?_))
  fin_cases a
  · show win0_11.index t 0 * 1 + r.val = r.val; rw [h0]; omega
  · show win0_11.index t 1 * 2560 + k.val = k.val; rw [h1]; omega
theorem blk_2 (c : Dev nD) (t : Fin cfg0.N) (ht : t.val < 5) (r : Fin 4096) (q : Fin 512) (k : Fin 2560) (hk : k.val = 512 * t.val + q.val) : iblk m c 2 t (ix2 r q) = V m c main_v1 (ix2 r k) := by
  obtain ⟨h0, h1, -⟩ := idxB t ht
  show V m c main_v1 (((cfg0.win 2).blk t).view.emb (ix2 r q)) = _
  refine congrArg _ (funext fun a => Fin.ext (((cfg0.win 2).rect_emb_val t _ a).trans ?_))
  fin_cases a
  · show win0_2.index t 0 * 4096 + r.val = r.val; rw [h0]; omega
  · show win0_2.index t 1 * 512 + q.val = k.val; rw [h1]; omega
theorem blk_3 (c : Dev nD) (t : Fin cfg0.N) (ht : t.val < 5) (r : Fin 1) (q : Fin 512) (k : Fin 2560) (hk : k.val = 512 * t.val + q.val) : iblk m c 3 t (ix2 r q) = V m c main_v2 (ix2 r k) := by
  obtain ⟨-, -, h0, h1, -⟩ := idxB t ht
  show V m c main_v2 (((cfg0.win 3).blk t).view.emb (ix2 r q)) = _
  refine congrArg _ (funext fun a => Fin.ext (((cfg0.win 3).rect_emb_val t _ a).trans ?_))
  fin_cases a
  · show win0_3.index t 0 * 1 + r.val = r.val; rw [h0]; omega
  · show win0_3.index t 1 * 512 + q.val = k.val; rw [h1]; omega
theorem blk_4 (c : Dev nD) (t : Fin cfg0.N) (ht : t.val < 5) (r : Fin 768) (q : Fin 512) (k : Fin 2560) (hk : k.val = 512 * t.val + q.val) : iblk m c 4 t (ix2 r q) = V m c main_v0 (ix2 r k) := by
  obtain ⟨-, -, -, -, h0, h1⟩ := idxB t ht
  show V m c main_v0 (((cfg0.win 4).blk t).view.emb (ix2 r q)) = _
  refine congrArg _ (funext fun a => Fin.ext (((cfg0.win 4).rect_emb_val t _ a).trans ?_))
  fin_cases a
  · show win0_4.index t 0 * 768 + r.val = r.val; rw [h0]; omega
  · show win0_4.index t 1 * 512 + q.val = k.val; rw [h1]; omega
theorem blk_6 (c : Dev nD) (t : Fin cfg0.N) (ht : 5 ≤ t.val) (ht' : t.val < 24) (r : Fin 1280) (q : Fin 512) (k : Fin 19456) (hk : k.val = 0 + 512 * (t.val - 5) + q.val) : iblk m c 6 t (ix2 r q) = V m c main_arg6 (ix2 r k) := by
  obtain ⟨h0, h1, -⟩ := idxC t ht ht'
  show V m c main_arg6 (((cfg0.win 6).blk t).view.emb (ix2 r q)) = _
  refine congrArg _ (funext fun a => Fin.ext (((cfg0.win 6).rect_emb_val t _ a).trans ?_))
  fin_cases a
  · show win0_6.index t 0 * 1280 + r.val = r.val; rw [h0]; omega
  · show win0_6.index t 1 * 512 + q.val = k.val; rw [h1]; omega
theorem blk_7 (c : Dev nD) (t : Fin cfg0.N) (ht : 5 ≤ t.val) (ht' : t.val < 24) (r : Fin 1280) (q : Fin 512) (k : Fin 19456) (hk : k.val = 9728 + 512 * (t.val - 5) + q.val) : iblk m c 7 t (ix2 r q) = V m c main_arg6 (ix2 r k) := by
  obtain ⟨-, -, h0, h1, -⟩ := idxC t ht ht'
  show V m c main_arg6 (((cfg0.win 7).blk t).view.emb (ix2 r q)) = _
  refine congrArg _ (funext fun a => Fin.ext (((cfg0.win 7).rect_emb_val t _ a).trans ?_))
  fin_cases a
  · show win0_7.index t 0 * 1280 + r.val = r.val; rw [h0]; omega
  · show win0_7.index t 1 * 512 + q.val = k.val; rw [h1]; omega
theorem blk_8 (c : Dev nD) (t : Fin cfg0.N) (ht : 5 ≤ t.val) (ht' : t.val < 24) (r : Fin 1) (q : Fin 512) (k : Fin 19456) (hk : k.val = 0 + 512 * (t.val - 5) + q.val) : iblk m c 8 t (ix2 r q) = V m c main_v4 (ix2 r k) := by
  obtain ⟨-, -, -, -, h0, h1, -⟩ := idxC t ht ht'
  show V m c main_v4 (((cfg0.win 8).blk t).view.emb (ix2 r q)) = _
  refine congrArg _ (funext fun a => Fin.ext (((cfg0.win 8).rect_emb_val t _ a).trans ?_))
  fin_cases a
  · show win0_8.index t 0 * 1 + r.val = r.val; rw [h0]; omega
  · show win0_8.index t 1 * 512 + q.val = k.val; rw [h1]; omega
theorem blk_9 (c : Dev nD) (t : Fin cfg0.N) (ht : 5 ≤ t.val) (ht' : t.val < 24) (r : Fin 1) (q : Fin 512) (k : Fin 19456) (hk : k.val = 9728 + 512 * (t.val - 5) + q.val) : iblk m c 9 t (ix2 r q) = V m c main_v4 (ix2 r k) := by
  obtain ⟨-, -, -, -, -, -, h0, h1⟩ := idxC t ht ht'
  show V m c main_v4 (((cfg0.win 9).blk t).view.emb (ix2 r q)) = _
  refine congrArg _ (funext fun a => Fin.ext (((cfg0.win 9).rect_emb_val t _ a).trans ?_))
  fin_cases a
  · show win0_9.index t 0 * 1 + r.val = r.val; rw [h0]; omega
  · show win0_9.index t 1 * 512 + q.val = k.val; rw [h1]; omega
theorem blk_10 (c : Dev nD) (t : Fin cfg0.N) (ht : 6 ≤ t.val) (p : Fin 256) (k : Fin 2560) (r : Fin 4864) (hr : r.val = 256 * (t.val - 6) + p.val) : iblk m c 10 t (ix2 p k) = V m c main_arg8 (ix2 r k) := by
  obtain ⟨h0, h1⟩ := idxD t ht
  show V m c main_arg8 (((cfg0.win 10).blk t).view.emb (ix2 p k)) = _
  refine congrArg _ (funext fun a => Fin.ext (((cfg0.win 10).rect_emb_val t _ a).trans ?_))
  fin_cases a
  · show win0_10.index t 0 * 256 + p.val = r.val; rw [h0]; omega
  · show win0_10.index t 1 * 2560 + k.val = k.val; rw [h1]; omega

/-! ## The values the points leave -/

/-- The residual. -/
abbrev Hm (c : Dev nD) : FVec Ideal S768x2560 .f32 :=
  MlpSpec.h1 (V m c main_arg0) (V m c main_arg1) (V m c main_v1) (V m c main_v2) (V m c main_v0)

theorem pt_of_lt {n : ℕ} (h : n < 25) : (pt n).val = n := Nat.mod_eq_of_lt h

theorem H1v_eq (c : Dev nD) : H1v m c = Hm m c := by
  funext j
  obtain ⟨r, k, rfl⟩ : ∃ (r : Fin 768) (k : Fin 2560), j = ix2 r k := ⟨j 0, j 1, eq_ix2 j⟩
  have hk : k.val < 2560 := k.isLt
  have hp : (pt (k.val / 512)).val = k.val / 512 := pt_of_lt (by omega)
  have ht : (pt (k.val / 512)).val < 5 := by omega
  have hq : k.val % 512 < 512 := Nat.mod_lt _ (by decide)
  have e : k.val = 512 * (pt (k.val / 512)).val + k.val % 512 := by omega
  refine (pay1_apply _ _ _ _ _ r ⟨k.val % 512, hq⟩).trans ?_
  rw [blk_1, blk_3 m c _ ht 0 ⟨k.val % 512, hq⟩ k e, blk_4 m c _ ht r ⟨k.val % 512, hq⟩ k e]
  unfold Hm MlpSpec.h1
  refine res_congr (Finset.sum_congr rfl fun i _ => ?_)
  rw [blk_0, blk_2 m c _ ht i ⟨k.val % 512, hq⟩ k e]

/-- Its norm. -/
abbrev Nm (c : Dev nD) : FVec Ideal S768x2560 .bf16 := k0_pay2 (F := Ideal) (Hm m c) (V m c main_v3)

theorem Hnv_eq (c : Dev nD) : Hnv m c = Nm m c := by
  unfold Hnv
  rw [H1v_eq]
  refine congrArg (k0_pay2 (F := Ideal) (Hm m c)) (funext fun j => ?_)
  obtain ⟨r, k, rfl⟩ : ∃ (r : Fin 1) (k : Fin 2560), j = ix2 r k := ⟨j 0, j 1, eq_ix2 j⟩
  exact blk_5 m c _ r k

/-- A tile of packed columns holds the array's columns. -/
theorem nib_col (w : IVec (S2 1280 512) 8) (W : IVec (S2 1280 19456) 8) (q : Fin 512) (k : Fin 19456)
    (h : ∀ p : Fin 1280, w (ix2 p q) = W (ix2 p k)) (i : Fin 2560) :
    nib (P := 1280) (K := 2560) rfl w i q = nib (P := 1280) (K := 2560) rfl W i k := by
  unfold nib
  rw [h]
/-- A tile of packed rows holds the array's rows. -/
theorem nib_row (w : IVec (S2 256 2560) 8) (W : IVec (S2 4864 2560) 8) (n : ℕ) (hn : n < 19)
    (h : ∀ (p : Fin 256) (k : Fin 2560) (r : Fin 4864), r.val = 256 * n + p.val → w (ix2 p k) = W (ix2 r k)) (q : Fin 512) (k : Fin 2560)
    (i : Fin 9728) (hi : i.val = 512 * n + q.val) : nib (P := 256) (K := 512) rfl w q k = nib (P := 4864) (K := 9728) rfl W i k := by
  have hq := q.isLt
  have hi' := i.isLt
  unfold nib
  rw [h ⟨q.val / 2, by omega⟩ k ⟨i.val / 2, by omega⟩ (by show i.val / 2 = 256 * n + q.val / 2; omega), show i.val % 2 = q.val % 2 by omega]

/-- The feed-forward columns of tile `n`. -/
theorem Actv_apply (c : Dev nD) (n : ℕ) (hn : n < 19) (r : Fin 768) (q : Fin 512) (i : Fin 9728) (hi : i.val = 512 * n + q.val) :
    Actv m c n (ix2 r q) = MlpSpec.act (Nm m c) (V m c main_arg6) (V m c main_v4) r i := by
  have hi' := i.isLt
  have hp : (pt (n + 5)).val = n + 5 := pt_of_lt (by omega)
  have h5 : 5 ≤ (pt (n + 5)).val := by omega
  have h24 : (pt (n + 5)).val < 24 := by omega
  unfold Actv k0_pay5
  simp only [shapeCast_self]
  rw [Hnv_eq]
  refine pay7_apply _ _ _ _ _ r q _ _ ?_ ?_
  · unfold MlpSpec.gu
    rw [blk_8 m c _ h5 h24 0 q ⟨i.val, by omega⟩ (by show i.val = _; omega)]
    refine congrArg (· * _) (Finset.sum_congr rfl fun k _ => ?_)
    rw [nib_col _ (V m c main_arg6) q ⟨i.val, by omega⟩ (fun p => blk_6 m c _ h5 h24 p q _ (by show i.val = _; omega)) k]
  · unfold MlpSpec.gu
    rw [blk_9 m c _ h5 h24 0 q ⟨9728 + i.val, by omega⟩ (by show 9728 + i.val = _; omega)]
    refine congrArg (· * _) (Finset.sum_congr rfl fun k _ => ?_)
    rw [nib_col _ (V m c main_arg6) q ⟨9728 + i.val, by omega⟩ (fun p => blk_7 m c _ h5 h24 p q _ (by show 9728 + i.val = _; omega)) k]

/-- A row's term of the down projection. -/
def term (c : Dev nD) (r : Fin 768) (k : Fin 2560) (i : ℕ) : EReal :=
  if h : i < 9728 then MlpSpec.act (Nm m c) (V m c main_arg6) (V m c main_v4) r ⟨i, h⟩
    * (FloatOps.sitofp .bf16 (nib (P := 4864) (K := 9728) rfl (V m c main_arg8) ⟨i, h⟩ k) : Ideal .bf16) else 0

/-- After `n` tiles the accumulator holds the sum over the first `512 n` rows. -/
theorem Accv_apply (c : Dev nD) (r : Fin 768) (k : Fin 2560) : ∀ n : ℕ, n ≤ 19 → Accv m c n (ix2 r k) = ∑ i ∈ Finset.range (512 * n), term m c r k i
  | 0, _ => by
    show k0_pay3 (F := Ideal) (ix2 r k) = _
    unfold k0_pay3
    simp only [shapeCast_self]
    rw [Nat.mul_zero, Finset.sum_range_zero]
    exact Ideal.ofBits_zero_f32
  | n + 1, hn => by
    refine (pay4_apply _ _ _ r k).trans ?_
    rw [Accv_apply c r k n (by omega), Nat.mul_succ, Finset.sum_range_add, Finset.sum_range (n := 512)]
    refine congrArg (_ + ·) (Finset.sum_congr rfl fun q _ => ?_)
    have hq := q.isLt
    have hp : (pt (n + 6)).val = n + 6 := pt_of_lt (by omega)
    unfold term
    rw [dif_pos (show 512 * n + q.val < 9728 by omega), Actv_apply m c n (by omega) r q ⟨512 * n + q.val, by omega⟩ rfl,
      nib_row _ (V m c main_arg8) n (by omega) (fun p j i hi => blk_10 m c _ (by omega) p j i (by rw [hp, hi]; omega)) q k ⟨512 * n + q.val, by omega⟩ rfl]

/-- THE RESULT. -/
theorem Yv_eq (c : Dev nD) :
    Yv m c = MlpSpec.y (Hm m c) (Nm m c) (V m c main_arg6) (V m c main_v4) (V m c main_arg8) (V m c main_v5) := by
  funext j
  obtain ⟨r, k, rfl⟩ : ∃ (r : Fin 768) (k : Fin 2560), j = ix2 r k := ⟨j 0, j 1, eq_ix2 j⟩
  refine (pay6_apply _ _ _ r k).trans ?_
  rw [H1v_eq, Accv_apply m c r k 19 le_rfl, blk_11, show 512 * 19 = 9728 from rfl, Finset.sum_range]
  unfold MlpSpec.y
  refine res_congr' (Finset.sum_congr rfl fun i _ => ?_)
  unfold term
  rw [dif_pos i.isLt]

/-- The result's array after the run: the last point alone writes it, whole. -/
theorem arr_eq (c : Dev nD) : (dats m 0 c).arrAt 12 cfg0.N = Yv m c := by
  refine (dats m 0 c).arrAt_eq_of_cover 12 (Yv m c) (fun t _ => ?_) (Pipeline.Window.Covers.cover (w := win0_12) (by decide +kernel) (Memref.isWhole_whole _))
  have h : ∀ y, ((cfg0.win 12).blk t).view.emb y = y := fun y => funext fun a => Fin.ext (by
    obtain ⟨-, -, -, -, -, -, -, -, h0, h1⟩ := idxA t
    refine ((cfg0.win 12).rect_emb_val t y a).trans ?_
    fin_cases a
    · show win0_12.index t 0 * 768 + (y 0).val = (y 0).val; rw [h0]; omega
    · show win0_12.index t 1 * 2560 + (y 1).val = (y 1).val; rw [h1]; omega)
  show (cfg0.win 12).cut (grid0.coords t) ((dats m 0 c).after 12 t) = _
  rw [after0_12]
  funext y
  exact congrArg (Yv m c) (h y).symm

end Cert.MlpIdeal.Gen

end
-- ==== Proof.MlpReference.lean ====
/- WHAT THE REFERENCE COMPUTES: its one point's stores, read at an index, are the formulas of MlpSpec. -/
module

public import proofs.«01_k».proof.Proof.Gen.MlpReferenceIdeal.Value
public import proofs.«01_k».proof.Proof.MlpSpec
public import Idealize.ShloMosaic.Lib.Pipeline.ValueKit.Geometry

@[expose] public section

set_option maxRecDepth 16384

noncomputable section

namespace Cert.MlpReferenceIdeal.Gen

open Idealize.ShloMosaic Idealize.ShloMosaic.ValueIdx Cert.Int4 Cert.MlpSpec
open scoped BigOperators

theorem pay2_eq (a : Vec Ideal S768x4096 .fp8e4m3) (wo : Vec Ideal S4096x2560 .fp8e4m3) (sa : Vec Ideal S768x1 .f32)
    (so : Vec Ideal S1x2560 .f32) (x : Vec Ideal S768x2560 .bf16) : k0_pay2 (F := Ideal) a wo sa so x = MlpSpec.h1 a sa wo so x := by
  funext j
  obtain ⟨r, c, rfl⟩ : ∃ (r : Fin 768) (c : Fin 2560), j = ix2 r c := ⟨j 0, j 1, eq_ix2 j⟩
  unfold k0_pay2
  simp only [shapeCast_self]
  rw [addf_apply, extf_apply, mulf_apply, mulf_apply, product_apply (M := 768) (K := 4096) (N := 2560) dot_S768x4096_S4096x2560_S768x2560_1_0_0_1_n_n rfl, row_apply (by decide), col_apply (by decide)]
  rfl

set_option maxHeartbeats 1000000 in
/-- Every element of the result. -/
theorem pay1_eq (h : FVec Ideal S768x2560 .f32) (hn : FVec Ideal S768x2560 .bf16) (w : Vec Ideal S1280x19456 .i8)
    (s : Vec Ideal S1x19456 .f32) (wd : Vec Ideal S4864x2560 .i8) (sd : Vec Ideal S1x2560 .f32) :
    k0_pay1 (F := Ideal) h hn w (k0_pay4 s) (k0_pay5 w) wd sd = MlpSpec.y h hn w s wd sd := by
  funext j
  obtain ⟨r, c, rfl⟩ : ∃ (r : Fin 768) (c : Fin 2560), j = ix2 r c := ⟨j 0, j 1, eq_ix2 j⟩
  unfold k0_pay1 k0_pay4 k0_pay5
  simp only [shapeCast_self]
  rw [truncf_apply, addf_apply, mulf_apply, split_apply (M := 768) (P := 4864) (C := 2560) (K := 9728) rfl dot_S768x4864_S4864x2560_S768x2560_1_0_0_1_n_n rfl, row_apply (by decide)]
  unfold MlpSpec.y
  refine congrArg (fun z => h (ix2 r c) + z * sd (ix2 0 c)) (Finset.sum_congr rfl fun k _ => ?_)
  refine congrArg (· * _) ?_
  have hk : k.val < 9728 := k.isLt
  have gu_eq (c : Fin 19456) : mulf (addf
      (matmul dot_S768x1280_S1280x19456_S768x19456_1_0_0_1_n_n none (shapeCast S768x1280 (extractStridedSlice S768x1280x1 ![0, 0, 0] (shapeCast S768x1280x2 hn shapeCasts_S768x2560_S768x1280x2) slices_S768x1280x2_o0_0_0_S768x1280x1) shapeCasts_S768x1280x1_S768x1280)
        (sitofp .bf16 (shrsi (shli w (broadcast S1280x19456 4#8)) (broadcast S1280x19456 4#8))) (constant (F := Ideal) S768x19456 .f32 0x00000000#32))
      (matmul dot_S768x1280_S1280x19456_S768x19456_1_0_0_1_n_n none (shapeCast S768x1280 (extractStridedSlice S768x1280x1 ![0, 0, 1] (shapeCast S768x1280x2 hn shapeCasts_S768x2560_S768x1280x2) slices_S768x1280x2_o0_0_1_S768x1280x1) shapeCasts_S768x1280x1_S768x1280)
        (sitofp .bf16 (shrsi w (broadcast S1280x19456 4#8))) (constant (F := Ideal) S768x19456 .f32 0x00000000#32)))
      (broadcastTo S768x19456 s broadcasts_S1x19456_S768x19456) (ix2 r c) = MlpSpec.gu hn w s r c := by
    rw [mulf_apply, split_apply (M := 768) (P := 1280) (C := 19456) (K := 2560) rfl dot_S768x1280_S1280x19456_S768x19456_1_0_0_1_n_n rfl, row_apply (by decide)]
    rfl
  rw [truncf_apply, mulf_apply, mulf_apply]
  unfold MlpSpec.act
  refine congrArg₂ (· * ·) (congrArg₂ (· * ·) ?_ ?_) ?_
  · exact (slice_apply 0 _ _ r k (by omega)).trans ((gu_eq _).trans (by simp only [Nat.zero_add]))
  · refine congrArg (fun z : Ideal .f32 => FloatOps.logistic z) ?_
    exact (slice_apply 0 _ _ r k (by omega)).trans ((gu_eq _).trans (by simp only [Nat.zero_add]))
  · exact (slice_apply 9728 _ _ r k (by omega)).trans (gu_eq _)

/-! ## The one point's blocks are the arrays -/

variable (m : (ℓ : Loc nD τ sig) → Buf (Elt Ideal) ℓ)

theorem idx_0 : ∀ (t : Fin cfg0.N) a, win0_0.index t a = 0 := (by decide +kernel : ∀ (t : Fin grid0.N) a, win0_0.index t a = 0)
theorem idx_1 : ∀ (t : Fin cfg0.N) a, win0_1.index t a = 0 := (by decide +kernel : ∀ (t : Fin grid0.N) a, win0_1.index t a = 0)
theorem idx_2 : ∀ (t : Fin cfg0.N) a, win0_2.index t a = 0 := (by decide +kernel : ∀ (t : Fin grid0.N) a, win0_2.index t a = 0)
theorem idx_3 : ∀ (t : Fin cfg0.N) a, win0_3.index t a = 0 := (by decide +kernel : ∀ (t : Fin grid0.N) a, win0_3.index t a = 0)
theorem idx_4 : ∀ (t : Fin cfg0.N) a, win0_4.index t a = 0 := (by decide +kernel : ∀ (t : Fin grid0.N) a, win0_4.index t a = 0)
theorem idx_5 : ∀ (t : Fin cfg0.N) a, win0_5.index t a = 0 := (by decide +kernel : ∀ (t : Fin grid0.N) a, win0_5.index t a = 0)
theorem idx_6 : ∀ (t : Fin cfg0.N) a, win0_6.index t a = 0 := (by decide +kernel : ∀ (t : Fin grid0.N) a, win0_6.index t a = 0)
theorem idx_7 : ∀ (t : Fin cfg0.N) a, win0_7.index t a = 0 := (by decide +kernel : ∀ (t : Fin grid0.N) a, win0_7.index t a = 0)
theorem idx_8 : ∀ (t : Fin cfg0.N) a, win0_8.index t a = 0 := (by decide +kernel : ∀ (t : Fin grid0.N) a, win0_8.index t a = 0)
theorem idx_9 : ∀ (t : Fin cfg0.N) a, win0_9.index t a = 0 := (by decide +kernel : ∀ (t : Fin grid0.N) a, win0_9.index t a = 0)
theorem idx_10 : ∀ (t : Fin cfg0.N) a, win0_10.index t a = 0 := (by decide +kernel : ∀ (t : Fin grid0.N) a, win0_10.index t a = 0)
theorem blk_0 (c : Dev nD) (t : Fin cfg0.N) : iblk m c 0 t = V m c main_arg0 := by
  funext y
  show V m c main_arg0 (((cfg0.win 0).blk t).view.emb y) = _
  refine congrArg _ (funext fun a => Fin.ext (((cfg0.win 0).rect_emb_val t y a).trans ?_))
  have h := idx_0 t a
  change win0_0.index t a * win0_0.size a + (y a).val = (y a).val
  rw [h]; omega
theorem blk_1 (c : Dev nD) (t : Fin cfg0.N) : iblk m c 1 t = V m c main_arg1 := by
  funext y
  show V m c main_arg1 (((cfg0.win 1).blk t).view.emb y) = _
  refine congrArg _ (funext fun a => Fin.ext (((cfg0.win 1).rect_emb_val t y a).trans ?_))
  have h := idx_1 t a
  change win0_1.index t a * win0_1.size a + (y a).val = (y a).val
  rw [h]; omega
theorem blk_2 (c : Dev nD) (t : Fin cfg0.N) : iblk m c 2 t = V m c main_v0 := by
  funext y
  show V m c main_v0 (((cfg0.win 2).blk t).view.emb y) = _
  refine congrArg _ (funext fun a => Fin.ext (((cfg0.win 2).rect_emb_val t y a).trans ?_))
  have h := idx_2 t a
  change win0_2.index t a * win0_2.size a + (y a).val = (y a).val
  rw [h]; omega
theorem blk_3 (c : Dev nD) (t : Fin cfg0.N) : iblk m c 3 t = V m c main_v1 := by
  funext y
  show V m c main_v1 (((cfg0.win 3).blk t).view.emb y) = _
  refine congrArg _ (funext fun a => Fin.ext (((cfg0.win 3).rect_emb_val t y a).trans ?_))
  have h := idx_3 t a
  change win0_3.index t a * win0_3.size a + (y a).val = (y a).val
  rw [h]; omega
theorem blk_4 (c : Dev nD) (t : Fin cfg0.N) : iblk m c 4 t = V m c main_v2 := by
  funext y
  show V m c main_v2 (((cfg0.win 4).blk t).view.emb y) = _
  refine congrArg _ (funext fun a => Fin.ext (((cfg0.win 4).rect_emb_val t y a).trans ?_))
  have h := idx_4 t a
  change win0_4.index t a * win0_4.size a + (y a).val = (y a).val
  rw [h]; omega
theorem blk_5 (c : Dev nD) (t : Fin cfg0.N) : iblk m c 5 t = V m c main_v3 := by
  funext y
  show V m c main_v3 (((cfg0.win 5).blk t).view.emb y) = _
  refine congrArg _ (funext fun a => Fin.ext (((cfg0.win 5).rect_emb_val t y a).trans ?_))
  have h := idx_5 t a
  change win0_5.index t a * win0_5.size a + (y a).val = (y a).val
  rw [h]; omega
theorem blk_6 (c : Dev nD) (t : Fin cfg0.N) : iblk m c 6 t = V m c main_arg6 := by
  funext y
  show V m c main_arg6 (((cfg0.win 6).blk t).view.emb y) = _
  refine congrArg _ (funext fun a => Fin.ext (((cfg0.win 6).rect_emb_val t y a).trans ?_))
  have h := idx_6 t a
  change win0_6.index t a * win0_6.size a + (y a).val = (y a).val
  rw [h]; omega
theorem blk_7 (c : Dev nD) (t : Fin cfg0.N) : iblk m c 7 t = V m c main_v4 := by
  funext y
  show V m c main_v4 (((cfg0.win 7).blk t).view.emb y) = _
  refine congrArg _ (funext fun a => Fin.ext (((cfg0.win 7).rect_emb_val t y a).trans ?_))
  have h := idx_7 t a
  change win0_7.index t a * win0_7.size a + (y a).val = (y a).val
  rw [h]; omega
theorem blk_8 (c : Dev nD) (t : Fin cfg0.N) : iblk m c 8 t = V m c main_arg8 := by
  funext y
  show V m c main_arg8 (((cfg0.win 8).blk t).view.emb y) = _
  refine congrArg _ (funext fun a => Fin.ext (((cfg0.win 8).rect_emb_val t y a).trans ?_))
  have h := idx_8 t a
  change win0_8.index t a * win0_8.size a + (y a).val = (y a).val
  rw [h]; omega
theorem blk_9 (c : Dev nD) (t : Fin cfg0.N) : iblk m c 9 t = V m c main_v5 := by
  funext y
  show V m c main_v5 (((cfg0.win 9).blk t).view.emb y) = _
  refine congrArg _ (funext fun a => Fin.ext (((cfg0.win 9).rect_emb_val t y a).trans ?_))
  have h := idx_9 t a
  change win0_9.index t a * win0_9.size a + (y a).val = (y a).val
  rw [h]; omega

/-- The residual. -/
abbrev Hm (c : Dev nD) : FVec Ideal S768x2560 .f32 :=
  MlpSpec.h1 (V m c main_arg0) (V m c main_arg1) (V m c main_v0) (V m c main_v1) (V m c main_v2)

theorem zero2 : (![0, 0] : Fin 2 → ℕ) = fun _ => 0 := by funext a; fin_cases a <;> rfl

set_option maxHeartbeats 1000000 in
/-- What the one point stores. -/
theorem out_eq (x0 : Vec Ideal S768x4096 .fp8e4m3) (x1 : Vec Ideal S768x1 .f32) (x2 : Vec Ideal S4096x2560 .fp8e4m3) (x3 : Vec Ideal S1x2560 .f32)
    (x4 : Vec Ideal S768x2560 .bf16) (x5 : Vec Ideal S1x2560 .f32) (x6 : Vec Ideal S1280x19456 .i8) (x7 : Vec Ideal S1x19456 .f32)
    (x8 : Vec Ideal S4864x2560 .i8) (x9 : Vec Ideal S1x2560 .f32) : out0_10 (F := Ideal) x0 x1 x2 x3 x4 x5 x6 x7 x8 x9
      = MlpSpec.y (MlpSpec.h1 x0 x1 x2 x3 x4) (k0_pay3 (F := Ideal) x0 x2 x1 x3 x4 x5) x6 x7 x8 x9 := by
  unfold out0_10
  rw [View.canon_unit_zero zero2, View.ld_unit_zero (S := S768x4096) zero2, View.ld_unit_zero (S := S4096x2560) zero2, View.ld_unit_zero (S := S768x1) zero2,
    View.ld_unit_zero (S := S1x2560) zero2 _ x3, View.ld_unit_zero (S := S1x2560) zero2 _ x5, View.ld_unit_zero (S := S1x2560) zero2 _ x9,
    View.ld_unit_zero (S := S768x2560) zero2, View.ld_unit_zero (S := S1280x19456) zero2,
    View.ld_unit_zero (S := S1x19456) zero2, View.ld_unit_zero (S := S4864x2560) zero2, pay2_eq, pay1_eq]

/-- THE RESULT'S ARRAY AFTER THE RUN, the norm kept as the printed operations. -/
theorem arr_eq (c : Dev nD) : (dats m 0 c).arrAt 10 cfg0.N
    = MlpSpec.y (Hm m c) (k0_pay3 (F := Ideal) (V m c main_arg0) (V m c main_v0) (V m c main_arg1) (V m c main_v1) (V m c main_v2) (V m c main_v3))
      (V m c main_arg6) (V m c main_v4) (V m c main_arg8) (V m c main_v5) := by
  have key : ∀ t : Fin cfg0.N, (dats m 0 c).after 10 t
      = MlpSpec.y (Hm m c) (k0_pay3 (F := Ideal) (V m c main_arg0) (V m c main_v0) (V m c main_arg1) (V m c main_v1) (V m c main_v2) (V m c main_v3))
      (V m c main_arg6) (V m c main_v4) (V m c main_arg8) (V m c main_v5) := fun t => by
    rw [after0_10, blk_0, blk_1, blk_2, blk_3, blk_4, blk_5, blk_6, blk_7, blk_8, blk_9]
    exact out_eq _ _ _ _ _ _ _ _ _ _
  revert key
  generalize MlpSpec.y (Hm m c) (k0_pay3 (F := Ideal) (V m c main_arg0) (V m c main_v0) (V m c main_arg1) (V m c main_v1) (V m c main_v2) (V m c main_v3))
      (V m c main_arg6) (V m c main_v4) (V m c main_arg8) (V m c main_v5) = Z
  intro key
  refine (dats m 0 c).arrAt_eq_of_cover 10 Z (fun t _ => ?_) (Pipeline.Window.Covers.cover (w := win0_10) (by decide +kernel) (Memref.isWhole_whole _))
  have h : ∀ y, ((cfg0.win 10).blk t).view.emb y = y := fun y => funext fun a => Fin.ext (by
    have h := idx_10 t a
    refine ((cfg0.win 10).rect_emb_val t y a).trans ?_
    change win0_10.index t a * win0_10.size a + (y a).val = (y a).val
    rw [h]; omega)
  show (cfg0.win 10).cut (grid0.coords t) ((dats m 0 c).after 10 t) = _
  rw [key]
  funext y
  exact congrArg Z (h y).symm

end Cert.MlpReferenceIdeal.Gen

end
-- ==== Proof.MlpAlgebraic.lean ====
/- THE TWO PROGRAMS AGREE: both result arrays are the same formula of the arguments, so equal arguments give equal results. -/
module

public import proofs.«01_k».proof.Proof.MlpIdeal.Value
public import proofs.«01_k».proof.Proof.MlpReference
public import proofs.«01_k».proof.Defs
public import Idealize.ShloMosaic.Lib.Claim

@[expose] public section

set_option maxRecDepth 16384

noncomputable section

open Idealize.ShloMosaic Idealize.ShloMosaic.TcCoe Idealize.SL.Sem Cert.Int4

/-! ## The arguments the host line reshapes -/

namespace Cert.MlpIdeal.Gen

variable (m : (ℓ : Loc nD τ sig) → Buf (Elt Ideal) ℓ)

theorem V_v0 (c : Dev nD) : V m c main_v0 = shapeCast S768x2560 (m ((c : Thread nD τ).loc main_arg4)) shapeCasts_S48x16x2560_S768x2560 := by entry_read; rfl
theorem V_v1 (c : Dev nD) : V m c main_v1 = shapeCast S4096x2560 (m ((c : Thread nD τ).loc main_arg2)) shapeCasts_S32x128x2560_S4096x2560 := by entry_read; rfl
theorem V_v2 (c : Dev nD) : V m c main_v2 = shapeCast S1x2560 (m ((c : Thread nD τ).loc main_arg3)) shapeCasts_S2560_S1x2560 := by entry_read; rfl
theorem V_v3 (c : Dev nD) : V m c main_v3 = shapeCast S1x2560 (m ((c : Thread nD τ).loc main_arg5)) shapeCasts_S2560_S1x2560 := by entry_read; rfl
theorem V_v4 (c : Dev nD) : V m c main_v4 = shapeCast S1x19456 (m ((c : Thread nD τ).loc main_arg7)) shapeCasts_S19456_S1x19456 := by entry_read; rfl
theorem V_v5 (c : Dev nD) : V m c main_v5 = shapeCast S1x2560 (m ((c : Thread nD τ).loc main_arg9)) shapeCasts_S2560_S1x2560 := by entry_read; rfl

/-- The result as a function of the arguments. -/
def value (a0 : Vec Ideal S768x4096 .fp8e4m3) (a1 : Vec Ideal S768x1 .f32) (a2 : Vec Ideal S32x128x2560 .fp8e4m3) (a3 : Vec Ideal S2560 .f32)
    (a4 : Vec Ideal S48x16x2560 .bf16) (a5 : Vec Ideal S2560 .f32) (a6 : Vec Ideal S1280x19456 .i8) (a7 : Vec Ideal S19456 .f32)
    (a8 : Vec Ideal S4864x2560 .i8) (a9 : Vec Ideal S2560 .f32) : FVec Ideal S768x2560 .bf16 :=
  MlpSpec.y (MlpSpec.h1 a0 a1 (shapeCast S4096x2560 a2 shapeCasts_S32x128x2560_S4096x2560) (shapeCast S1x2560 a3 shapeCasts_S2560_S1x2560)
      (shapeCast S768x2560 a4 shapeCasts_S48x16x2560_S768x2560))
    (k0_pay2 (F := Ideal) (MlpSpec.h1 a0 a1 (shapeCast S4096x2560 a2 shapeCasts_S32x128x2560_S4096x2560) (shapeCast S1x2560 a3 shapeCasts_S2560_S1x2560)
      (shapeCast S768x2560 a4 shapeCasts_S48x16x2560_S768x2560)) (shapeCast S1x2560 a5 shapeCasts_S2560_S1x2560))
    a6 (shapeCast S1x19456 a7 shapeCasts_S19456_S1x19456) a8 (shapeCast S1x2560 a9 shapeCasts_S2560_S1x2560)

theorem arr_value (c : Dev nD) : (dats m 0 c).arrAt 12 cfg0.N = value (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  rw [arr_eq, Yv_eq]
  unfold Nm Hm
  rw [V_v0, V_v1, V_v2, V_v3, V_v4, V_v5, V_main_arg0, V_main_arg1, V_main_arg6, V_main_arg8]
  rfl

end Cert.MlpIdeal.Gen

namespace Cert.MlpReferenceIdeal.Gen

variable (m : (ℓ : Loc nD τ sig) → Buf (Elt Ideal) ℓ)

theorem V_v0 (c : Dev nD) : V m c main_v0 = shapeCast S4096x2560 (m ((c : Thread nD τ).loc main_arg2)) shapeCasts_S32x128x2560_S4096x2560 := by entry_read; rfl
theorem V_v1 (c : Dev nD) : V m c main_v1 = shapeCast S1x2560 (m ((c : Thread nD τ).loc main_arg3)) shapeCasts_S2560_S1x2560 := by entry_read; rfl
theorem V_v2 (c : Dev nD) : V m c main_v2 = shapeCast S768x2560 (m ((c : Thread nD τ).loc main_arg4)) shapeCasts_S48x16x2560_S768x2560 := by entry_read; rfl
theorem V_v3 (c : Dev nD) : V m c main_v3 = shapeCast S1x2560 (m ((c : Thread nD τ).loc main_arg5)) shapeCasts_S2560_S1x2560 := by entry_read; rfl
theorem V_v4 (c : Dev nD) : V m c main_v4 = shapeCast S1x19456 (m ((c : Thread nD τ).loc main_arg7)) shapeCasts_S19456_S1x19456 := by entry_read; rfl
theorem V_v5 (c : Dev nD) : V m c main_v5 = shapeCast S1x2560 (m ((c : Thread nD τ).loc main_arg9)) shapeCasts_S2560_S1x2560 := by entry_read; rfl

/-- The two programs' norms are the same operations. -/
theorem pay3_eq (a : Vec Ideal S768x4096 .fp8e4m3) (wo : Vec Ideal S4096x2560 .fp8e4m3) (sa : Vec Ideal S768x1 .f32)
    (so : Vec Ideal S1x2560 .f32) (x : Vec Ideal S768x2560 .bf16) (w : Vec Ideal S1x2560 .f32) :
    k0_pay3 (F := Ideal) a wo sa so x w = Cert.MlpIdeal.Gen.k0_pay2 (F := Ideal) (MlpSpec.h1 a sa wo so x) w := by
  unfold k0_pay3
  rw [pay2_eq]
  unfold Cert.MlpIdeal.Gen.k0_pay2
  simp only [shapeCast_self]

theorem arr_value (c : Dev nD) : (dats m 0 c).arrAt 10 cfg0.N = Cert.MlpIdeal.Gen.value (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  rw [arr_eq]
  unfold Hm
  rw [pay3_eq, V_v0, V_v1, V_v2, V_v3, V_v4, V_v5, V_main_arg0, V_main_arg1, V_main_arg6, V_main_arg8]
  rfl

end Cert.MlpReferenceIdeal.Gen

namespace Cert.MlpAlgebraic

theorem algebraic : Cert.algebraic_MlpIdeal_MlpReferenceIdeal (hMlpIdeal := Cert.MlpIdeal.Gen.facts) (hMlpReferenceIdeal := Cert.MlpReferenceIdeal.Gen.facts) := by
  intro m g m' g' _ hargs
  have hK := (θ_run (Cert.MlpIdeal.defs (F := Ideal)) _ _).mono (fun r h c => And.intro ((h c).1 12) trivial) (Cert.MlpIdeal.Gen.run_main m g)
  have hK' := θ_run_and hK (Cert.MlpIdeal.Gen.frame (F := Ideal) m g)
  refine ⟨fun c => (Cert.MlpIdeal.Gen.dats m 0 c).arrAt 12 Cert.MlpIdeal.cfg0.N, (θ_run _ _ _).mono (fun r h c => ?_) hK', (θ_run _ _ _).mono (fun r h c => ?_) (Cert.MlpReferenceIdeal.Value.run_blocks m' g')⟩
  · exact ⟨(h.1 c).1, h.2.1 c⟩
  · obtain ⟨hv, hrest⟩ := h c
    obtain ⟨e0, e1, e2, e3, e4, e5, e6, e7, e8, e9⟩ := hargs c
    refine ⟨hv.trans ?_, hrest⟩
    refine (Cert.MlpReferenceIdeal.Gen.arr_value m' c).trans (Eq.trans ?_ (Cert.MlpIdeal.Gen.arr_value m c).symm)
    rw [e0, e1, e2, e3, e4, e5, e6, e7, e8, e9]

end Cert.MlpAlgebraic

end
-- ==== Proof.Held.lean ====
/- BUFFERS HELD WHOLE, AND PARTS OF THEM. A whole buffer held at the contents that read `X`, with no existential; the window of a
   rank-two array at an offset, with indices reduced so that no bound is asked; four strips of columns side by side. -/
module

public import proofs.«01_k».proof.Proof.Loads
public import Idealize.ShloMosaic.Lib.ValueIdxCore
public import Idealize.ShloMosaic.Lib.WholeRead

@[expose] public section

noncomputable section

namespace Cert.Held

open Idealize.ShloMosaic
open Idealize.SL
open Idealize.SL.BI (sProp)
open scoped Idealize.SL.BI
open Idealize.SL.BI.BIBase Idealize.SL.BI.Laws Idealize.SL.ProofMode Idealize.SL.Sem
open Idealize.SL.RA
open Idealize.ShloMosaic.ValueIdx (ix1 ix2)

section own

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Owning a whole memref at the values `X` is holding its buffer at the contents that read `X`. -/
theorem owns_eq (c : Thread nD τ) {sp : Space} {sh : Shape} {e : EltTy} {m : Memref sig c.2.kind sp sh e} (h : m.IsWhole) (q : PosShare TreeShare) (X : sh.Idx → Val e) :
    (owns c m q X : sProp 𝕄) = (m.view.loc c ↦[m.view.set]{q} h.unread X) := by
  refine Idealize.SL.BI.Entails.antisymm ?_ ?_
  · show owns c m q X ⊢ (m.view.loc c ↦[m.view.set]{q} h.unread X); unfold owns
    iintro ⟨%f, %hf, H⟩
    obtain rfl := h.eq_unread hf
    iexact H
  · show (m.view.loc c ↦[m.view.set]{q} h.unread X) ⊢ owns c m q X; unfold owns
    iintro H
    iexists _
    isplitr; swap; · iexact H
    ipureintro; exact h.read_unread X

/-- Contents that read `X` are the ones held. -/
theorem raw_of_read (c : Thread nD τ) {sp : Space} {sh : Shape} {e : EltTy} {m : Memref sig c.2.kind sp sh e} (h : m.IsWhole) (q : PosShare TreeShare) (X : sh.Idx → Val e) :
    (iprop(∃ f, ⌜m.view.read Val f = X⌝ ∗ (m.view.loc c ↦[m.view.set]{q} f)) : sProp 𝕄) ⊢ (m.view.loc c ↦[m.view.set]{q} h.unread X) :=
  (by unfold owns; exact .rfl : _ ⊢ owns c m q X).trans (by rw [owns_eq c h q X])

end own

/-- The window of an array of rank two at the offsets `o`, each index reduced. -/
def sub {α : Type} {n0 n1 : ℕ} [NeZero n0] [NeZero n1] (k0 k1 : ℕ) (X : (⟨2, ![n0, n1]⟩ : Shape).Idx → α) (o : Fin 2 → ℕ) : (⟨2, ![k0, k1]⟩ : Shape).Idx → α :=
  fun j => X (ix2 (Fin.ofNat n0 (o 0 + (j 0).val)) (Fin.ofNat n1 (o 1 + (j 1).val)))

section
variable {sig : RefSig} {κ : Kind} {sp : Space} {e : EltTy} {Val : EltTy → Type} {n0 n1 k0 k1 : ℕ}

/-- A load of a part of a buffer held at the contents that read `X` reads that window of `X`. -/
theorem load_sub [NeZero n0] [NeZero n1] (m : Memref sig κ sp ⟨2, ![n0, n1]⟩ e) (h : m.IsWhole) (X : (⟨2, ![n0, n1]⟩ : Shape).Idx → Val e) (o : Fin 2 → ℕ)
    (inb : ∀ a, o a + (![k0, k1] : Fin 2 → ℕ) a ≤ (⟨2, ![n0, n1]⟩ : Shape).size a) :
    View.readAt Val m.view (Rect.unit (s := ⟨2, ![n0, n1]⟩) o ![k0, k1] inb).toLoadRect (h.unread X) = sub k0 k1 X o := by
  funext y
  rw [h.readAt_unread]
  refine congrArg X (funext fun a => Fin.ext ?_)
  have h0 := inb 0
  have h1 := inb 1
  have y0 : (y 0).val < k0 := (y 0).isLt
  have y1 : (y 1).val < k1 := (y 1).isLt
  fin_cases a
  · show o 0 + 1 * (y 0).val = (o 0 + (y 0).val) % n0
    have : o 0 + k0 ≤ n0 := h0
    rw [Nat.mod_eq_of_lt (by omega)]; omega
  · show o 1 + 1 * (y 1).val = (o 1 + (y 1).val) % n1
    have : o 1 + k1 ≤ n1 := h1
    rw [Nat.mod_eq_of_lt (by omega)]; omega

/-- A load of a part of a buffer of rank two, whatever it holds. -/
theorem load_sub_any [NeZero n0] [NeZero n1] (v : View sig κ sp ⟨2, ![n0, n1]⟩ e) (f : v.ty.Contents Val) (o : Fin 2 → ℕ)
    (inb : ∀ a, o a + (![k0, k1] : Fin 2 → ℕ) a ≤ (⟨2, ![n0, n1]⟩ : Shape).size a) :
    View.readAt Val v (Rect.unit (s := ⟨2, ![n0, n1]⟩) o ![k0, k1] inb).toLoadRect f = sub k0 k1 (v.read Val f) o := by
  funext y
  refine congrArg (v.read Val f) (funext fun a => Fin.ext ?_)
  have h0 := inb 0
  have h1 := inb 1
  have y0 : (y 0).val < k0 := (y 0).isLt
  have y1 : (y 1).val < k1 := (y 1).isLt
  fin_cases a
  · show o 0 + 1 * (y 0).val = (o 0 + (y 0).val) % n0
    have : o 0 + k0 ≤ n0 := h0
    rw [Nat.mod_eq_of_lt (by omega)]; omega
  · show o 1 + 1 * (y 1).val = (o 1 + (y 1).val) % n1
    have : o 1 + k1 ≤ n1 := h1
    rw [Nat.mod_eq_of_lt (by omega)]; omega

/-- The part that is all of it. -/
theorem sub_all {α : Type} [NeZero n0] [NeZero n1] (X : (⟨2, ![n0, n1]⟩ : Shape).Idx → α) : sub n0 n1 X ![0, 0] = X := by
  funext y
  refine congrArg X (funext fun a => Fin.ext ?_)
  have y0 : (y 0).val < n0 := (y 0).isLt
  have y1 : (y 1).val < n1 := (y 1).isLt
  fin_cases a
  · show (0 + (y 0).val) % n0 = (y 0).val
    rw [Nat.zero_add, Nat.mod_eq_of_lt y0]
  · show (0 + (y 1).val) % n1 = (y 1).val
    rw [Nat.zero_add, Nat.mod_eq_of_lt y1]

/-- A load of one element of a buffer of rank one. -/
theorem load_one {n : ℕ} [NeZero n] (m : Memref sig κ sp ⟨1, ![n]⟩ e) (h : m.IsWhole) (X : (⟨1, ![n]⟩ : Shape).Idx → Val e) (o : Fin 1 → ℕ)
    (inb : ∀ a, o a + (![1] : Fin 1 → ℕ) a ≤ (⟨1, ![n]⟩ : Shape).size a) (y : (Rect.unit (s := ⟨1, ![n]⟩) o ![1] inb).toLoadRect.shape.Idx) :
    View.readAt Val m.view (Rect.unit (s := ⟨1, ![n]⟩) o ![1] inb).toLoadRect (h.unread X) y = X (ix1 (Fin.ofNat n (o 0))) := by
  rw [h.readAt_unread]
  refine congrArg X (funext fun a => Fin.ext ?_)
  have h0 := inb 0
  have y0 : (y 0).val < 1 := (y 0).isLt
  fin_cases a
  show o 0 + 1 * (y 0).val = (o 0) % n
  have : o 0 + 1 ≤ n := h0
  rw [Nat.mod_eq_of_lt (by omega)]; omega

end

/-- Four strips of 128 columns side by side. -/
def strips {α : Type} {n0 : ℕ} (P : ℕ → (⟨2, ![n0, 128]⟩ : Shape).Idx → α) : (⟨2, ![n0, 512]⟩ : Shape).Idx → α :=
  fun j => P ((j 1).val / 128) (ix2 (j 0) ⟨(j 1).val % 128, Nat.mod_lt _ (by decide)⟩)

theorem put_strip {α : Type} {n0 : ℕ} (X : (⟨2, ![n0, 512]⟩ : Shape).Idx → α) (w : (⟨2, ![n0, 128]⟩ : Shape).Idx → α) (o : ℕ) (j : (⟨2, ![n0, 512]⟩ : Shape).Idx)
    (k : ℕ) (ho : o = 128 * k) :
    VecWindow.put X ![0, o] ![n0, 128] w j = if (j 1).val / 128 = k then w (ix2 (j 0) ⟨(j 1).val % 128, Nat.mod_lt _ (by decide)⟩) else X j := by
  have hj0 : (j 0).val < n0 := (j 0).isLt
  unfold VecWindow.put
  by_cases hk : (j 1).val / 128 = k
  · rw [if_pos hk, dif_pos]
    · refine congrArg w (funext fun a => Fin.ext ?_)
      fin_cases a
      · show (j 0).val - 0 = (j 0).val; omega
      · show (j 1).val - o = (j 1).val % 128; omega
    · intro a
      fin_cases a
      · exact ⟨Nat.zero_le _, show (j 0).val < 0 + n0 by omega⟩
      · exact ⟨show o ≤ (j 1).val by omega, show (j 1).val < o + 128 by omega⟩
  · rw [if_neg hk, dif_neg]
    intro hall
    have h1 : o ≤ (j 1).val := (hall 1).1
    have h2 : (j 1).val < o + 128 := (hall 1).2
    omega

/-- Storing the four strips one after another leaves them side by side, whatever was there before. -/
theorem put4 {α : Type} {n0 : ℕ} (X : (⟨2, ![n0, 512]⟩ : Shape).Idx → α) (P : ℕ → (⟨2, ![n0, 128]⟩ : Shape).Idx → α) :
    VecWindow.put (VecWindow.put (VecWindow.put (VecWindow.put X ![0, 0] ![n0, 128] (P 0)) ![0, 128] ![n0, 128] (P 1)) ![0, 256] ![n0, 128] (P 2)) ![0, 384] ![n0, 128] (P 3)
      = strips P := by
  funext j
  have hj1 : (j 1).val < 512 := (j 1).isLt
  rw [put_strip _ _ _ _ 3 rfl, put_strip _ _ _ _ 2 rfl, put_strip _ _ _ _ 1 rfl, put_strip _ _ _ _ 0 rfl]
  unfold strips
  have : (j 1).val / 128 = 0 ∨ (j 1).val / 128 = 1 ∨ (j 1).val / 128 = 2 ∨ (j 1).val / 128 = 3 := by omega
  rcases this with h | h | h | h <;> simp [h]

end Cert.Held

end
-- ==== Proof.ProjIdeal.Heads.lean ====
/- ONE HEAD. The printed body writes its heads out one after another, each cut up differently among the printed terms; each of them is
   one and the same function of the head's inputs. -/
module

public import proofs.«01_k».proof.Proof.Gen.ProjIdeal.Frame
public import proofs.«01_k».proof.Proof.Gen.ProjIdeal.Skeleton
public import proofs.«01_k».proof.Proof.Held

@[expose] public section

set_option maxRecDepth 65536

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat Cfg Window BodyObligation cellOf)
open Cert.Held (sub strips put4)

variable {F : FTy → Type} [FloatOps F]

local notation "𝕄" => MT nD τ sig Unit (Elt F) ℕ (UR sig nD τ) ℕ

/-! ## One head -/

/-- One head of 128 columns of a query or block key tile: scaled, normed, rotated. -/
def qHead (v : Vec F S768x128 .f32) (sc : Vec F S768x1 .f32) (sq : Vec F S1x128 .f32) (w : Vec F S1x128 .f32) (co si : Vec F S768x128 .f32) : Vec F S768x128 .bf16 :=
  k0_pay14 (k0_pay10 v sc sq w co) (k0_pay11 v sc sq w) (k0_pay12 si) (k0_pay13 (F := F))
/-- One head of a context key tile: the same, then quantised with the head's static scale. -/
def kHead (v : Vec F S768x128 .f32) (sc : Vec F S768x1 .f32) (sq : Vec F S1x128 .f32) (w : Vec F S1x128 .f32) (co si : Vec F S768x128 .f32) (s : Elt F .f32) : Vec F S768x128 .fp8e4m3 :=
  k0_pay68 (k0_pay50 v sc sq w) (iota .tc S1x128 32 [1] iota_S1x128_d1_w32) k0_pay51 co si s
/-- One head of a block value tile: scaled. -/
def vbHead (v : Vec F S768x128 .f32) (sc : Vec F S768x1 .f32) (sq : Vec F S1x128 .f32) : Vec F S768x128 .bf16 := k0_pay52 v sc sq
/-- One head of a context value tile: scaled, then quantised with the head's static scale. -/
def vHead (v : Vec F S768x128 .f32) (sc : Vec F S768x1 .f32) (sq : Vec F S1x128 .f32) (s : Elt F .f32) : Vec F S768x128 .fp8e4m3 := k0_pay60 v sc sq s

/-! ## The printed heads are these -/

theorem qHead_0 (v : Vec F S768x128 .f32) (sc : Vec F S768x1 .f32) (sq : Vec F S1x128 .f32) (w : Vec F S1x128 .f32) (co si : Vec F S768x128 .f32) : k0_pay14 (k0_pay10 v sc sq w co) (k0_pay11 v sc sq w) (k0_pay12 si) k0_pay13 = qHead v sc sq w co si := rfl
theorem qHead_1 (v : Vec F S768x128 .f32) (sc : Vec F S768x1 .f32) (sq : Vec F S1x128 .f32) (w : Vec F S1x128 .f32) (co si : Vec F S768x128 .f32) : k0_pay18 (k0_pay15 v sc sq w) k0_pay16 (k0_pay17 v sc sq w co) 64#32 si = qHead v sc sq w co si := rfl
theorem qHead_2 (v : Vec F S768x128 .f32) (sc : Vec F S768x1 .f32) (sq : Vec F S1x128 .f32) (w : Vec F S1x128 .f32) (co si : Vec F S768x128 .f32) : k0_pay21 (k0_pay19 v sc sq w) k0_pay20 co si = qHead v sc sq w co si := rfl
theorem qHead_3 (v : Vec F S768x128 .f32) (sc : Vec F S768x1 .f32) (sq : Vec F S1x128 .f32) (w : Vec F S1x128 .f32) (co si : Vec F S768x128 .f32) : k0_pay67 (k0_pay22 v sc sq w) (iota .tc S1x128 32 [1] iota_S1x128_d1_w32) k0_pay23 co si = qHead v sc sq w co si := rfl
theorem qHead_4 (v : Vec F S768x128 .f32) (sc : Vec F S768x1 .f32) (sq : Vec F S1x128 .f32) (w : Vec F S1x128 .f32) (co si : Vec F S768x128 .f32) : k0_pay28 k0_pay25 (k0_pay26 v sc sq w co) (k0_pay27 v sc sq w) si = qHead v sc sq w co si := rfl
theorem qHead_5 (v : Vec F S768x128 .f32) (sc : Vec F S768x1 .f32) (sq : Vec F S1x128 .f32) (w : Vec F S1x128 .f32) (co si : Vec F S768x128 .f32) : k0_pay31 (k0_pay29 v sc sq w) k0_pay30 co si = qHead v sc sq w co si := rfl
theorem qHead_6 (v : Vec F S768x128 .f32) (sc : Vec F S768x1 .f32) (sq : Vec F S1x128 .f32) (w : Vec F S1x128 .f32) (co si : Vec F S768x128 .f32) : k0_pay34 (k0_pay32 v sc sq w) k0_pay33 (Scalar.ofBits .f32 0xBF800000#32) co si = qHead v sc sq w co si := rfl
theorem qHead_7 (v : Vec F S768x128 .f32) (sc : Vec F S768x1 .f32) (sq : Vec F S1x128 .f32) (w : Vec F S1x128 .f32) (co si : Vec F S768x128 .f32) : k0_pay37 (k0_pay35 v sc sq) (k0_pay36 w) co si = qHead v sc sq w co si := rfl
theorem kHead_0 (v : Vec F S768x128 .f32) (sc : Vec F S768x1 .f32) (sq : Vec F S1x128 .f32) (w : Vec F S1x128 .f32) (co si : Vec F S768x128 .f32) (s : Elt F .f32) : k0_pay42 (k0_pay38 v sc sq) (k0_pay39 w) (k0_pay40 v sc sq) k0_pay41 co si s = kHead v sc sq w co si s := rfl
theorem kHead_1 (v : Vec F S768x128 .f32) (sc : Vec F S768x1 .f32) (sq : Vec F S1x128 .f32) (w : Vec F S1x128 .f32) (co si : Vec F S768x128 .f32) (s : Elt F .f32) : k0_pay44 (k0_pay43 v sc) sq w co si s = kHead v sc sq w co si s := rfl
theorem kHead_2 (v : Vec F S768x128 .f32) (sc : Vec F S768x1 .f32) (sq : Vec F S1x128 .f32) (w : Vec F S1x128 .f32) (co si : Vec F S768x128 .f32) (s : Elt F .f32) : k0_pay49 (k0_pay46 v sc sq w co) (k0_pay47 v sc sq w) si k0_pay48 s = kHead v sc sq w co si s := rfl
theorem kHead_3 (v : Vec F S768x128 .f32) (sc : Vec F S768x1 .f32) (sq : Vec F S1x128 .f32) (w : Vec F S1x128 .f32) (co si : Vec F S768x128 .f32) (s : Elt F .f32) : k0_pay68 (k0_pay50 v sc sq w) (iota .tc S1x128 32 [1] iota_S1x128_d1_w32) k0_pay51 co si s = kHead v sc sq w co si s := rfl
theorem vbHead_0 (v : Vec F S768x128 .f32) (sc : Vec F S768x1 .f32) (sq : Vec F S1x128 .f32) : k0_pay52 v sc sq = vbHead v sc sq := rfl
theorem vbHead_1 (v : Vec F S768x128 .f32) (sc : Vec F S768x1 .f32) (sq : Vec F S1x128 .f32) : k0_pay53 v sc sq = vbHead v sc sq := rfl
theorem vbHead_2 (v : Vec F S768x128 .f32) (sc : Vec F S768x1 .f32) (sq : Vec F S1x128 .f32) : k0_pay54 v sc sq = vbHead v sc sq := rfl
theorem vbHead_3 (v : Vec F S768x128 .f32) (sc : Vec F S768x1 .f32) (sq : Vec F S1x128 .f32) : k0_pay55 v sc sq = vbHead v sc sq := rfl
theorem vHead_0 (v : Vec F S768x128 .f32) (sc : Vec F S768x1 .f32) (sq : Vec F S1x128 .f32) (s : Elt F .f32) : k0_pay57 (k0_pay56 v sc sq) s = vHead v sc sq s := rfl
theorem vHead_1 (v : Vec F S768x128 .f32) (sc : Vec F S768x1 .f32) (sq : Vec F S1x128 .f32) (s : Elt F .f32) : k0_pay58 v sc sq s = vHead v sc sq s := rfl
theorem vHead_2 (v : Vec F S768x128 .f32) (sc : Vec F S768x1 .f32) (sq : Vec F S1x128 .f32) (s : Elt F .f32) : k0_pay59 v sc sq s = vHead v sc sq s := rfl
theorem vHead_3 (v : Vec F S768x128 .f32) (sc : Vec F S768x1 .f32) (sq : Vec F S1x128 .f32) (s : Elt F .f32) : k0_pay60 v sc sq s = vHead v sc sq s := rfl

end Cert.ProjIdeal.Gen

end
-- ==== Proof.ProjIdeal.State.lean ====
/- THE VALUES THE POINTS LEAVE. What each point makes of the buffers it is handed, as a function of the state (`next`), the values that
   are built up from point to point in closed form, and that a state in which they are right so far is taken to one in which they are right
   one point further. -/
module

public import proofs.«01_k».proof.Proof.Gen.ProjIdeal.Frame
public import proofs.«01_k».proof.Proof.Gen.ProjIdeal.Skeleton
public import proofs.«01_k».proof.Proof.ProjIdeal.Heads

@[expose] public section

set_option maxRecDepth 65536

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat Cfg Window BodyObligation cellOf)
open Cert.Held (sub strips put4)

variable {F : FTy → Type} [FloatOps F]

variable (m : (ℓ : Loc nD τ sig) → Buf (Elt F) ℓ)

local notation "𝕄" => MT nD τ sig Unit (Elt F) ℕ (UR sig nD τ) ℕ

/-- The grid's point number `n`. -/
def pt (n : ℕ) : Fin cfg0.N := ⟨n % 23, lt_of_lt_of_eq (Nat.mod_lt n (by decide)) (show 23 = cfg0.N from N_0.symm)⟩

theorem pt_val (t : Fin cfg0.N) : pt t.val = t :=
  Fin.ext (Nat.mod_eq_of_lt (lt_of_lt_of_eq t.isLt (show cfg0.N = 23 from N_0)))

/-! ## The values -/

/-- The codes and scales of the stream's rows, row block by row block. -/
def X6 (c : Dev nD) : Vec F S768x2560 .fp8e4m3 := fun j =>
  k0_pay65 (iblk m c 4 (pt ((j 0).val / 96))) (iblk m c 5 (pt ((j 0).val / 96))) (ix2 ⟨(j 0).val % 96, Nat.mod_lt _ (by decide)⟩ (j 1))
def XS (c : Dev nD) : Vec F S768x1 .f32 := fun j =>
  k0_pay64 (iblk m c 4 (pt ((j 0).val / 96))) (iblk m c 5 (pt ((j 0).val / 96))) (ix2 ⟨(j 0).val % 96, Nat.mod_lt _ (by decide)⟩ (j 1))
/-- The accumulator of the first product with its first `n` tiles folded in. -/
def Hs (c : Dev nD) : ℕ → Vec F S768x2560 .f32
  | 0 => k0_pay61
  | n + 1 => k0_pay62 (Hs c n) (iblk m c 0 (pt n)) (iblk m c 1 (pt n))
/-- Rows `96 b ..` of the first product. -/
def Hrow (c : Dev nD) (b : ℕ) : Vec F S96x2560 .f32 := sub 96 2560 (Hs m c 10) ![96 * b, 0]
/-- The row blocks of the two results made from it, at point `t`. -/
def T0 (c : Dev nD) (t : ℕ) : Vec F S96x2560 .bf16 := k0_pay6 (Hrow m c (t - 10)) (iblk m c 2 (pt t)) (iblk m c 3 (pt t))
def T1 (c : Dev nD) (t : ℕ) : Vec F S96x2560 .bf16 := k0_pay4 (Hrow m c (t - 10)) (iblk m c 2 (pt t))
/-- The codes and scales of the context's rows, row block by row block. -/
def CC (c : Dev nD) : Vec F S768x2560 .fp8e4m3 := fun j =>
  k0_pay66 (Scalar.ofBits .f32 0x43E00000#32) (k0_pay8 (Hrow m c ((j 0).val / 96)) (iblk m c 2 (pt ((j 0).val / 96 + 10))) (iblk m c 3 (pt ((j 0).val / 96 + 10))))
    (ix2 ⟨(j 0).val % 96, Nat.mod_lt _ (by decide)⟩ (j 1))
def CS (c : Dev nD) : Vec F S768x1 .f32 := fun j =>
  k0_pay7 (Hrow m c ((j 0).val / 96)) (iblk m c 2 (pt ((j 0).val / 96 + 10))) (iblk m c 3 (pt ((j 0).val / 96 + 10)))
    (ix2 ⟨(j 0).val % 96, Nat.mod_lt _ (by decide)⟩ (j 1))
/-- The products of the codes with the projection's tile of columns at point `n`. -/
def AX (c : Dev nD) (n : ℕ) : Vec F S768x512 .f32 := k0_pay1 (X6 m c) (iblk m c 6 (pt n))
def AC (c : Dev nD) (n : ℕ) : Vec F S768x512 .f32 := k0_pay2 (CC m c) (iblk m c 6 (pt n))
/-- The tiles of the head results, at point `t`, from the products of the point before. -/
def T8 (c : Dev nD) (t : ℕ) : Vec F S768x512 .bf16 := strips fun k =>
  qHead (sub 768 128 (AX m c (t - 1)) ![0, 128 * k]) (XS m c) (sub 1 128 (iblk m c 7 (pt t)) (k0_off5 (grid0.coords (pt t)) (BitVec.ofNat 32 (128 * k)))) (iblk m c 8 (pt t)) (iblk m c 12 (pt t)) (iblk m c 13 (pt t))
def T9 (c : Dev nD) (t : ℕ) : Vec F S768x512 .bf16 := strips fun k =>
  qHead (sub 768 128 (AX m c (t - 1)) ![0, 128 * k]) (XS m c) (sub 1 128 (iblk m c 7 (pt t)) (k0_off6 (grid0.coords (pt t)) (BitVec.ofNat 32 (128 * k)))) (iblk m c 9 (pt t)) (iblk m c 12 (pt t)) (iblk m c 13 (pt t))
def T4 (c : Dev nD) (t : ℕ) : Vec F S768x512 .fp8e4m3 := strips fun k =>
  kHead (sub 768 128 (AC m c (t - 1)) ![0, 128 * k]) (CS m c) (sub 1 128 (iblk m c 7 (pt t)) (k0_off6 (grid0.coords (pt t)) (BitVec.ofNat 32 (128 * k)))) (iblk m c 9 (pt t)) (iblk m c 10 (pt t)) (iblk m c 11 (pt t))
    ((iblk m c 14 (pt t) : Vec F S8 .f32) (ix1 (Fin.ofNat 8 (k0_off7 (grid0.coords (pt t)) (BitVec.ofNat 32 k) 0))))
def T10 (c : Dev nD) (t : ℕ) : Vec F S768x512 .bf16 := strips fun k =>
  vbHead (sub 768 128 (AX m c (t - 1)) ![0, 128 * k]) (XS m c) (sub 1 128 (iblk m c 7 (pt t)) (k0_off8 (grid0.coords (pt t)) (BitVec.ofNat 32 (128 * k))))
def T5 (c : Dev nD) (t : ℕ) : Vec F S768x512 .fp8e4m3 := strips fun k =>
  vHead (sub 768 128 (AC m c (t - 1)) ![0, 128 * k]) (CS m c) (sub 1 128 (iblk m c 7 (pt t)) (k0_off8 (grid0.coords (pt t)) (BitVec.ofNat 32 (128 * k))))
    ((iblk m c 15 (pt t) : Vec F S8 .f32) (ix1 (Fin.ofNat 8 (k0_off9 (grid0.coords (pt t)) (BitVec.ofNat 32 k) 0))))

/-! ## The state and its step -/

/-- What the eleven result windows and the three scratches hold. -/
structure St (F : FTy → Type) [FloatOps F] where
  y0 : Vec F S96x2560 .bf16
  y1 : Vec F S96x2560 .bf16
  y2 : Vec F S768x2560 .fp8e4m3
  y3 : Vec F S768x1 .f32
  y4 : Vec F S768x512 .fp8e4m3
  y5 : Vec F S768x512 .fp8e4m3
  y6 : Vec F S768x2560 .fp8e4m3
  y7 : Vec F S768x1 .f32
  y8 : Vec F S768x512 .bf16
  y9 : Vec F S768x512 .bf16
  y10 : Vec F S768x512 .bf16
  s0 : Vec F S768x2560 .f32
  s1 : Vec F S768x512 .f32
  s2 : Vec F S768x512 .f32

/-- What point `t` makes of it. -/
def next (c : Dev nD) (t : Fin cfg0.N) (S : St F) : St F where
  y0 := if 10 ≤ t.val ∧ t.val ≤ 17 then k0_pay6 (sub 96 2560 S.s0 (k0_off3 (grid0.coords t))) (iblk m c 2 t) (iblk m c 3 t) else S.y0
  y1 := if 10 ≤ t.val ∧ t.val ≤ 17 then k0_pay4 (sub 96 2560 S.s0 (k0_off3 (grid0.coords t))) (iblk m c 2 t) else S.y1
  y2 := if 10 ≤ t.val ∧ t.val ≤ 17 then VecWindow.put S.y2 (k0_off3 (grid0.coords t)) S96x2560.size (k0_pay66 (Scalar.ofBits .f32 0x43E00000#32) (k0_pay8 (sub 96 2560 S.s0 (k0_off3 (grid0.coords t))) (iblk m c 2 t) (iblk m c 3 t))) else S.y2
  y3 := if 10 ≤ t.val ∧ t.val ≤ 17 then VecWindow.put S.y3 (k0_off4 (grid0.coords t)) S96x1.size (k0_pay7 (sub 96 2560 S.s0 (k0_off3 (grid0.coords t))) (iblk m c 2 t) (iblk m c 3 t)) else S.y3
  y4 := if 19 ≤ t.val ∧ t.val ≤ 20 then (strips fun k => kHead (sub 768 128 S.s2 ![0, 128 * k]) S.y3 (sub 1 128 (iblk m c 7 t) (k0_off6 (grid0.coords t) (BitVec.ofNat 32 (128 * k)))) (iblk m c 9 t) (iblk m c 10 t) (iblk m c 11 t) ((iblk m c 14 t : Vec F S8 .f32) (ix1 (Fin.ofNat 8 (k0_off7 (grid0.coords t) (BitVec.ofNat 32 k) 0))))) else S.y4
  y5 := if 21 ≤ t.val then (strips fun k => vHead (sub 768 128 S.s2 ![0, 128 * k]) S.y3 (sub 1 128 (iblk m c 7 t) (k0_off8 (grid0.coords t) (BitVec.ofNat 32 (128 * k)))) ((iblk m c 15 t : Vec F S8 .f32) (ix1 (Fin.ofNat 8 (k0_off9 (grid0.coords t) (BitVec.ofNat 32 k) 0))))) else S.y5
  y6 := if t.val < 8 then VecWindow.put S.y6 (k0_off1 (grid0.coords t)) S96x2560.size (k0_pay65 (iblk m c 4 t) (iblk m c 5 t)) else S.y6
  y7 := if t.val < 8 then VecWindow.put S.y7 (k0_off2 (grid0.coords t)) S96x1.size (k0_pay64 (iblk m c 4 t) (iblk m c 5 t)) else S.y7
  y8 := if 11 ≤ t.val ∧ t.val ≤ 18 then (strips fun k => qHead (sub 768 128 S.s1 ![0, 128 * k]) S.y7 (sub 1 128 (iblk m c 7 t) (k0_off5 (grid0.coords t) (BitVec.ofNat 32 (128 * k)))) (iblk m c 8 t) (iblk m c 12 t) (iblk m c 13 t)) else S.y8
  y9 := if 19 ≤ t.val ∧ t.val ≤ 20 then (strips fun k => qHead (sub 768 128 S.s1 ![0, 128 * k]) S.y7 (sub 1 128 (iblk m c 7 t) (k0_off6 (grid0.coords t) (BitVec.ofNat 32 (128 * k)))) (iblk m c 9 t) (iblk m c 12 t) (iblk m c 13 t)) else S.y9
  y10 := if 21 ≤ t.val then (strips fun k => vbHead (sub 768 128 S.s1 ![0, 128 * k]) S.y7 (sub 1 128 (iblk m c 7 t) (k0_off8 (grid0.coords t) (BitVec.ofNat 32 (128 * k))))) else S.y10
  s0 := if t.val < 10 then (if t.val = 0 then k0_pay62 (k0_pay61 (F := F)) (iblk m c 0 t) (iblk m c 1 t) else k0_pay62 S.s0 (iblk m c 0 t) (iblk m c 1 t)) else S.s0
  s1 := if 10 ≤ t.val ∧ t.val ≤ 21 then k0_pay1 S.y6 (iblk m c 6 t) else S.s1
  s2 := if 18 ≤ t.val ∧ t.val ≤ 21 then k0_pay2 S.y2 (iblk m c 6 t) else S.s2

/-- A buffer of 768 rows is right up to row `k`. -/
def UpTo {α : Type} {n : ℕ} (k : ℕ) (X Y : (⟨2, ![768, n]⟩ : Shape).Idx → α) : Prop := ∀ j, (j 0).val < k → X j = Y j

theorem UpTo.full {α : Type} {n k : ℕ} {X Y : (⟨2, ![768, n]⟩ : Shape).Idx → α} (h : UpTo k X Y) (hk : 768 ≤ k) : X = Y :=
  funext fun j => h j (lt_of_lt_of_le (show (j 0).val < 768 from (j 0).isLt) hk)

/-- One more block of 96 rows. -/
theorem UpTo.block {α : Type} {n b : ℕ} {X Y : (⟨2, ![768, n]⟩ : Shape).Idx → α} (h : UpTo (96 * b) X Y) (w : (⟨2, ![96, n]⟩ : Shape).Idx → α)
    (o : Fin 2 → ℕ) (ho : o = ![96 * b, 0])
    (hw : ∀ j, (j 0).val / 96 = b → w (ix2 ⟨(j 0).val % 96, Nat.mod_lt _ (by decide)⟩ (j 1)) = Y j) :
    UpTo (96 * (b + 1)) (VecWindow.put X o ![96, n] w) Y := by
  subst ho
  intro j hj
  have hj1 : (j 1).val < n := (j 1).isLt
  unfold VecWindow.put
  by_cases hlt : (j 0).val < 96 * b
  · rw [dif_neg]
    · exact h j hlt
    · intro hall
      have h0 : 96 * b ≤ (j 0).val := (hall 0).1
      omega
  · have e : (j 0).val / 96 = b := by omega
    rw [dif_pos]
    · refine Eq.trans (congrArg w (funext fun a => Fin.ext ?_)) (hw j e)
      fin_cases a
      · show (j 0).val - 96 * b = (j 0).val % 96; omega
      · show (j 1).val - 0 = (j 1).val; omega
    · intro a
      fin_cases a
      · exact ⟨show 96 * b ≤ (j 0).val by omega, show (j 0).val < 96 * b + 96 by omega⟩
      · exact ⟨Nat.zero_le _, show (j 1).val < 0 + n by omega⟩

/-- What the scratches hold before point `n`. -/
def Inv (c : Dev nD) (n : ℕ) (s0 : Vec F S768x2560 .f32) (s1 s2 : Vec F S768x512 .f32) : Prop :=
  (1 ≤ n → s0 = Hs m c (min n 10)) ∧ (11 ≤ n → n ≤ 22 → s1 = AX m c (n - 1)) ∧ (19 ≤ n → n ≤ 22 → s2 = AC m c (n - 1))

/-- What the body leaves in each result window at point `t`. -/
def R0 (c : Dev nD) (t : ℕ) (X : Vec F S96x2560 .bf16) : Prop := 10 ≤ t → X = T0 m c (min t 17)
def R1 (c : Dev nD) (t : ℕ) (X : Vec F S96x2560 .bf16) : Prop := 10 ≤ t → X = T1 m c (min t 17)
def R2 (c : Dev nD) (t : ℕ) (X : Vec F S768x2560 .fp8e4m3) : Prop := UpTo (96 * (min (t + 1) 18 - 10)) X (CC m c)
def R3 (c : Dev nD) (t : ℕ) (X : Vec F S768x1 .f32) : Prop := UpTo (96 * (min (t + 1) 18 - 10)) X (CS m c)
def R4 (c : Dev nD) (t : ℕ) (X : Vec F S768x512 .fp8e4m3) : Prop := 19 ≤ t → X = T4 m c (min t 20)
def R5 (c : Dev nD) (t : ℕ) (X : Vec F S768x512 .fp8e4m3) : Prop := 21 ≤ t → X = T5 m c t
def R6 (c : Dev nD) (t : ℕ) (X : Vec F S768x2560 .fp8e4m3) : Prop := UpTo (96 * min (t + 1) 8) X (X6 m c)
def R7 (c : Dev nD) (t : ℕ) (X : Vec F S768x1 .f32) : Prop := UpTo (96 * min (t + 1) 8) X (XS m c)
def R8 (c : Dev nD) (t : ℕ) (X : Vec F S768x512 .bf16) : Prop := 11 ≤ t → X = T8 m c (min t 18)
def R9 (c : Dev nD) (t : ℕ) (X : Vec F S768x512 .bf16) : Prop := 19 ≤ t → X = T9 m c (min t 20)
def R10 (c : Dev nD) (t : ℕ) (X : Vec F S768x512 .bf16) : Prop := 21 ≤ t → X = T10 m c t

/-- What point `t` finds. Of a result's window it is what the point before left, except where that one was written back. -/
structure Found (c : Dev nD) (t : Fin cfg0.N) (S : St F) : Prop where
  inv : Inv m c t.val S.s0 S.s1 S.s2
  f0 : 18 ≤ t.val → R0 m c (t.val - 1) S.y0
  f1 : 18 ≤ t.val → R1 m c (t.val - 1) S.y1
  f2 : 1 ≤ t.val → R2 m c (t.val - 1) S.y2
  f3 : 1 ≤ t.val → R3 m c (t.val - 1) S.y3
  f4 : 21 ≤ t.val → R4 m c (t.val - 1) S.y4
  f6 : 1 ≤ t.val → R6 m c (t.val - 1) S.y6
  f7 : 1 ≤ t.val → R7 m c (t.val - 1) S.y7
  f8 : 19 ≤ t.val → R8 m c (t.val - 1) S.y8
  f9 : 21 ≤ t.val → R9 m c (t.val - 1) S.y9

/-- What point `t` leaves. -/
structure Left (c : Dev nD) (t : Fin cfg0.N) (S : St F) : Prop where
  inv : Inv m c (t.val + 1) S.s0 S.s1 S.s2
  r0 : R0 m c t.val S.y0
  r1 : R1 m c t.val S.y1
  r2 : R2 m c t.val S.y2
  r3 : R3 m c t.val S.y3
  r4 : R4 m c t.val S.y4
  r5 : R5 m c t.val S.y5
  r6 : R6 m c t.val S.y6
  r7 : R7 m c t.val S.y7
  r8 : R8 m c t.val S.y8
  r9 : R9 m c t.val S.y9
  r10 : R10 m c t.val S.y10

theorem off1_val : ∀ t : Fin cfg0.N, t.val < 8 → k0_off1 (grid0.coords t) = ![96 * t.val, 0] :=
  (by decide +kernel : ∀ t : Fin grid0.N, t.val < 8 → k0_off1 (grid0.coords t) = ![96 * t.val, 0])
theorem off2_val : ∀ t : Fin cfg0.N, t.val < 8 → k0_off2 (grid0.coords t) = ![96 * t.val, 0] :=
  (by decide +kernel : ∀ t : Fin grid0.N, t.val < 8 → k0_off2 (grid0.coords t) = ![96 * t.val, 0])
theorem off3_val : ∀ t : Fin cfg0.N, 10 ≤ t.val ∧ t.val ≤ 17 → k0_off3 (grid0.coords t) = ![96 * (t.val - 10), 0] :=
  (by decide +kernel : ∀ t : Fin grid0.N, 10 ≤ t.val ∧ t.val ≤ 17 → k0_off3 (grid0.coords t) = ![96 * (t.val - 10), 0])
theorem off4_val : ∀ t : Fin cfg0.N, 10 ≤ t.val ∧ t.val ≤ 17 → k0_off4 (grid0.coords t) = ![96 * (t.val - 10), 0] :=
  (by decide +kernel : ∀ t : Fin grid0.N, 10 ≤ t.val ∧ t.val ≤ 17 → k0_off4 (grid0.coords t) = ![96 * (t.val - 10), 0])

section

variable {m} {c : Dev nD} {t : Fin cfg0.N} {S : St F}

theorem Found.s0 (h : Found m c t S) (ht : 10 ≤ t.val) : S.s0 = Hs m c 10 := by
  rw [h.inv.1 (by omega), Nat.min_eq_right ht]
theorem Found.s1 (h : Found m c t S) (h1 : 11 ≤ t.val) (h2 : t.val ≤ 22) : S.s1 = AX m c (t.val - 1) := h.inv.2.1 h1 h2
theorem Found.s2 (h : Found m c t S) (h1 : 19 ≤ t.val) (h2 : t.val ≤ 22) : S.s2 = AC m c (t.val - 1) := h.inv.2.2 h1 h2
theorem Found.y6 (h : Found m c t S) (ht : 8 ≤ t.val) : S.y6 = X6 m c := (h.f6 (by omega)).full (by omega)
theorem Found.y7 (h : Found m c t S) (ht : 8 ≤ t.val) : S.y7 = XS m c := (h.f7 (by omega)).full (by omega)
theorem Found.y2 (h : Found m c t S) (ht : 18 ≤ t.val) : S.y2 = CC m c := (h.f2 (by omega)).full (by omega)
theorem Found.y3 (h : Found m c t S) (ht : 18 ≤ t.val) : S.y3 = CS m c := (h.f3 (by omega)).full (by omega)

theorem Found.next (h : Found m c t S) : Left m c t (next m c t S) := by
  have hN : t.val < 23 := lt_of_lt_of_eq t.isLt (show cfg0.N = 23 from N_0)
  have et : pt t.val = t := pt_val t
  constructor
  · refine ⟨fun _ => ?_, fun h1 h2 => ?_, fun h1 h2 => ?_⟩
    · show (if t.val < 10 then _ else _) = _
      by_cases h10 : t.val < 10
      · rw [if_pos h10, Nat.min_eq_left (by omega)]
        show _ = k0_pay62 (Hs m c t.val) (iblk m c 0 (pt t.val)) (iblk m c 1 (pt t.val))
        rw [et]
        by_cases h0 : t.val = 0
        · rw [if_pos h0, h0]; rfl
        · rw [if_neg h0, h.inv.1 (by omega), Nat.min_eq_left (by omega)]
      · rw [if_neg h10, h.s0 (by omega), Nat.min_eq_right (by omega)]
    · show (if 10 ≤ t.val ∧ t.val ≤ 21 then _ else _) = _
      rw [if_pos ⟨by omega, by omega⟩, h.y6 (by omega), Nat.add_sub_cancel]
      unfold AX; rw [et]
    · show (if 18 ≤ t.val ∧ t.val ≤ 21 then _ else _) = _
      rw [if_pos ⟨by omega, by omega⟩, h.y2 (by omega), Nat.add_sub_cancel]
      unfold AC; rw [et]
  · intro hlo
    show (if 10 ≤ t.val ∧ t.val ≤ 17 then _ else _) = _
    by_cases hc : 10 ≤ t.val ∧ t.val ≤ 17
    · rw [if_pos hc, Nat.min_eq_left hc.2]
      unfold T0 Hrow
      rw [et, off3_val t hc, h.s0 hc.1]
    · rw [if_neg hc, h.f0 (by omega) (by omega), Nat.min_eq_right (by omega), Nat.min_eq_right (by omega)]
  · intro hlo
    show (if 10 ≤ t.val ∧ t.val ≤ 17 then _ else _) = _
    by_cases hc : 10 ≤ t.val ∧ t.val ≤ 17
    · rw [if_pos hc, Nat.min_eq_left hc.2]
      unfold T1 Hrow
      rw [et, off3_val t hc, h.s0 hc.1]
    · rw [if_neg hc, h.f1 (by omega) (by omega), Nat.min_eq_right (by omega), Nat.min_eq_right (by omega)]
  · show UpTo _ (if 10 ≤ t.val ∧ t.val ≤ 17 then _ else _) _
    by_cases hc : 10 ≤ t.val ∧ t.val ≤ 17
    · rw [if_pos hc, show min (t.val + 1) 18 - 10 = t.val - 10 + 1 by omega]
      refine UpTo.block ?_ _ _ (off3_val t hc) fun j hj => ?_
      · by_cases h0 : t.val = 0
        · intro j hj; omega
        · have := h.f2 (by omega); unfold R2 at this
          rwa [show min (t.val - 1 + 1) 18 - 10 = t.val - 10 by omega] at this
      · unfold CC Hrow
        rw [hj, show t.val - 10 + 10 = t.val by omega, et, off3_val t hc, h.s0 hc.1]
    · rw [if_neg hc]
      by_cases h0 : t.val = 0
      · intro j hj; omega
      · have := h.f2 (by omega); unfold R2 at this
        intro j hj; exact this j (by omega)
  · show UpTo _ (if 10 ≤ t.val ∧ t.val ≤ 17 then _ else _) _
    by_cases hc : 10 ≤ t.val ∧ t.val ≤ 17
    · rw [if_pos hc, show min (t.val + 1) 18 - 10 = t.val - 10 + 1 by omega]
      refine UpTo.block ?_ _ _ (off4_val t hc) fun j hj => ?_
      · by_cases h0 : t.val = 0
        · intro j hj; omega
        · have := h.f3 (by omega); unfold R3 at this
          rwa [show min (t.val - 1 + 1) 18 - 10 = t.val - 10 by omega] at this
      · unfold CS Hrow
        rw [hj, show t.val - 10 + 10 = t.val by omega, et, off3_val t hc, h.s0 hc.1]
    · rw [if_neg hc]
      by_cases h0 : t.val = 0
      · intro j hj; omega
      · have := h.f3 (by omega); unfold R3 at this
        intro j hj; exact this j (by omega)
  · intro hlo
    show (if 19 ≤ t.val ∧ t.val ≤ 20 then _ else _) = _
    by_cases hc : 19 ≤ t.val ∧ t.val ≤ 20
    · rw [if_pos hc, Nat.min_eq_left hc.2]
      unfold T4
      rw [et, h.s2 (by omega) (by omega), h.y3 (by omega)]
    · rw [if_neg hc, h.f4 (by omega) (by omega), Nat.min_eq_right (by omega), Nat.min_eq_right (by omega)]
  · intro hlo
    show (if 21 ≤ t.val then _ else _) = _
    rw [if_pos hlo]
    unfold T5
    rw [et, h.s2 (by omega) (by omega), h.y3 (by omega)]
  · show UpTo _ (if t.val < 8 then _ else _) _
    by_cases hc : t.val < 8
    · rw [if_pos hc, show min (t.val + 1) 8 = t.val + 1 by omega]
      refine UpTo.block ?_ _ _ (off1_val t hc) fun j hj => ?_
      · by_cases h0 : t.val = 0
        · intro j hj; omega
        · have := h.f6 (by omega); unfold R6 at this
          rwa [show min (t.val - 1 + 1) 8 = t.val by omega] at this
      · unfold X6
        rw [hj, et]
    · rw [if_neg hc]
      by_cases h0 : t.val = 0
      · intro j hj; omega
      · have := h.f6 (by omega); unfold R6 at this
        intro j hj; exact this j (by omega)
  · show UpTo _ (if t.val < 8 then _ else _) _
    by_cases hc : t.val < 8
    · rw [if_pos hc, show min (t.val + 1) 8 = t.val + 1 by omega]
      refine UpTo.block ?_ _ _ (off2_val t hc) fun j hj => ?_
      · by_cases h0 : t.val = 0
        · intro j hj; omega
        · have := h.f7 (by omega); unfold R7 at this
          rwa [show min (t.val - 1 + 1) 8 = t.val by omega] at this
      · unfold XS
        rw [hj, et]
    · rw [if_neg hc]
      by_cases h0 : t.val = 0
      · intro j hj; omega
      · have := h.f7 (by omega); unfold R7 at this
        intro j hj; exact this j (by omega)
  · intro hlo
    show (if 11 ≤ t.val ∧ t.val ≤ 18 then _ else _) = _
    by_cases hc : 11 ≤ t.val ∧ t.val ≤ 18
    · rw [if_pos hc, Nat.min_eq_left hc.2]
      unfold T8
      rw [et, h.s1 (by omega) (by omega), h.y7 (by omega)]
    · rw [if_neg hc, h.f8 (by omega) (by omega), Nat.min_eq_right (by omega), Nat.min_eq_right (by omega)]
  · intro hlo
    show (if 19 ≤ t.val ∧ t.val ≤ 20 then _ else _) = _
    by_cases hc : 19 ≤ t.val ∧ t.val ≤ 20
    · rw [if_pos hc, Nat.min_eq_left hc.2]
      unfold T9
      rw [et, h.s1 (by omega) (by omega), h.y7 (by omega)]
    · rw [if_neg hc, h.f9 (by omega) (by omega), Nat.min_eq_right (by omega), Nat.min_eq_right (by omega)]
  · intro hlo
    show (if 21 ≤ t.val then _ else _) = _
    rw [if_pos hlo]
    unfold T10
    rw [et, h.s1 (by omega) (by omega), h.y7 (by omega)]

end

end Cert.ProjIdeal.Gen

end
-- ==== Proof.ProjIdeal.Body.lean ====
/- THE BODY, CASE BY CASE. What one run of the kernel body does to the buffers it is handed, at each kind of grid point. Each triple
   names what is in every output window and scratch afterwards from what was in the buffers before. -/
module

public import proofs.«01_k».proof.Proof.Gen.ProjIdeal.Frame
public import proofs.«01_k».proof.Proof.Gen.ProjIdeal.Skeleton
public import proofs.«01_k».proof.Proof.Held
public import proofs.«01_k».proof.Proof.ProjIdeal.Heads

@[expose] public section

set_option maxRecDepth 65536

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat Cfg Window BodyObligation cellOf)
open Cert.Held (sub strips put4)

variable {F : FTy → Type} [FloatOps F]

local notation "𝕄" => MT nD τ sig Unit (Elt F) ℕ (UR sig nD τ) ℕ

/-! ## The branch conditions, in closed form over the points -/

/-- The body's conditions that have no printed name. -/
abbrev c1 (i : grid0.Coords) : Prop := (Scalar.cmpi .ne (Scalar.extui (Scalar.cmpi .eq (BitVec.ofNat 32 (i 0).val) 0#32)) 0#32) = 1#1
abbrev c2 (i : grid0.Coords) : Prop := (Scalar.cmpi .ne (Scalar.extui (Scalar.cmpi .slt (BitVec.ofNat 32 (i 0).val) 10#32)) 0#32) = 1#1
abbrev c8 (i : grid0.Coords) : Prop := (Scalar.cmpi .ne (Scalar.extui (Scalar.andi (Scalar.cmpi .sge (Scalar.subi (BitVec.ofNat 32 (i 0).val) 10#32) 0#32) (Scalar.cmpi .slt (Scalar.subi (BitVec.ofNat 32 (i 0).val) 10#32) 12#32))) 0#32) = 1#1
abbrev c9 (i : grid0.Coords) : Prop := (Scalar.cmpi .ne (Scalar.extui (Scalar.andi (Scalar.cmpi .sge (Scalar.subi (BitVec.ofNat 32 (i 0).val) 10#32) 8#32) (Scalar.cmpi .slt (Scalar.subi (BitVec.ofNat 32 (i 0).val) 10#32) 12#32))) 0#32) = 1#1

theorem hc1 : ∀ t : Fin cfg0.N, c1 (grid0.coords t) ↔ t.val = 0 := (by decide +kernel : ∀ t : Fin grid0.N, c1 (grid0.coords t) ↔ t.val = 0)
theorem hc2 : ∀ t : Fin cfg0.N, c2 (grid0.coords t) ↔ t.val < 10 := (by decide +kernel : ∀ t : Fin grid0.N, c2 (grid0.coords t) ↔ t.val < 10)
theorem hc3 : ∀ t : Fin cfg0.N, k0_cond3 (grid0.coords t) = 1#1 ↔ t.val < 8 := (by decide +kernel : ∀ t : Fin grid0.N, k0_cond3 (grid0.coords t) = 1#1 ↔ t.val < 8)
theorem hc4 : ∀ t : Fin cfg0.N, k0_cond4 (grid0.coords t) = 1#1 ↔ (10 ≤ t.val ∧ t.val ≤ 17) := (by decide +kernel : ∀ t : Fin grid0.N, k0_cond4 (grid0.coords t) = 1#1 ↔ (10 ≤ t.val ∧ t.val ≤ 17))
theorem hc5 : ∀ t : Fin cfg0.N, k0_cond5 (grid0.coords t) = 1#1 ↔ (11 ≤ t.val ∧ t.val ≤ 18) := (by decide +kernel : ∀ t : Fin grid0.N, k0_cond5 (grid0.coords t) = 1#1 ↔ (11 ≤ t.val ∧ t.val ≤ 18))
theorem hc6 : ∀ t : Fin cfg0.N, k0_cond6 (grid0.coords t) = 1#1 ↔ (19 ≤ t.val ∧ t.val ≤ 20) := (by decide +kernel : ∀ t : Fin grid0.N, k0_cond6 (grid0.coords t) = 1#1 ↔ (19 ≤ t.val ∧ t.val ≤ 20))
theorem hc7 : ∀ t : Fin cfg0.N, k0_cond7 (grid0.coords t) = 1#1 ↔ 21 ≤ t.val := (by decide +kernel : ∀ t : Fin grid0.N, k0_cond7 (grid0.coords t) = 1#1 ↔ 21 ≤ t.val)
theorem hc8 : ∀ t : Fin cfg0.N, c8 (grid0.coords t) ↔ (10 ≤ t.val ∧ t.val ≤ 21) := (by decide +kernel : ∀ t : Fin grid0.N, c8 (grid0.coords t) ↔ (10 ≤ t.val ∧ t.val ≤ 21))
theorem hc9 : ∀ t : Fin cfg0.N, c9 (grid0.coords t) ↔ (18 ≤ t.val ∧ t.val ≤ 21) := (by decide +kernel : ∀ t : Fin grid0.N, c9 (grid0.coords t) ↔ (18 ≤ t.val ∧ t.val ≤ 21))

/-! ## The triples -/

variable (c : Dev nD) (i : grid0.Coords)
  (arg1 : Memref sig .tc .vmem S768x1280 .bf16) (harg1 : arg1.IsWhole)
  (arg2 : Memref sig .tc .vmem S640x2560 .i8) (harg2 : arg2.IsWhole)
  (arg3 : Memref sig .tc .vmem S1x2560 .f32) (harg3 : arg3.IsWhole)
  (arg4 : Memref sig .tc .vmem S1x2560 .f32) (harg4 : arg4.IsWhole)
  (arg5 : Memref sig .tc .vmem S96x2560 .bf16) (harg5 : arg5.IsWhole)
  (arg6 : Memref sig .tc .vmem S1x2560 .f32) (harg6 : arg6.IsWhole)
  (arg7 : Memref sig .tc .vmem S2560x512 .fp8e4m3) (harg7 : arg7.IsWhole)
  (arg8 : Memref sig .tc .vmem S1x6144 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S768x128 .f32) (harg11 : arg11.IsWhole)
  (arg12 : Memref sig .tc .vmem S768x128 .f32) (harg12 : arg12.IsWhole)
  (arg13 : Memref sig .tc .vmem S768x128 .f32) (harg13 : arg13.IsWhole)
  (arg14 : Memref sig .tc .vmem S768x128 .f32) (harg14 : arg14.IsWhole)
  (arg15 : Memref sig .tc .smem S8 .f32) (harg15 : arg15.IsWhole)
  (arg16 : Memref sig .tc .smem S8 .f32) (harg16 : arg16.IsWhole)
  (arg17 : Memref sig .tc .vmem S96x2560 .bf16) (harg17 : arg17.IsWhole)
  (arg18 : Memref sig .tc .vmem S96x2560 .bf16) (harg18 : arg18.IsWhole)
  (arg19 : Memref sig .tc .vmem S768x2560 .fp8e4m3) (harg19 : arg19.IsWhole)
  (arg20 : Memref sig .tc .vmem S768x1 .f32) (harg20 : arg20.IsWhole)
  (arg21 : Memref sig .tc .vmem S768x512 .fp8e4m3) (harg21 : arg21.IsWhole)
  (arg22 : Memref sig .tc .vmem S768x512 .fp8e4m3) (harg22 : arg22.IsWhole)
  (arg23 : Memref sig .tc .vmem S768x2560 .fp8e4m3) (harg23 : arg23.IsWhole)
  (arg24 : Memref sig .tc .vmem S768x1 .f32) (harg24 : arg24.IsWhole)
  (arg25 : Memref sig .tc .vmem S768x512 .bf16) (harg25 : arg25.IsWhole)
  (arg26 : Memref sig .tc .vmem S768x512 .bf16) (harg26 : arg26.IsWhole)
  (arg27 : Memref sig .tc .vmem S768x512 .bf16) (harg27 : arg27.IsWhole)
  (arg28 : Memref sig .tc .vmem S768x2560 .f32) (harg28 : arg28.IsWhole)
  (arg29 : Memref sig .tc .vmem S768x512 .f32) (harg29 : arg29.IsWhole)
  (arg30 : Memref sig .tc .vmem S768x512 .f32) (harg30 : arg30.IsWhole)
  (x0 : Vec F S768x1280 .bf16) (x1 : Vec F S640x2560 .i8) (x2 : Vec F S1x2560 .f32) (x3 : Vec F S1x2560 .f32) (x4 : Vec F S96x2560 .bf16) (x5 : Vec F S1x2560 .f32) (x6 : Vec F S2560x512 .fp8e4m3) (x7 : Vec F S1x6144 .f32) (x8 : Vec F S1x128 .f32) (x9 : Vec F S1x128 .f32) (x10 : Vec F S768x128 .f32) (x11 : Vec F S768x128 .f32) (x12 : Vec F S768x128 .f32) (x13 : Vec F S768x128 .f32) (x14 : Vec F S8 .f32) (x15 : Vec F S8 .f32) (y0 : Vec F S96x2560 .bf16) (y1 : Vec F S96x2560 .bf16) (y2 : Vec F S768x2560 .fp8e4m3) (y3 : Vec F S768x1 .f32) (y4 : Vec F S768x512 .fp8e4m3) (y5 : Vec F S768x512 .fp8e4m3) (y6 : Vec F S768x2560 .fp8e4m3) (y7 : Vec F S768x1 .f32) (y8 : Vec F S768x512 .bf16) (y9 : Vec F S768x512 .bf16) (y10 : Vec F S768x512 .bf16) (s0 : Vec F S768x2560 .f32) (s1 : Vec F S768x512 .f32) (s2 : Vec F S768x512 .f32)

/-- The buffers the body is handed, each held whole at the values given: the sixteen inputs, the eleven results, the three scratches. -/
def held : sProp 𝕄 :=
  iprop((arg1.view.loc (c : Thread nD τ) ↦[arg1.view.set]{fullShare} harg1.unread x0)
    ∗ (arg2.view.loc (c : Thread nD τ) ↦[arg2.view.set]{fullShare} harg2.unread x1)
    ∗ (arg3.view.loc (c : Thread nD τ) ↦[arg3.view.set]{fullShare} harg3.unread x2)
    ∗ (arg4.view.loc (c : Thread nD τ) ↦[arg4.view.set]{fullShare} harg4.unread x3)
    ∗ (arg5.view.loc (c : Thread nD τ) ↦[arg5.view.set]{fullShare} harg5.unread x4)
    ∗ (arg6.view.loc (c : Thread nD τ) ↦[arg6.view.set]{fullShare} harg6.unread x5)
    ∗ (arg7.view.loc (c : Thread nD τ) ↦[arg7.view.set]{fullShare} harg7.unread x6)
    ∗ (arg8.view.loc (c : Thread nD τ) ↦[arg8.view.set]{fullShare} harg8.unread x7)
    ∗ (arg9.view.loc (c : Thread nD τ) ↦[arg9.view.set]{fullShare} harg9.unread x8)
    ∗ (arg10.view.loc (c : Thread nD τ) ↦[arg10.view.set]{fullShare} harg10.unread x9)
    ∗ (arg11.view.loc (c : Thread nD τ) ↦[arg11.view.set]{fullShare} harg11.unread x10)
    ∗ (arg12.view.loc (c : Thread nD τ) ↦[arg12.view.set]{fullShare} harg12.unread x11)
    ∗ (arg13.view.loc (c : Thread nD τ) ↦[arg13.view.set]{fullShare} harg13.unread x12)
    ∗ (arg14.view.loc (c : Thread nD τ) ↦[arg14.view.set]{fullShare} harg14.unread x13)
    ∗ (arg15.view.loc (c : Thread nD τ) ↦[arg15.view.set]{fullShare} harg15.unread x14)
    ∗ (arg16.view.loc (c : Thread nD τ) ↦[arg16.view.set]{fullShare} harg16.unread x15)
    ∗ (arg17.view.loc (c : Thread nD τ) ↦[arg17.view.set]{fullShare} harg17.unread y0)
    ∗ (arg18.view.loc (c : Thread nD τ) ↦[arg18.view.set]{fullShare} harg18.unread y1)
    ∗ (arg19.view.loc (c : Thread nD τ) ↦[arg19.view.set]{fullShare} harg19.unread y2)
    ∗ (arg20.view.loc (c : Thread nD τ) ↦[arg20.view.set]{fullShare} harg20.unread y3)
    ∗ (arg21.view.loc (c : Thread nD τ) ↦[arg21.view.set]{fullShare} harg21.unread y4)
    ∗ (arg22.view.loc (c : Thread nD τ) ↦[arg22.view.set]{fullShare} harg22.unread y5)
    ∗ (arg23.view.loc (c : Thread nD τ) ↦[arg23.view.set]{fullShare} harg23.unread y6)
    ∗ (arg24.view.loc (c : Thread nD τ) ↦[arg24.view.set]{fullShare} harg24.unread y7)
    ∗ (arg25.view.loc (c : Thread nD τ) ↦[arg25.view.set]{fullShare} harg25.unread y8)
    ∗ (arg26.view.loc (c : Thread nD τ) ↦[arg26.view.set]{fullShare} harg26.unread y9)
    ∗ (arg27.view.loc (c : Thread nD τ) ↦[arg27.view.set]{fullShare} harg27.unread y10)
    ∗ (arg28.view.loc (c : Thread nD τ) ↦[arg28.view.set]{fullShare} harg28.unread s0)
    ∗ (arg29.view.loc (c : Thread nD τ) ↦[arg29.view.set]{fullShare} harg29.unread s1)
    ∗ (arg30.view.loc (c : Thread nD τ) ↦[arg30.view.set]{fullShare} harg30.unread s2))

set_option maxHeartbeats 3200000 in
/-- Point 0. -/
theorem body_A (h1 : (c1 i)) (h2 : (c2 i)) (h3 : (k0_cond3 i = 1#1)) (h4 : ¬(k0_cond4 i = 1#1)) (h5 : ¬(k0_cond5 i = 1#1)) (h6 : ¬(k0_cond6 i = 1#1)) (h7 : ¬(k0_cond7 i = 1#1)) (h8 : ¬(c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 (VecWindow.put y6 (k0_off1 i) S96x2560.size (k0_pay65 x4 x5)) (VecWindow.put y7 (k0_off2 i) S96x1.size (k0_pay64 x4 x5)) y8 y9 y10 (k0_pay62 (k0_pay61 (F := F)) x0 x1) s1 s2) := by
  simp only [cc0_proj_eq_skeleton]; unfold cc0_proj_skel
  simp only [k0_part19_eq_skeleton]; unfold k0_part19_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H22 H25 H26 H27 H29 H30
  isplitl [H23]
  · iapply (Cert.Held.raw_of_read (c : Thread nD τ) harg23 fullShare _)
    iexists _; isplitr; swap; · iexact H23
    ipureintro
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  isplitl [H24]
  · iapply (Cert.Held.raw_of_read (c : Thread nD τ) harg24 fullShare _)
    iexists _; isplitr; swap; · iexact H24
    ipureintro
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg28 fullShare _)
  iexists _; isplitr; swap; · iexact H28
  ipureintro
  delta body_A.sl.v39 body_A.sl.H28_1
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Points 1..7. -/
theorem body_B (h1 : ¬(c1 i)) (h2 : (c2 i)) (h3 : (k0_cond3 i = 1#1)) (h4 : ¬(k0_cond4 i = 1#1)) (h5 : ¬(k0_cond5 i = 1#1)) (h6 : ¬(k0_cond6 i = 1#1)) (h7 : ¬(k0_cond7 i = 1#1)) (h8 : ¬(c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 (VecWindow.put y6 (k0_off1 i) S96x2560.size (k0_pay65 x4 x5)) (VecWindow.put y7 (k0_off2 i) S96x1.size (k0_pay64 x4 x5)) y8 y9 y10 (k0_pay62 s0 x0 x1) s1 s2) := by
  simp only [cc0_proj_eq_skeleton]; unfold cc0_proj_skel
  simp only [k0_part19_eq_skeleton]; unfold k0_part19_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H22 H25 H26 H27 H29 H30
  isplitl [H23]
  · iapply (Cert.Held.raw_of_read (c : Thread nD τ) harg23 fullShare _)
    iexists _; isplitr; swap; · iexact H23
    ipureintro
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  isplitl [H24]
  · iapply (Cert.Held.raw_of_read (c : Thread nD τ) harg24 fullShare _)
    iexists _; isplitr; swap; · iexact H24
    ipureintro
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg28 fullShare _)
  iexists _; isplitr; swap; · iexact H28
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Points 8, 9. -/
theorem body_C (h1 : ¬(c1 i)) (h2 : (c2 i)) (h3 : ¬(k0_cond3 i = 1#1)) (h4 : ¬(k0_cond4 i = 1#1)) (h5 : ¬(k0_cond5 i = 1#1)) (h6 : ¬(k0_cond6 i = 1#1)) (h7 : ¬(k0_cond7 i = 1#1)) (h8 : ¬(c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 (k0_pay62 s0 x0 x1) s1 s2) := by
  simp only [cc0_proj_eq_skeleton]; unfold cc0_proj_skel
  simp only [k0_part19_eq_skeleton]; unfold k0_part19_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H22 H23 H24 H25 H26 H27 H29 H30
  iapply (Cert.Held.raw_of_read (c : Thread nD τ) harg28 fullShare _)
  iexists _; isplitr; swap; · iexact H28
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Point 10. -/
theorem body_D (h1 : ¬(c1 i)) (h2 : ¬(c2 i)) (h3 : ¬(k0_cond3 i = 1#1)) (h4 : (k0_cond4 i = 1#1)) (h5 : ¬(k0_cond5 i = 1#1)) (h6 : ¬(k0_cond6 i = 1#1)) (h7 : ¬(k0_cond7 i = 1#1)) (h8 : (c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 (k0_pay6 (sub 96 2560 s0 (k0_off3 i)) x2 x3) (k0_pay4 (sub 96 2560 s0 (k0_off3 i)) x2) (VecWindow.put y2 (k0_off3 i) S96x2560.size (k0_pay66 (Scalar.ofBits .f32 0x43E00000#32) (k0_pay8 (sub 96 2560 s0 (k0_off3 i)) x2 x3))) (VecWindow.put y3 (k0_off4 i) S96x1.size (k0_pay7 (sub 96 2560 s0 (k0_off3 i)) x2 x3)) y4 y5 y6 y7 y8 y9 y10 s0 (k0_pay1 y6 x6) s2) := by
  simp only [cc0_proj_eq_skeleton]; unfold cc0_proj_skel
  simp only [k0_part19_eq_skeleton]; unfold k0_part19_skel
  simp only [k0_part1_eq_skeleton]; unfold k0_part1_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H21 H22 H23 H24 H25 H26 H27 H28 H30
  isplitl [H17]
  · iapply (Cert.Held.raw_of_read (c : Thread nD τ) harg17 fullShare _)
    iexists _; isplitr; swap; · iexact H17
    ipureintro
    simp only [Cert.Loads.load_unread, Cert.Loads.read_stored, Cert.Loads.load_stored, Cert.Held.load_sub, Cert.Held.sub_all, Cert.Held.load_one, View.writes_nil, Memref.IsWhole.read_unread]
  isplitl [H18]
  · iapply (Cert.Held.raw_of_read (c : Thread nD τ) harg18 fullShare _)
    iexists _; isplitr; swap; · iexact H18
    ipureintro
    simp only [Cert.Loads.load_unread, Cert.Loads.read_stored, Cert.Loads.load_stored, Cert.Held.load_sub, Cert.Held.sub_all, Cert.Held.load_one, View.writes_nil, Memref.IsWhole.read_unread]
  isplitl [H19]
  · iapply (Cert.Held.raw_of_read (c : Thread nD τ) harg19 fullShare _)
    iexists _; isplitr; swap; · iexact H19
    ipureintro
    delta body_D.sl.cst_35 body_D.sl.v39
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  isplitl [H20]
  · iapply (Cert.Held.raw_of_read (c : Thread nD τ) harg20 fullShare _)
    iexists _; isplitr; swap; · iexact H20
    ipureintro
    delta body_D.sl.v39
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg29 fullShare _)
  iexists _; isplitr; swap; · iexact H29
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Points 11..17. -/
theorem body_E (h1 : ¬(c1 i)) (h2 : ¬(c2 i)) (h3 : ¬(k0_cond3 i = 1#1)) (h4 : (k0_cond4 i = 1#1)) (h5 : (k0_cond5 i = 1#1)) (h6 : ¬(k0_cond6 i = 1#1)) (h7 : ¬(k0_cond7 i = 1#1)) (h8 : (c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 (k0_pay6 (sub 96 2560 s0 (k0_off3 i)) x2 x3) (k0_pay4 (sub 96 2560 s0 (k0_off3 i)) x2) (VecWindow.put y2 (k0_off3 i) S96x2560.size (k0_pay66 (Scalar.ofBits .f32 0x43E00000#32) (k0_pay8 (sub 96 2560 s0 (k0_off3 i)) x2 x3))) (VecWindow.put y3 (k0_off4 i) S96x1.size (k0_pay7 (sub 96 2560 s0 (k0_off3 i)) x2 x3)) y4 y5 y6 y7 (strips fun k => qHead (sub 768 128 s1 ![0, 128 * k]) y7 (sub 1 128 x7 (k0_off5 i (BitVec.ofNat 32 (128 * k)))) x8 x12 x13) y9 y10 s0 (k0_pay1 y6 x6) s2) := by
  simp only [cc0_proj_eq_skeleton]; unfold cc0_proj_skel
  simp only [k0_part19_eq_skeleton]; unfold k0_part19_skel
  simp only [k0_part1_eq_skeleton, k0_part2_eq_skeleton, k0_part3_eq_skeleton, k0_part4_eq_skeleton, k0_part5_eq_skeleton]; unfold k0_part1_skel k0_part2_skel k0_part3_skel k0_part4_skel k0_part5_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H21 H22 H23 H24 H26 H27 H28 H30
  isplitl [H17]
  · iapply (Cert.Held.raw_of_read (c : Thread nD τ) harg17 fullShare _)
    iexists _; isplitr; swap; · iexact H17
    ipureintro
    simp only [Cert.Loads.load_unread, Cert.Loads.read_stored, Cert.Loads.load_stored, Cert.Held.load_sub, Cert.Held.sub_all, Cert.Held.load_one, View.writes_nil, Memref.IsWhole.read_unread]
  isplitl [H18]
  · iapply (Cert.Held.raw_of_read (c : Thread nD τ) harg18 fullShare _)
    iexists _; isplitr; swap; · iexact H18
    ipureintro
    simp only [Cert.Loads.load_unread, Cert.Loads.read_stored, Cert.Loads.load_stored, Cert.Held.load_sub, Cert.Held.sub_all, Cert.Held.load_one, View.writes_nil, Memref.IsWhole.read_unread]
  isplitl [H19]
  · iapply (Cert.Held.raw_of_read (c : Thread nD τ) harg19 fullShare _)
    iexists _; isplitr; swap; · iexact H19
    ipureintro
    delta body_E.sl.cst_35 body_E.sl.v39
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  isplitl [H20]
  · iapply (Cert.Held.raw_of_read (c : Thread nD τ) harg20 fullShare _)
    iexists _; isplitr; swap; · iexact H20
    ipureintro
    delta body_E.sl.v39
    rw [View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread]
  isplitl [H25]
  · iapply (Cert.Held.raw_of_read (c : Thread nD τ) harg25 fullShare _)
    iexists _; isplitr; swap; · iexact H25
    ipureintro
    delta body_E.sl.v198 body_E.sl.v39_1
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, qHead_0, qHead_1, qHead_2, qHead_3]
    exact put4 y8 (fun k => qHead (sub 768 128 s1 ![0, 128 * k]) y7 (sub 1 128 x7 (k0_off5 i (BitVec.ofNat 32 (128 * k)))) x8 x12 x13)
  iapply (Cert.Held.raw_of_read (c : Thread nD τ) harg29 fullShare _)
  iexists _; isplitr; swap; · iexact H29
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Point 18. -/
theorem body_G (h1 : ¬(c1 i)) (h2 : ¬(c2 i)) (h3 : ¬(k0_cond3 i = 1#1)) (h4 : ¬(k0_cond4 i = 1#1)) (h5 : (k0_cond5 i = 1#1)) (h6 : ¬(k0_cond6 i = 1#1)) (h7 : ¬(k0_cond7 i = 1#1)) (h8 : (c8 i)) (h9 : (c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 (strips fun k => qHead (sub 768 128 s1 ![0, 128 * k]) y7 (sub 1 128 x7 (k0_off5 i (BitVec.ofNat 32 (128 * k)))) x8 x12 x13) y9 y10 s0 (k0_pay1 y6 x6) (k0_pay2 y2 x6)) := by
  simp only [cc0_proj_eq_skeleton]; unfold cc0_proj_skel
  simp only [k0_part19_eq_skeleton]; unfold k0_part19_skel
  simp only [k0_part2_eq_skeleton, k0_part3_eq_skeleton, k0_part4_eq_skeleton, k0_part5_eq_skeleton]; unfold k0_part2_skel k0_part3_skel k0_part4_skel k0_part5_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H22 H23 H24 H26 H27 H28
  isplitl [H25]
  · iapply (Cert.Held.raw_of_read (c : Thread nD τ) harg25 fullShare _)
    iexists _; isplitr; swap; · iexact H25
    ipureintro
    delta body_G.sl.v198 body_G.sl.v39
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, qHead_0, qHead_1, qHead_2, qHead_3]
    exact put4 y8 (fun k => qHead (sub 768 128 s1 ![0, 128 * k]) y7 (sub 1 128 x7 (k0_off5 i (BitVec.ofNat 32 (128 * k)))) x8 x12 x13)
  isplitl [H29]
  · iapply (Cert.Held.raw_of_read (c : Thread nD τ) harg29 fullShare _)
    iexists _; isplitr; swap; · iexact H29
    ipureintro
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg30 fullShare _)
  iexists _; isplitr; swap; · iexact H30
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Points 19, 20. -/
theorem body_H (h1 : ¬(c1 i)) (h2 : ¬(c2 i)) (h3 : ¬(k0_cond3 i = 1#1)) (h4 : ¬(k0_cond4 i = 1#1)) (h5 : ¬(k0_cond5 i = 1#1)) (h6 : (k0_cond6 i = 1#1)) (h7 : ¬(k0_cond7 i = 1#1)) (h8 : (c8 i)) (h9 : (c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 (strips fun k => kHead (sub 768 128 s2 ![0, 128 * k]) y3 (sub 1 128 x7 (k0_off6 i (BitVec.ofNat 32 (128 * k)))) x9 x10 x11 (x14 (ix1 (Fin.ofNat 8 (k0_off7 i (BitVec.ofNat 32 k) 0))))) y5 y6 y7 y8 (strips fun k => qHead (sub 768 128 s1 ![0, 128 * k]) y7 (sub 1 128 x7 (k0_off6 i (BitVec.ofNat 32 (128 * k)))) x9 x12 x13) y10 s0 (k0_pay1 y6 x6) (k0_pay2 y2 x6)) := by
  simp only [cc0_proj_eq_skeleton]; unfold cc0_proj_skel
  simp only [k0_part19_eq_skeleton]; unfold k0_part19_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]; unfold k0_part6_skel k0_part7_skel k0_part8_skel k0_part9_skel k0_part10_skel k0_part11_skel k0_part12_skel k0_part13_skel k0_part14_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H22 H23 H24 H25 H27 H28
  isplitl [H21]
  · iapply (Cert.Held.raw_of_read (c : Thread nD τ) harg21 fullShare _)
    iexists _; isplitr; swap; · iexact H21
    ipureintro
    delta body_H.sl.r body_H.sl.r_1 body_H.sl.r_2 body_H.sl.r_3 body_H.sl.v398
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, kHead_0, kHead_1, kHead_2, kHead_3]
    exact put4 y4 (fun k => kHead (sub 768 128 s2 ![0, 128 * k]) y3 (sub 1 128 x7 (k0_off6 i (BitVec.ofNat 32 (128 * k)))) x9 x10 x11 (x14 (ix1 (Fin.ofNat 8 (k0_off7 i (BitVec.ofNat 32 k) 0)))))
  isplitl [H26]
  · iapply (Cert.Held.raw_of_read (c : Thread nD τ) harg26 fullShare _)
    iexists _; isplitr; swap; · iexact H26
    ipureintro
    delta body_H.sl.cst_68 body_H.sl.v40 body_H.sl.v41
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, qHead_4, qHead_5, qHead_6, qHead_7]
    exact put4 y9 (fun k => qHead (sub 768 128 s1 ![0, 128 * k]) y7 (sub 1 128 x7 (k0_off6 i (BitVec.ofNat 32 (128 * k)))) x9 x12 x13)
  isplitl [H29]
  · iapply (Cert.Held.raw_of_read (c : Thread nD τ) harg29 fullShare _)
    iexists _; isplitr; swap; · iexact H29
    ipureintro
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg30 fullShare _)
  iexists _; isplitr; swap; · iexact H30
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Point 21. -/
theorem body_I (h1 : ¬(c1 i)) (h2 : ¬(c2 i)) (h3 : ¬(k0_cond3 i = 1#1)) (h4 : ¬(k0_cond4 i = 1#1)) (h5 : ¬(k0_cond5 i = 1#1)) (h6 : ¬(k0_cond6 i = 1#1)) (h7 : (k0_cond7 i = 1#1)) (h8 : (c8 i)) (h9 : (c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 (strips fun k => vHead (sub 768 128 s2 ![0, 128 * k]) y3 (sub 1 128 x7 (k0_off8 i (BitVec.ofNat 32 (128 * k)))) (x15 (ix1 (Fin.ofNat 8 (k0_off9 i (BitVec.ofNat 32 k) 0))))) y6 y7 y8 y9 (strips fun k => vbHead (sub 768 128 s1 ![0, 128 * k]) y7 (sub 1 128 x7 (k0_off8 i (BitVec.ofNat 32 (128 * k))))) s0 (k0_pay1 y6 x6) (k0_pay2 y2 x6)) := by
  simp only [cc0_proj_eq_skeleton]; unfold cc0_proj_skel
  simp only [k0_part19_eq_skeleton]; unfold k0_part19_skel
  simp only [k0_part15_eq_skeleton, k0_part16_eq_skeleton, k0_part17_eq_skeleton, k0_part18_eq_skeleton]; unfold k0_part15_skel k0_part16_skel k0_part17_skel k0_part18_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H23 H24 H25 H26 H28
  isplitl [H22]
  · iapply (Cert.Held.raw_of_read (c : Thread nD τ) harg22 fullShare _)
    iexists _; isplitr; swap; · iexact H22
    ipureintro
    delta body_I.sl.r body_I.sl.r_1 body_I.sl.r_2 body_I.sl.r_3
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, vHead_0, vHead_1, vHead_2, vHead_3]
    exact put4 y5 (fun k => vHead (sub 768 128 s2 ![0, 128 * k]) y3 (sub 1 128 x7 (k0_off8 i (BitVec.ofNat 32 (128 * k)))) (x15 (ix1 (Fin.ofNat 8 (k0_off9 i (BitVec.ofNat 32 k) 0)))))
  isplitl [H27]
  · iapply (Cert.Held.raw_of_read (c : Thread nD τ) harg27 fullShare _)
    iexists _; isplitr; swap; · iexact H27
    ipureintro
    delta body_I.sl.v41 body_I.sl.v42 body_I.sl.v71
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, vbHead_0, vbHead_1, vbHead_2, vbHead_3]
    exact put4 y10 (fun k => vbHead (sub 768 128 s1 ![0, 128 * k]) y7 (sub 1 128 x7 (k0_off8 i (BitVec.ofNat 32 (128 * k)))))
  isplitl [H29]
  · iapply (Cert.Held.raw_of_read (c : Thread nD τ) harg29 fullShare _)
    iexists _; isplitr; swap; · iexact H29
    ipureintro
    simp only [Cert.Loads.load_unread, Cert.Loads.read_stored, Cert.Loads.load_stored, Cert.Held.load_sub, Cert.Held.sub_all, Cert.Held.load_one, View.writes_nil, Memref.IsWhole.read_unread]
  iapply (Cert.Held.raw_of_read (c : Thread nD τ) harg30 fullShare _)
  iexists _; isplitr; swap; · iexact H30
  ipureintro
  simp only [Cert.Loads.load_unread, Cert.Loads.read_stored, Cert.Loads.load_stored, Cert.Held.load_sub, Cert.Held.sub_all, Cert.Held.load_one, View.writes_nil, Memref.IsWhole.read_unread]

set_option maxHeartbeats 3200000 in
/-- Point 22. -/
theorem body_J (h1 : ¬(c1 i)) (h2 : ¬(c2 i)) (h3 : ¬(k0_cond3 i = 1#1)) (h4 : ¬(k0_cond4 i = 1#1)) (h5 : ¬(k0_cond5 i = 1#1)) (h6 : ¬(k0_cond6 i = 1#1)) (h7 : (k0_cond7 i = 1#1)) (h8 : ¬(c8 i)) (h9 : ¬(c9 i)) (E : Set ℕ) :
    (held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 y5 y6 y7 y8 y9 y10 s0 s1 s2 : sProp 𝕄)
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 y0 y1 y2 y3 y4 (strips fun k => vHead (sub 768 128 s2 ![0, 128 * k]) y3 (sub 1 128 x7 (k0_off8 i (BitVec.ofNat 32 (128 * k)))) (x15 (ix1 (Fin.ofNat 8 (k0_off9 i (BitVec.ofNat 32 k) 0))))) y6 y7 y8 y9 (strips fun k => vbHead (sub 768 128 s1 ![0, 128 * k]) y7 (sub 1 128 x7 (k0_off8 i (BitVec.ofNat 32 (128 * k))))) s0 s1 s2) := by
  simp only [cc0_proj_eq_skeleton]; unfold cc0_proj_skel
  simp only [k0_part19_eq_skeleton]; unfold k0_part19_skel
  simp only [k0_part15_eq_skeleton, k0_part16_eq_skeleton, k0_part17_eq_skeleton, k0_part18_eq_skeleton]; unfold k0_part15_skel k0_part16_skel k0_part17_skel k0_part18_skel
  unfold held
  iintro ⟨H1, H2, H3, H4, H5, H6, H7, H8, H9, H10, H11, H12, H13, H14, H15, H16, H17, H18, H19, H20, H21, H22, H23, H24, H25, H26, H27, H28, H29, H30⟩
  sl_exec (disch := first | sl_exact h1 | sl_exact h2 | sl_exact h3 | sl_exact h4 | sl_exact h5 | sl_exact h6 | sl_exact h7 | sl_exact h8 | sl_exact h9)
  sl_step
  iframe H1 H2 H3 H4 H5 H6 H7 H8 H9 H10 H11 H12 H13 H14 H15 H16 H17 H18 H19 H20 H21 H23 H24 H25 H26 H28 H29 H30
  isplitl [H22]
  · iapply (Cert.Held.raw_of_read (c : Thread nD τ) harg22 fullShare _)
    iexists _; isplitr; swap; · iexact H22
    ipureintro
    delta body_J.sl.r body_J.sl.r_1 body_J.sl.r_2 body_J.sl.r_3
    rw [View.read_writes_cons_put _ _ _ _ _ rfl, View.read_writes_cons_put _ _ _ _ _ rfl, View.read_writes_cons_put _ _ _ _ _ rfl, View.read_writes_cons_put _ _ _ _ _ rfl]
    simp only [Cert.Loads.load_unread, Cert.Loads.read_stored, Cert.Loads.load_stored, Cert.Held.load_sub, Cert.Held.sub_all, Cert.Held.load_one, View.writes_nil, Memref.IsWhole.read_unread, vHead_0, vHead_1, vHead_2, vHead_3]
    exact put4 y5 (fun k => vHead (sub 768 128 s2 ![0, 128 * k]) y3 (sub 1 128 x7 (k0_off8 i (BitVec.ofNat 32 (128 * k)))) (x15 (ix1 (Fin.ofNat 8 (k0_off9 i (BitVec.ofNat 32 k) 0)))))
  iapply (Cert.Held.raw_of_read (c : Thread nD τ) harg27 fullShare _)
  iexists _; isplitr; swap; · iexact H27
  ipureintro
  delta body_J.sl.v41 body_J.sl.v42 body_J.sl.v71
  rw [View.read_writes_cons_put _ _ _ _ _ rfl, View.read_writes_cons_put _ _ _ _ _ rfl, View.read_writes_cons_put _ _ _ _ _ rfl, View.read_writes_cons_put _ _ _ _ _ rfl]
  simp only [Cert.Loads.load_unread, Cert.Loads.read_stored, Cert.Loads.load_stored, Cert.Held.load_sub, Cert.Held.sub_all, Cert.Held.load_one, View.writes_nil, Memref.IsWhole.read_unread, vbHead_0, vbHead_1, vbHead_2, vbHead_3]
  exact put4 y10 (fun k => vbHead (sub 768 128 s1 ![0, 128 * k]) y7 (sub 1 128 x7 (k0_off8 i (BitVec.ofNat 32 (128 * k)))))

end Cert.ProjIdeal.Gen

end
-- ==== Proof.ProjIdeal.Run.lean ====
/- THE RUN. The body carries a state that is right so far to one that is right one point further; what each window may hold at each point
   follows; and the launch: every execution of @main ends, with every result's array at what its points left. -/
module

public import proofs.«01_k».proof.Proof.Gen.ProjIdeal.Frame
public import proofs.«01_k».proof.Proof.Gen.ProjIdeal.Skeleton
public import proofs.«01_k».proof.Proof.ProjIdeal.State
public import proofs.«01_k».proof.Proof.ProjIdeal.Body
public import Idealize.ShloMosaic.Lib.Pipeline.DatRel
public import Idealize.ShloMosaic.Lib.Pipeline.ArrRel
public import Idealize.ShloMosaic.Lib.ValueIdxCore
public import Idealize.ShloMosaic.Lib.Claim

@[expose] public section

set_option maxRecDepth 65536

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat BodyObligationRel Cfg Window BodyObligation cellOf)
open Cert.Held (sub strips)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## The staging memrefs at a point -/

abbrev ms0_0 (t : Fin cfg0.N) : Memref sig .tc .vmem S768x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .smem S8 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .smem S8 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S96x2560 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S96x2560 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S768x2560 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S768x1 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S768x512 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S768x512 .fp8e4m3 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S768x2560 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S768x1 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S768x512 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S768x512 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S768x512 .bf16 := win0_26.stage (cfg0.slots t 26)
abbrev hs0_26 (t : Fin cfg0.N) : (ms0_26 t).IsWhole := hstage0_26 ((cfg0.slots t 26).cast nbuf0_26)
abbrev scM0_0 : Memref sig .tc .vmem S768x2560 .f32 := Memref.whole cc0_scratch0
abbrev scM0_1 : Memref sig .tc .vmem S768x512 .f32 := Memref.whole cc0_scratch1
abbrev scM0_2 : Memref sig .tc .vmem S768x512 .f32 := Memref.whole cc0_scratch2

/-- The buffers held at point `t`, the inputs at their blocks, the results' windows and the scratches at the state. -/
abbrev heldAt (c : Dev nD) (t : Fin cfg0.N) (S : St F) : sProp 𝕄 :=
  held c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    S.y0 S.y1 S.y2 S.y3 S.y4 S.y5 S.y6 S.y7 S.y8 S.y9 S.y10 S.s0 S.s1 S.s2

set_option maxHeartbeats 1600000 in
/-- THE STEP. At every point the body takes the state to the next. -/
theorem step (c : Dev nD) (t : Fin cfg0.N) (S : St F) :
    heldAt m c t S ⊢ wp frame (wpE (defs₀ (F := F)) Variants.none c none) Set.univ (bodyAt0 t) (fun _ => heldAt m c t (next m c t S)) := by
  have hN : t.val < 23 := lt_of_lt_of_eq t.isLt (show cfg0.N = 23 from N_0)
  unfold heldAt bodyAt0 next
  by_cases kA : t.val = 0
  · have e1 : (t.val = 0) = True := eq_true (by omega)
    have e2 : (t.val < 10) = True := eq_true (by omega)
    have e3 : (t.val < 8) = True := eq_true (by omega)
    have e4 : (10 ≤ t.val ∧ t.val ≤ 17) = False := eq_false (by omega)
    have e5 : (11 ≤ t.val ∧ t.val ≤ 18) = False := eq_false (by omega)
    have e6 : (19 ≤ t.val ∧ t.val ≤ 20) = False := eq_false (by omega)
    have e7 : (21 ≤ t.val) = False := eq_false (by omega)
    have e8 : (10 ≤ t.val ∧ t.val ≤ 21) = False := eq_false (by omega)
    have e9 : (18 ≤ t.val ∧ t.val ≤ 21) = False := eq_false (by omega)
    simp only [e1, e2, e3, e4, e5, e6, e7, e8, e9, if_true, if_false]
    exact body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ ((hc1 t).mpr (of_eq_true e1)) ((hc2 t).mpr (of_eq_true e2)) ((hc3 t).mpr (of_eq_true e3)) (fun h => of_eq_false e4 ((hc4 t).mp h)) (fun h => of_eq_false e5 ((hc5 t).mp h)) (fun h => of_eq_false e6 ((hc6 t).mp h)) (fun h => of_eq_false e7 ((hc7 t).mp h)) (fun h => of_eq_false e8 ((hc8 t).mp h)) (fun h => of_eq_false e9 ((hc9 t).mp h)) _
  by_cases kB : t.val < 8
  · have e1 : (t.val = 0) = False := eq_false (by omega)
    have e2 : (t.val < 10) = True := eq_true (by omega)
    have e3 : (t.val < 8) = True := eq_true (by omega)
    have e4 : (10 ≤ t.val ∧ t.val ≤ 17) = False := eq_false (by omega)
    have e5 : (11 ≤ t.val ∧ t.val ≤ 18) = False := eq_false (by omega)
    have e6 : (19 ≤ t.val ∧ t.val ≤ 20) = False := eq_false (by omega)
    have e7 : (21 ≤ t.val) = False := eq_false (by omega)
    have e8 : (10 ≤ t.val ∧ t.val ≤ 21) = False := eq_false (by omega)
    have e9 : (18 ≤ t.val ∧ t.val ≤ 21) = False := eq_false (by omega)
    simp only [e1, e2, e3, e4, e5, e6, e7, e8, e9, if_true, if_false]
    exact body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) ((hc2 t).mpr (of_eq_true e2)) ((hc3 t).mpr (of_eq_true e3)) (fun h => of_eq_false e4 ((hc4 t).mp h)) (fun h => of_eq_false e5 ((hc5 t).mp h)) (fun h => of_eq_false e6 ((hc6 t).mp h)) (fun h => of_eq_false e7 ((hc7 t).mp h)) (fun h => of_eq_false e8 ((hc8 t).mp h)) (fun h => of_eq_false e9 ((hc9 t).mp h)) _
  by_cases kC : t.val < 10
  · have e1 : (t.val = 0) = False := eq_false (by omega)
    have e2 : (t.val < 10) = True := eq_true (by omega)
    have e3 : (t.val < 8) = False := eq_false (by omega)
    have e4 : (10 ≤ t.val ∧ t.val ≤ 17) = False := eq_false (by omega)
    have e5 : (11 ≤ t.val ∧ t.val ≤ 18) = False := eq_false (by omega)
    have e6 : (19 ≤ t.val ∧ t.val ≤ 20) = False := eq_false (by omega)
    have e7 : (21 ≤ t.val) = False := eq_false (by omega)
    have e8 : (10 ≤ t.val ∧ t.val ≤ 21) = False := eq_false (by omega)
    have e9 : (18 ≤ t.val ∧ t.val ≤ 21) = False := eq_false (by omega)
    simp only [e1, e2, e3, e4, e5, e6, e7, e8, e9, if_true, if_false]
    exact body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) ((hc2 t).mpr (of_eq_true e2)) (fun h => of_eq_false e3 ((hc3 t).mp h)) (fun h => of_eq_false e4 ((hc4 t).mp h)) (fun h => of_eq_false e5 ((hc5 t).mp h)) (fun h => of_eq_false e6 ((hc6 t).mp h)) (fun h => of_eq_false e7 ((hc7 t).mp h)) (fun h => of_eq_false e8 ((hc8 t).mp h)) (fun h => of_eq_false e9 ((hc9 t).mp h)) _
  by_cases kD : t.val < 11
  · have e1 : (t.val = 0) = False := eq_false (by omega)
    have e2 : (t.val < 10) = False := eq_false (by omega)
    have e3 : (t.val < 8) = False := eq_false (by omega)
    have e4 : (10 ≤ t.val ∧ t.val ≤ 17) = True := eq_true (by omega)
    have e5 : (11 ≤ t.val ∧ t.val ≤ 18) = False := eq_false (by omega)
    have e6 : (19 ≤ t.val ∧ t.val ≤ 20) = False := eq_false (by omega)
    have e7 : (21 ≤ t.val) = False := eq_false (by omega)
    have e8 : (10 ≤ t.val ∧ t.val ≤ 21) = True := eq_true (by omega)
    have e9 : (18 ≤ t.val ∧ t.val ≤ 21) = False := eq_false (by omega)
    simp only [e1, e2, e3, e4, e5, e6, e7, e8, e9, if_true, if_false]
    exact body_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) ((hc4 t).mpr (of_eq_true e4)) (fun h => of_eq_false e5 ((hc5 t).mp h)) (fun h => of_eq_false e6 ((hc6 t).mp h)) (fun h => of_eq_false e7 ((hc7 t).mp h)) ((hc8 t).mpr (of_eq_true e8)) (fun h => of_eq_false e9 ((hc9 t).mp h)) _
  by_cases kE : t.val < 18
  · have e1 : (t.val = 0) = False := eq_false (by omega)
    have e2 : (t.val < 10) = False := eq_false (by omega)
    have e3 : (t.val < 8) = False := eq_false (by omega)
    have e4 : (10 ≤ t.val ∧ t.val ≤ 17) = True := eq_true (by omega)
    have e5 : (11 ≤ t.val ∧ t.val ≤ 18) = True := eq_true (by omega)
    have e6 : (19 ≤ t.val ∧ t.val ≤ 20) = False := eq_false (by omega)
    have e7 : (21 ≤ t.val) = False := eq_false (by omega)
    have e8 : (10 ≤ t.val ∧ t.val ≤ 21) = True := eq_true (by omega)
    have e9 : (18 ≤ t.val ∧ t.val ≤ 21) = False := eq_false (by omega)
    simp only [e1, e2, e3, e4, e5, e6, e7, e8, e9, if_true, if_false]
    exact body_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) ((hc4 t).mpr (of_eq_true e4)) ((hc5 t).mpr (of_eq_true e5)) (fun h => of_eq_false e6 ((hc6 t).mp h)) (fun h => of_eq_false e7 ((hc7 t).mp h)) ((hc8 t).mpr (of_eq_true e8)) (fun h => of_eq_false e9 ((hc9 t).mp h)) _
  by_cases kG : t.val < 19
  · have e1 : (t.val = 0) = False := eq_false (by omega)
    have e2 : (t.val < 10) = False := eq_false (by omega)
    have e3 : (t.val < 8) = False := eq_false (by omega)
    have e4 : (10 ≤ t.val ∧ t.val ≤ 17) = False := eq_false (by omega)
    have e5 : (11 ≤ t.val ∧ t.val ≤ 18) = True := eq_true (by omega)
    have e6 : (19 ≤ t.val ∧ t.val ≤ 20) = False := eq_false (by omega)
    have e7 : (21 ≤ t.val) = False := eq_false (by omega)
    have e8 : (10 ≤ t.val ∧ t.val ≤ 21) = True := eq_true (by omega)
    have e9 : (18 ≤ t.val ∧ t.val ≤ 21) = True := eq_true (by omega)
    simp only [e1, e2, e3, e4, e5, e6, e7, e8, e9, if_true, if_false]
    exact body_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) (fun h => of_eq_false e4 ((hc4 t).mp h)) ((hc5 t).mpr (of_eq_true e5)) (fun h => of_eq_false e6 ((hc6 t).mp h)) (fun h => of_eq_false e7 ((hc7 t).mp h)) ((hc8 t).mpr (of_eq_true e8)) ((hc9 t).mpr (of_eq_true e9)) _
  by_cases kH : t.val < 21
  · have e1 : (t.val = 0) = False := eq_false (by omega)
    have e2 : (t.val < 10) = False := eq_false (by omega)
    have e3 : (t.val < 8) = False := eq_false (by omega)
    have e4 : (10 ≤ t.val ∧ t.val ≤ 17) = False := eq_false (by omega)
    have e5 : (11 ≤ t.val ∧ t.val ≤ 18) = False := eq_false (by omega)
    have e6 : (19 ≤ t.val ∧ t.val ≤ 20) = True := eq_true (by omega)
    have e7 : (21 ≤ t.val) = False := eq_false (by omega)
    have e8 : (10 ≤ t.val ∧ t.val ≤ 21) = True := eq_true (by omega)
    have e9 : (18 ≤ t.val ∧ t.val ≤ 21) = True := eq_true (by omega)
    simp only [e1, e2, e3, e4, e5, e6, e7, e8, e9, if_true, if_false]
    exact body_H c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) (fun h => of_eq_false e4 ((hc4 t).mp h)) (fun h => of_eq_false e5 ((hc5 t).mp h)) ((hc6 t).mpr (of_eq_true e6)) (fun h => of_eq_false e7 ((hc7 t).mp h)) ((hc8 t).mpr (of_eq_true e8)) ((hc9 t).mpr (of_eq_true e9)) _
  by_cases kI : t.val < 22
  · have e1 : (t.val = 0) = False := eq_false (by omega)
    have e2 : (t.val < 10) = False := eq_false (by omega)
    have e3 : (t.val < 8) = False := eq_false (by omega)
    have e4 : (10 ≤ t.val ∧ t.val ≤ 17) = False := eq_false (by omega)
    have e5 : (11 ≤ t.val ∧ t.val ≤ 18) = False := eq_false (by omega)
    have e6 : (19 ≤ t.val ∧ t.val ≤ 20) = False := eq_false (by omega)
    have e7 : (21 ≤ t.val) = True := eq_true (by omega)
    have e8 : (10 ≤ t.val ∧ t.val ≤ 21) = True := eq_true (by omega)
    have e9 : (18 ≤ t.val ∧ t.val ≤ 21) = True := eq_true (by omega)
    simp only [e1, e2, e3, e4, e5, e6, e7, e8, e9, if_true, if_false]
    exact body_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) (fun h => of_eq_false e4 ((hc4 t).mp h)) (fun h => of_eq_false e5 ((hc5 t).mp h)) (fun h => of_eq_false e6 ((hc6 t).mp h)) ((hc7 t).mpr (of_eq_true e7)) ((hc8 t).mpr (of_eq_true e8)) ((hc9 t).mpr (of_eq_true e9)) _
  have e1 : (t.val = 0) = False := eq_false (by omega)
  have e2 : (t.val < 10) = False := eq_false (by omega)
  have e3 : (t.val < 8) = False := eq_false (by omega)
  have e4 : (10 ≤ t.val ∧ t.val ≤ 17) = False := eq_false (by omega)
  have e5 : (11 ≤ t.val ∧ t.val ≤ 18) = False := eq_false (by omega)
  have e6 : (19 ≤ t.val ∧ t.val ≤ 20) = False := eq_false (by omega)
  have e7 : (21 ≤ t.val) = True := eq_true (by omega)
  have e8 : (10 ≤ t.val ∧ t.val ≤ 21) = False := eq_false (by omega)
  have e9 : (18 ≤ t.val ∧ t.val ≤ 21) = False := eq_false (by omega)
  simp only [e1, e2, e3, e4, e5, e6, e7, e8, e9, if_true, if_false]
  exact body_J c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) _ _ _ _ _ _ _ _ _ _ _ _ _ _ _ _ _ _ _ _ _ _ _ _ _ _ _ _ _ _ (fun h => of_eq_false e1 ((hc1 t).mp h)) (fun h => of_eq_false e2 ((hc2 t).mp h)) (fun h => of_eq_false e3 ((hc3 t).mp h)) (fun h => of_eq_false e4 ((hc4 t).mp h)) (fun h => of_eq_false e5 ((hc5 t).mp h)) (fun h => of_eq_false e6 ((hc6 t).mp h)) ((hc7 t).mpr (of_eq_true e7)) (fun h => of_eq_false e8 ((hc8 t).mp h)) (fun h => of_eq_false e9 ((hc9 t).mp h)) _

/-! ## The pipeline's proof data -/

/-- The invariant before point `n`: the scratches at contents that meet `Inv`, the generator register at some state. -/
def PhiI (c : Dev nD) (n : ℕ) : sProp 𝕄 :=
  iprop((∃ s0 s1 s2, ⌜Inv m c n s0 s1 s2⌝ ∗ owns (c : Thread nD τ) scM0_0 fullShare s0 ∗ owns (c : Thread nD τ) scM0_1 fullShare s1
    ∗ owns (c : Thread nD τ) scM0_2 fullShare s2) ∗ (∃ r, prngReg c r))

/-- The proof data: every input's buffer at its block. (Of the results' windows `Rl` says what the points leave.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => T0 m c t.val
    | ⟨17, _⟩ => T1 m c t.val
    | ⟨18, _⟩ => CC m c
    | ⟨19, _⟩ => CS m c
    | ⟨20, _⟩ => T4 m c t.val
    | ⟨21, _⟩ => T5 m c t.val
    | ⟨22, _⟩ => X6 m c
    | ⟨23, _⟩ => XS m c
    | ⟨24, _⟩ => T8 m c t.val
    | ⟨25, _⟩ => T9 m c t.val
    | ⟨26, _⟩ => T10 m c t.val
    | ⟨_ + 27, h⟩ => absurd h (by simp)
  Φ t := PhiI m c t.val
  q _ := fullShare
  owed _ := 0

/-- The results' windows, -/
def marked (w : Fin cfg0.W) : Bool := decide (16 ≤ w.val)

/-- and what the body leaves in each of them at each point. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun _ => True
  | ⟨12, _⟩ => fun _ => True
  | ⟨13, _⟩ => fun _ => True
  | ⟨14, _⟩ => fun _ => True
  | ⟨15, _⟩ => fun _ => True
  | ⟨16, _⟩ => R0 m c t.val
  | ⟨17, _⟩ => R1 m c t.val
  | ⟨18, _⟩ => R2 m c t.val
  | ⟨19, _⟩ => R3 m c t.val
  | ⟨20, _⟩ => R4 m c t.val
  | ⟨21, _⟩ => R5 m c t.val
  | ⟨22, _⟩ => R6 m c t.val
  | ⟨23, _⟩ => R7 m c t.val
  | ⟨24, _⟩ => R8 m c t.val
  | ⟨25, _⟩ => R9 m c t.val
  | ⟨26, _⟩ => R10 m c t.val
  | ⟨_ + 27, h⟩ => absurd h (by simp)

/-- The relational proof data. -/
abbrev rdats (c : Dev nD) : RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (grid0.coords t) = false from rfl, after0_11]
theorem leaves0_12 (c : Dev nD) (t : Fin cfg0.N) : (dats m 0 c).leavesExact 12 t = owns (c : Thread nD τ) (ms0_12 t) fullShare (iblk m c 12 t) := by
  unfold Dat.leavesExact; rw [show cfg0.idle 12 (grid0.coords t) = false from rfl, after0_12]
theorem leaves0_13 (c : Dev nD) (t : Fin cfg0.N) : (dats m 0 c).leavesExact 13 t = owns (c : Thread nD τ) (ms0_13 t) fullShare (iblk m c 13 t) := by
  unfold Dat.leavesExact; rw [show cfg0.idle 13 (grid0.coords t) = false from rfl, after0_13]
theorem leaves0_14 (c : Dev nD) (t : Fin cfg0.N) : (dats m 0 c).leavesExact 14 t = owns (c : Thread nD τ) (ms0_14 t) fullShare (iblk m c 14 t) := by
  unfold Dat.leavesExact; rw [show cfg0.idle 14 (grid0.coords t) = false from rfl, after0_14]
theorem leaves0_15 (c : Dev nD) (t : Fin cfg0.N) : (dats m 0 c).leavesExact 15 t = owns (c : Thread nD τ) (ms0_15 t) fullShare (iblk m c 15 t) := by
  unfold Dat.leavesExact; rw [show cfg0.idle 15 (grid0.coords t) = false from rfl, after0_15]

/-- What a point may find in a result's window: what the point before left there, unless that one was written back. -/
theorem finds_prev (c : Dev nD) (w : Fin cfg0.W) (hm : marked w = true) (hin : ∀ t, (cfg0.win w).fetch t = false) (t : Fin cfg0.N) (h0 : t.val ≠ 0)
    (hf : (cfg0.win w).flush ⟨t.val - 1, Nat.lt_of_le_of_lt (Nat.sub_le _ _) t.isLt⟩ = false) (X : (cfg0.win w).block.Idx → Elt F (cfg0.win w).elt)
    (h : (rdats m c).Finds w t X) : Rl m c w ⟨t.val - 1, Nat.lt_of_le_of_lt (Nat.sub_le _ _) t.isLt⟩ X := by
  rcases (RDat.finds_of_pos (rd := rdats m c) (hin t) h0 X).mp h with h | h
  · rw [hf] at h; exact absurd h Bool.false_ne_true
  · exact (dats m 0 c).toRRel_leaves hm h

theorem noFlush0_16 : ∀ t : Fin cfg0.N, 18 ≤ t.val → (cfg0.win 16).flush ⟨t.val - 1, Nat.lt_of_le_of_lt (Nat.sub_le _ _) t.isLt⟩ = false :=
  (by decide +kernel : ∀ t : Fin grid0.N, 18 ≤ t.val → (cfg0.win 16).flush ⟨t.val - 1, Nat.lt_of_le_of_lt (Nat.sub_le _ _) t.isLt⟩ = false)
theorem noFlush0_17 : ∀ t : Fin cfg0.N, 18 ≤ t.val → (cfg0.win 17).flush ⟨t.val - 1, Nat.lt_of_le_of_lt (Nat.sub_le _ _) t.isLt⟩ = false :=
  (by decide +kernel : ∀ t : Fin grid0.N, 18 ≤ t.val → (cfg0.win 17).flush ⟨t.val - 1, Nat.lt_of_le_of_lt (Nat.sub_le _ _) t.isLt⟩ = false)
theorem noFlush0_18 : ∀ t : Fin cfg0.N, 1 ≤ t.val → (cfg0.win 18).flush ⟨t.val - 1, Nat.lt_of_le_of_lt (Nat.sub_le _ _) t.isLt⟩ = false :=
  (by decide +kernel : ∀ t : Fin grid0.N, 1 ≤ t.val → (cfg0.win 18).flush ⟨t.val - 1, Nat.lt_of_le_of_lt (Nat.sub_le _ _) t.isLt⟩ = false)
theorem noFlush0_19 : ∀ t : Fin cfg0.N, 1 ≤ t.val → (cfg0.win 19).flush ⟨t.val - 1, Nat.lt_of_le_of_lt (Nat.sub_le _ _) t.isLt⟩ = false :=
  (by decide +kernel : ∀ t : Fin grid0.N, 1 ≤ t.val → (cfg0.win 19).flush ⟨t.val - 1, Nat.lt_of_le_of_lt (Nat.sub_le _ _) t.isLt⟩ = false)
theorem noFlush0_20 : ∀ t : Fin cfg0.N, 21 ≤ t.val → (cfg0.win 20).flush ⟨t.val - 1, Nat.lt_of_le_of_lt (Nat.sub_le _ _) t.isLt⟩ = false :=
  (by decide +kernel : ∀ t : Fin grid0.N, 21 ≤ t.val → (cfg0.win 20).flush ⟨t.val - 1, Nat.lt_of_le_of_lt (Nat.sub_le _ _) t.isLt⟩ = false)
theorem noFlush0_22 : ∀ t : Fin cfg0.N, 1 ≤ t.val → (cfg0.win 22).flush ⟨t.val - 1, Nat.lt_of_le_of_lt (Nat.sub_le _ _) t.isLt⟩ = false :=
  (by decide +kernel : ∀ t : Fin grid0.N, 1 ≤ t.val → (cfg0.win 22).flush ⟨t.val - 1, Nat.lt_of_le_of_lt (Nat.sub_le _ _) t.isLt⟩ = false)
theorem noFlush0_23 : ∀ t : Fin cfg0.N, 1 ≤ t.val → (cfg0.win 23).flush ⟨t.val - 1, Nat.lt_of_le_of_lt (Nat.sub_le _ _) t.isLt⟩ = false :=
  (by decide +kernel : ∀ t : Fin grid0.N, 1 ≤ t.val → (cfg0.win 23).flush ⟨t.val - 1, Nat.lt_of_le_of_lt (Nat.sub_le _ _) t.isLt⟩ = false)
theorem noFlush0_24 : ∀ t : Fin cfg0.N, 19 ≤ t.val → (cfg0.win 24).flush ⟨t.val - 1, Nat.lt_of_le_of_lt (Nat.sub_le _ _) t.isLt⟩ = false :=
  (by decide +kernel : ∀ t : Fin grid0.N, 19 ≤ t.val → (cfg0.win 24).flush ⟨t.val - 1, Nat.lt_of_le_of_lt (Nat.sub_le _ _) t.isLt⟩ = false)
theorem noFlush0_25 : ∀ t : Fin cfg0.N, 21 ≤ t.val → (cfg0.win 25).flush ⟨t.val - 1, Nat.lt_of_le_of_lt (Nat.sub_le _ _) t.isLt⟩ = false :=
  (by decide +kernel : ∀ t : Fin grid0.N, 21 ≤ t.val → (cfg0.win 25).flush ⟨t.val - 1, Nat.lt_of_le_of_lt (Nat.sub_le _ _) t.isLt⟩ = false)

/-- What the body finds at point `t`. -/
theorem found (c : Dev nD) (t : Fin cfg0.N) {y0 y1 y2 y3 y4 y5 y6 y7 y8 y9 y10 s0 s1 s2} (hI : Inv m c t.val s0 s1 s2)
    (h0 : (rdats m c).Finds 16 t y0) (h1 : (rdats m c).Finds 17 t y1) (h2 : (rdats m c).Finds 18 t y2) (h3 : (rdats m c).Finds 19 t y3) (h4 : (rdats m c).Finds 20 t y4) (h6 : (rdats m c).Finds 22 t y6) (h7 : (rdats m c).Finds 23 t y7) (h8 : (rdats m c).Finds 24 t y8) (h9 : (rdats m c).Finds 25 t y9) :
    Found m c t ⟨y0, y1, y2, y3, y4, y5, y6, y7, y8, y9, y10, s0, s1, s2⟩ :=
  ⟨hI, fun h => finds_prev m c 16 rfl (fun _ => rfl) t (by omega) (noFlush0_16 t h) _ h0, fun h => finds_prev m c 17 rfl (fun _ => rfl) t (by omega) (noFlush0_17 t h) _ h1, fun h => finds_prev m c 18 rfl (fun _ => rfl) t (by omega) (noFlush0_18 t h) _ h2, fun h => finds_prev m c 19 rfl (fun _ => rfl) t (by omega) (noFlush0_19 t h) _ h3, fun h => finds_prev m c 20 rfl (fun _ => rfl) t (by omega) (noFlush0_20 t h) _ h4, fun h => finds_prev m c 22 rfl (fun _ => rfl) t (by omega) (noFlush0_22 t h) _ h6, fun h => finds_prev m c 23 rfl (fun _ => rfl) t (by omega) (noFlush0_23 t h) _ h7, fun h => finds_prev m c 24 rfl (fun _ => rfl) t (by omega) (noFlush0_24 t h) _ h8, fun h => finds_prev m c 25 rfl (fun _ => rfl) t (by omega) (noFlush0_25 t h) _ h9⟩

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ Y, ⌜(rdats m c).Finds 16 t Y⌝ ∗ owns (c : Thread nD τ) (ms0_16 t) fullShare Y)
    ∗ (∃ Y, ⌜(rdats m c).Finds 17 t Y⌝ ∗ owns (c : Thread nD τ) (ms0_17 t) fullShare Y)
    ∗ (∃ Y, ⌜(rdats m c).Finds 18 t Y⌝ ∗ owns (c : Thread nD τ) (ms0_18 t) fullShare Y)
    ∗ (∃ Y, ⌜(rdats m c).Finds 19 t Y⌝ ∗ owns (c : Thread nD τ) (ms0_19 t) fullShare Y)
    ∗ (∃ Y, ⌜(rdats m c).Finds 20 t Y⌝ ∗ owns (c : Thread nD τ) (ms0_20 t) fullShare Y)
    ∗ (∃ Y, ⌜(rdats m c).Finds 21 t Y⌝ ∗ owns (c : Thread nD τ) (ms0_21 t) fullShare Y)
    ∗ (∃ Y, ⌜(rdats m c).Finds 22 t Y⌝ ∗ owns (c : Thread nD τ) (ms0_22 t) fullShare Y)
    ∗ (∃ Y, ⌜(rdats m c).Finds 23 t Y⌝ ∗ owns (c : Thread nD τ) (ms0_23 t) fullShare Y)
    ∗ (∃ Y, ⌜(rdats m c).Finds 24 t Y⌝ ∗ owns (c : Thread nD τ) (ms0_24 t) fullShare Y)
    ∗ (∃ Y, ⌜(rdats m c).Finds 25 t Y⌝ ∗ owns (c : Thread nD τ) (ms0_25 t) fullShare Y)
    ∗ (∃ Y, ⌜(rdats m c).Finds 26 t Y⌝ ∗ owns (c : Thread nD τ) (ms0_26 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ X, ⌜R0 m c t.val X⌝ ∗ owns (c : Thread nD τ) (ms0_16 t) fullShare X)
    ∗ (∃ X, ⌜R1 m c t.val X⌝ ∗ owns (c : Thread nD τ) (ms0_17 t) fullShare X)
    ∗ (∃ X, ⌜R2 m c t.val X⌝ ∗ owns (c : Thread nD τ) (ms0_18 t) fullShare X)
    ∗ (∃ X, ⌜R3 m c t.val X⌝ ∗ owns (c : Thread nD τ) (ms0_19 t) fullShare X)
    ∗ (∃ X, ⌜R4 m c t.val X⌝ ∗ owns (c : Thread nD τ) (ms0_20 t) fullShare X)
    ∗ (∃ X, ⌜R5 m c t.val X⌝ ∗ owns (c : Thread nD τ) (ms0_21 t) fullShare X)
    ∗ (∃ X, ⌜R6 m c t.val X⌝ ∗ owns (c : Thread nD τ) (ms0_22 t) fullShare X)
    ∗ (∃ X, ⌜R7 m c t.val X⌝ ∗ owns (c : Thread nD τ) (ms0_23 t) fullShare X)
    ∗ (∃ X, ⌜R8 m c t.val X⌝ ∗ owns (c : Thread nD τ) (ms0_24 t) fullShare X)
    ∗ (∃ X, ⌜R9 m c t.val X⌝ ∗ owns (c : Thread nD τ) (ms0_25 t) fullShare X)
    ∗ (∃ X, ⌜R10 m c t.val X⌝ ∗ owns (c : Thread nD τ) (ms0_26 t) fullShare X))

/-- The generator register and what the windows owe, which the body does not touch. -/
abbrev rest (c : Dev nD) (t : Fin cfg0.N) : sProp 𝕄 := iprop((∃ r, prngReg c r) ∗ (dats m 0 c).owesAt () t.castSucc)

/-- Buffers held are buffers owned. -/
theorem heldAt_eq (c : Dev nD) (t : Fin cfg0.N) (S : St F) : heldAt m c t S = iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare S.y0 ∗ owns (c : Thread nD τ) (ms0_17 t) fullShare S.y1 ∗ owns (c : Thread nD τ) (ms0_18 t) fullShare S.y2 ∗ owns (c : Thread nD τ) (ms0_19 t) fullShare S.y3 ∗ owns (c : Thread nD τ) (ms0_20 t) fullShare S.y4 ∗ owns (c : Thread nD τ) (ms0_21 t) fullShare S.y5 ∗ owns (c : Thread nD τ) (ms0_22 t) fullShare S.y6 ∗ owns (c : Thread nD τ) (ms0_23 t) fullShare S.y7 ∗ owns (c : Thread nD τ) (ms0_24 t) fullShare S.y8 ∗ owns (c : Thread nD τ) (ms0_25 t) fullShare S.y9 ∗ owns (c : Thread nD τ) (ms0_26 t) fullShare S.y10 ∗ owns (c : Thread nD τ) scM0_0 fullShare S.s0 ∗ owns (c : Thread nD τ) scM0_1 fullShare S.s1 ∗ owns (c : Thread nD τ) scM0_2 fullShare S.s2) := by
  unfold heldAt held
  simp only [← Cert.Held.owns_eq]
  rw [Cert.Held.owns_eq (c : Thread nD τ) (Memref.isWhole_whole cc0_scratch0) fullShare S.s0,
    Cert.Held.owns_eq (c : Thread nD τ) (Memref.isWhole_whole cc0_scratch1) fullShare S.s1,
    Cert.Held.owns_eq (c : Thread nD τ) (Memref.isWhole_whole cc0_scratch2) fullShare S.s2]

/-- What the body returns, from a state that is right. -/
theorem post_of (c : Dev nD) (t : Fin cfg0.N) (S : St F) (h : Left m c t S) : iprop(heldAt m c t S ∗ rest m c t) ⊢ bodyPost m c t := by
  rw [heldAt_eq]
  unfold bodyPost
  simp only [leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).owesAt () t.succ = (dats m 0 c).owesAt () t.castSucc from rfl]
  rw [show (dats m 0 c).Φ t.succ = PhiI m c (t.val + 1) from rfl]
  unfold PhiI
  iintro ⟨⟨H0, H1, H2, H3, H4, H5, H6, H7, H8, H9, H10, H11, H12, H13, H14, H15, H16, H17, H18, H19, H20, H21, H22, H23, H24, H25, H26, HS0, HS1, HS2⟩, Hg, Ho⟩
  iframe Hg Ho H0 H1 H2 H3 H4 H5 H6 H7 H8 H9 H10 H11 H12 H13 H14 H15
  isplitl [HS0 HS1 HS2]
  · iexists S.s0, S.s1, S.s2
    isplitr; · ipureintro; exact h.inv
    iframe HS0 HS1 HS2
  isplitl [H16]
  · iexists S.y0
    isplitr
    · ipureintro; exact h.r0
    iexact H16
  isplitl [H17]
  · iexists S.y1
    isplitr
    · ipureintro; exact h.r1
    iexact H17
  isplitl [H18]
  · iexists S.y2
    isplitr
    · ipureintro; exact h.r2
    iexact H18
  isplitl [H19]
  · iexists S.y3
    isplitr
    · ipureintro; exact h.r3
    iexact H19
  isplitl [H20]
  · iexists S.y4
    isplitr
    · ipureintro; exact h.r4
    iexact H20
  isplitl [H21]
  · iexists S.y5
    isplitr
    · ipureintro; exact h.r5
    iexact H21
  isplitl [H22]
  · iexists S.y6
    isplitr
    · ipureintro; exact h.r6
    iexact H22
  isplitl [H23]
  · iexists S.y7
    isplitr
    · ipureintro; exact h.r7
    iexact H23
  isplitl [H24]
  · iexists S.y8
    isplitr
    · ipureintro; exact h.r8
    iexact H24
  isplitl [H25]
  · iexists S.y9
    isplitr
    · ipureintro; exact h.r9
    iexact H25
  iexists S.y10
  isplitr
  · ipureintro; exact h.r10
  iexact H26

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5, before0_6, before0_7, before0_8, before0_9, before0_10, before0_11, before0_12, before0_13, before0_14, before0_15]
  rw [show (dats m 0 c).Φ t.castSucc = PhiI m c t.val from rfl]
  unfold PhiI
  iintro ⟨⟨⟨%s0, %s1, %s2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%y0, %h0, H16⟩, ⟨%y1, %h1, H17⟩, ⟨%y2, %h2, H18⟩, ⟨%y3, %h3, H19⟩, ⟨%y4, %h4, H20⟩, ⟨%y5, %h5, H21⟩, ⟨%y6, %h6, H22⟩, ⟨%y7, %h7, H23⟩, ⟨%y8, %h8, H24⟩, ⟨%y9, %h9, H25⟩, ⟨%y10, %h10, H26⟩⟩
  have hF := found m c t hI h0 h1 h2 h3 h4 h6 h7 h8 h9 (y5 := y5) (y10 := y10)
  have hw' : iprop(heldAt m c t ⟨y0, y1, y2, y3, y4, y5, y6, y7, y8, y9, y10, s0, s1, s2⟩ ∗ rest m c t)
      ⊢ wp frame (wpE (defs₀ (F := F)) Variants.none c none) Set.univ (bodyAt0 t) (fun _ => bodyPost m c t) :=
    (sep_mono_l (step m c t _)).trans ((wp_frame_r frame (wpE (defs₀ (F := F)) Variants.none c none) Set.univ).trans
      (wp_mono frame (wpE (defs₀ (F := F)) Variants.none c none) Set.univ fun _ => post_of m c t _ hF.next))
  iapply hw'
  rw [heldAt_eq]
  iframe H0 H1 H2 H3 H4 H5 H6 H7 H8 H9 H10 H11 H12 H13 H14 H15 H16 H17 H18 H19 H20 H21 H22 H23 H24 H25 H26 HS0 HS1 HS2 Hg Ho

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-- The scoped buffers at some contents, as the scratch memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Before the first point nothing is asked of the scratches. -/
theorem hin (c : Dev nD) : Pipeline.ΦA spec0 c ⊢ (dats m 0 c).Φ 0 := by
  rw [show (dats m 0 c).Φ 0 = PhiI m c 0 from rfl, PhiA0_eq]
  unfold PhiI
  iintro ⟨⟨⟨%s0, HS0⟩, ⟨%s1, HS1⟩, ⟨%s2, HS2⟩⟩, Hg⟩
  isplitl [HS0 HS1 HS2]
  · iexists s0, s1, s2
    isplitr; · ipureintro; exact ⟨fun h => by omega, fun h => by omega, fun h => by omega⟩
    iframe HS0 HS1 HS2
  iexact Hg

/-- After the last point the scratches are given back. -/
theorem hout (c : Dev nD) : (dats m 0 c).Φ (Fin.last cfg0.N) ⊢ Pipeline.ΦA spec0 c := by
  rw [show (dats m 0 c).Φ (Fin.last cfg0.N) = PhiI m c (Fin.last cfg0.N).val from rfl, PhiA0_eq]
  unfold PhiI
  iintro ⟨⟨%s0, %s1, %s2, -, HS0, HS1, HS2⟩, Hg⟩
  isplitl [HS0 HS1 HS2]
  · isplitl [HS0]; · iexists s0; iexact HS0
    isplitl [HS1]; · iexists s1; iexact HS1
    iexists s2; iexact HS2
  iexact Hg

/-! ## The launch and the frame -/

set_option backward.isDefEq.respectTransparency.types false in
/-- Every execution of @main ends with every array at what the proof data say and every semaphore counter at zero. -/
theorem run_main_quiescent : θ_run defs (onTc (τ := τ) (main (F := F))) (s₀ m ρ) (fun r => (RDat.FramePost cfg0 (rdats m) (V m)) r ∧ r.2.sem = fun _ => 0) :=
  RDat.θ_run_frame_track (Q' := _) cfgs (0 : Fin 1) launch0 defs₀ Variants.none (rdats m) m ρ main
    (hbody := fun c => (body_obligation m c).toRRel) (hshare := fun _ w => by unfold RDat.share; split <;> rfl)
    (howed := fun _ _ => rfl) (V := V m) (hmain := hmain m Variants.none) (hA := A_eq m) (hin := hin m) (hout := hout m)

/-- THE FRAME: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 6 rfl).trans ((A_eq m c 6).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (h.1.arr_in c 10 rfl).trans ((A_eq m c 10).trans (V_main_arg10 m c)),
      (h.1.arr_in c 11 rfl).trans ((A_eq m c 11).trans (V_main_arg11 m c)),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      (h.1.arr_in c 14 rfl).trans ((A_eq m c 14).trans (V_main_arg14 m c)),
      (h.1.arr_in c 15 rfl).trans ((A_eq m c 15).trans (V_main_arg15 m c))⟩, h.2⟩) (run_main_quiescent m ρ)

end Cert.ProjIdeal.Gen

end
-- ==== Proof.Proj.Frame.lean ====
/- The frame of the printed program at the machine's own numbers. Its text is the idealized program's, in which nothing was
   rewritten, so the theorem proved there for any numbers is this one. -/
module

public import proofs.«01_k».proof.Proof.ProjIdeal.Run
public import proofs.«01_k».proof.Proof.Gen.Proj.Frame
public import proofs.«01_k».proof.Defs

@[expose] public section

set_option maxRecDepth 65536
set_option maxHeartbeats 8000000

namespace Cert.Proj

open Idealize.ShloMosaic

/-- The two programs' body tables are one table, -/
theorem defs₀_eq : Cert.Proj.defs₀ (F := Bits) = Cert.ProjIdeal.defs₀ (F := Bits) := by
  unfold Cert.Proj.defs₀ Cert.ProjIdeal.defs₀
  refine congrArg (Defs.onTc (Λ := Cert.Proj.Λ₀)) (funext fun l => funext fun a => ?_)
  match l, a with
  | 0, (t, s) => exact rfl
  | ⟨n + 1, h⟩, _ => exact absurd h (Nat.not_lt.2 (Nat.le_add_left _ _))

/-- and so are the pipelines' around them, -/
theorem defs_eq : Cert.Proj.defs (F := Bits) = Cert.ProjIdeal.defs (F := Bits) := by
  unfold Cert.Proj.defs Cert.ProjIdeal.defs
  exact congrArg (Pipeline.defs (Cert.Proj.pcfgs (F := Bits))) defs₀_eq

/-- and @main is the same program. -/
theorem main_eq : Cert.Proj.main (F := Bits) = Cert.ProjIdeal.main (F := Bits) := rfl

theorem quiescent : Cert.quiescent_Proj := fun m ρ _ => by
  have h := Cert.ProjIdeal.Gen.frame (F := Bits) m ρ
  rw [← defs_eq, ← main_eq] at h
  exact h

end Cert.Proj

end
-- ==== Proof.ProjSpec.lean ====
/- THE PROJECTIONS as formulas of the arrays' elements, over the extended reals: the norm of a row, the quantiser of a row, the rotation of a
   head; and the reading of the vector operations both programs spell them with, at an index. -/
module

public import proofs.«01_k».proof.Proof.MlpSpec
public import Idealize.ShloMosaic.Lib.KernelVsHost
public import Idealize.ShloMosaic.PureOps.IdealRules

@[expose] public section

set_option maxRecDepth 16384

noncomputable section

namespace Cert.ProjSpec

open Idealize.ShloMosaic Idealize.ShloMosaic.ValueIdx Idealize.ShloMosaic.IdealRules.sign_bit Cert.Int4 Cert.MlpSpec
open scoped BigOperators

abbrev S1 (a : ℕ) : Shape := ⟨1, ![a]⟩

/-! ## The formulas of one row -/

/-- The constant of a 32-bit pattern. -/
abbrev k32 (b : BitVec 32) : EReal := Ideal.ofBits .f32 b

/-- A row over the root of its mean square (`d` its length, with the stabilising constant), times the weights. -/
def nrm {n : ℕ} (d : BitVec 32) (v w : Fin n → EReal) (c : Fin n) : EReal :=
  Ideal.div (v c) (FloatOps.sqrt ((Ideal.div (∑ k, v k * v k) (k32 d) + k32 0x358637BD#32 : EReal) : Ideal .f32) : Ideal .f32) * w c

/-- A row's largest magnitude. -/
def amax {n : ℕ} (v : Fin n → EReal) : EReal := (Finset.univ : Finset (Fin n)).fold max (k32 0xFF800000#32) fun k => (FloatOps.absf (v k : Ideal .f32) : Ideal .f32)

/-- A row's scale: its largest magnitude over 448, or one for a row of zeros. -/
def qs {n : ℕ} (v : Fin n → EReal) : EReal :=
  Scalar.select (FloatOps.cmpf (F := Ideal) (φ := .f32) .oeq (amax v) (k32 0x00000000#32)) (k32 0x3F800000#32) (Ideal.div (amax v) (k32 0x43E00000#32))

/-- Clipped to the codes' range. -/
def clip (x : EReal) : EReal := min (k32 0x43E00000#32) (max (k32 0xC3E00000#32) x)

/-- A row's codes. -/
def code {n : ℕ} (v : Fin n → EReal) (c : Fin n) : EReal := clip (Ideal.div (v c) (qs v))

/-- The other half of a head: the second half negated before the first. -/
def other (n : Fin 128 → EReal) (l : Fin 128) : EReal :=
  if h : l.val < 64 then -(n ⟨l.val + 64, by omega⟩) else n ⟨l.val - 64, by have := l.isLt; omega⟩

/-- The rotation of a head's row. -/
def rope (n co si : Fin 128 → EReal) (l : Fin 128) : EReal := n l * co l + other n l * si l

/-! ## Reductions at an index -/

theorem sum_row {M N : ℕ} (v : FVec Ideal (S2 M N) .f32) (h : (S2 M N).Reduces [1] (S1 M)) (hφ : FKind.Formats .f32)
    (hacc : (0x00000000#32 : BitVec 32) = FKind.add.neutral .f32 hφ) (r : Fin M) :
    multiReduction .add [1] (S1 M) v 0x00000000#32 h hφ hacc (ix1 r) = ∑ k : Fin N, v (ix2 r k) :=
  (Ideal.multiReduction_add_single v _ h hφ hacc _).trans (Finset.sum_congr rfl fun k _ => congrArg v (funext fun a => by
    fin_cases a <;> exact Fin.ext rfl))

theorem max_row {M N : ℕ} (v : FVec Ideal (S2 M N) .f32) (h : (S2 M N).Reduces [1] (S1 M)) (hφ : FKind.Formats .f32)
    (hacc : (0xFF800000#32 : BitVec 32) = FKind.maximumf.neutral .f32 hφ) (r : Fin M) :
    multiReduction .maximumf [1] (S1 M) v 0xFF800000#32 h hφ hacc (ix1 r)
      = (Finset.univ : Finset (Fin N)).fold max (k32 0xFF800000#32) fun k => v (ix2 r k) := by
  refine (Ideal.multiReduction_maximumf_single v _ h hφ hacc _).trans ?_
  refine congrArg (fun f => (Finset.univ : Finset (Fin N)).fold max (k32 0xFF800000#32) f) (funext fun k => congrArg v (funext fun a => ?_))
  fin_cases a <;> exact Fin.ext rfl

theorem sum_head {M H L : ℕ} (v : FVec Ideal (S3 M H L) .f32) (h : (S3 M H L).Reduces [2] (S2 M H)) (hφ : FKind.Formats .f32)
    (hacc : (0x00000000#32 : BitVec 32) = FKind.add.neutral .f32 hφ) (r : Fin M) (n : Fin H) :
    multiReduction .add [2] (S2 M H) v 0x00000000#32 h hφ hacc (ix2 r n) = ∑ k : Fin L, v (ix3 r n k) :=
  (Ideal.multiReduction_add_single v _ h hφ hacc _).trans (Finset.sum_congr rfl fun k _ => congrArg v (funext fun a => by
    fin_cases a <;> exact Fin.ext rfl))

/-- A vector as one column. -/
theorem column_cast {α : Type} {M : ℕ} (v : (S1 M).Idx → α) (h : (S1 M).ShapeCasts (S2 M 1)) (r : Fin M) : shapeCast (S2 M 1) v h (ix2 r 0) = v (ix1 r) :=
  shapeCast_apply _ h _ _ (by
    rw [Shape.rowMajor_val_two, Shape.rowMajor_val_one]
    show r.val = r.val * 1 + 0; omega)

/-! ## Rows -/

/-- The norm's scale, as one column. -/
theorem root_apply {M N : ℕ} (d : BitVec 32) (v : FVec Ideal (S2 M N) .f32) (h1 : (S2 M N).Reduces [1] (S1 M)) (hφ : FKind.Formats .f32)
    (hacc : (0x00000000#32 : BitVec 32) = FKind.add.neutral .f32 hφ) (h2 : (S1 M).ShapeCasts (S2 M 1)) (r : Fin M) :
    sqrt (addf (divf (shapeCast (S2 M 1) (multiReduction .add [1] (S1 M) (mulf v v) 0x00000000#32 h1 hφ hacc) h2)
        (broadcast (S2 M 1) (Scalar.ofBits .f32 d : Ideal .f32))) (broadcast (S2 M 1) (Scalar.ofBits .f32 0x358637BD#32 : Ideal .f32))) (ix2 r 0)
      = (FloatOps.sqrt ((Ideal.div (∑ k, v (ix2 r k) * v (ix2 r k)) (k32 d) + k32 0x358637BD#32 : EReal) : Ideal .f32) : Ideal .f32) := by
  refine congrArg (fun z : EReal => (FloatOps.sqrt ((Ideal.div z (k32 d) + k32 0x358637BD#32 : EReal) : Ideal .f32) : Ideal .f32)) ?_
  exact (column_cast _ h2 r).trans (sum_row _ h1 hφ hacc r)

/-- THE NORM OF A ROW, at an element. -/
theorem nrm_apply {M N : ℕ} (hM : M ≠ 1) (hN : N ≠ 1) (d : BitVec 32) (v : FVec Ideal (S2 M N) .f32) (w : FVec Ideal (S2 1 N) .f32)
    (h1 : (S2 M N).Reduces [1] (S1 M)) (hφ : FKind.Formats .f32)
    (hacc : (0x00000000#32 : BitVec 32) = FKind.add.neutral .f32 hφ) (h2 : (S1 M).ShapeCasts (S2 M 1)) (h3 : (S2 M 1).Broadcasts (S2 M N))
    (h4 : (S2 1 N).Broadcasts (S2 M N)) (r : Fin M) (c : Fin N) :
    mulf (divf v (broadcastTo (S2 M N) (sqrt (addf (divf (shapeCast (S2 M 1) (multiReduction .add [1] (S1 M) (mulf v v) 0x00000000#32 h1 hφ hacc) h2)
        (broadcast (S2 M 1) (Scalar.ofBits .f32 d : Ideal .f32))) (broadcast (S2 M 1) (Scalar.ofBits .f32 0x358637BD#32 : Ideal .f32)))) h3)) (broadcastTo (S2 M N) w h4) (ix2 r c)
      = nrm d (fun k => v (ix2 r k)) (fun k => w (ix2 0 k)) c := by
  rw [mulf_apply, divf_apply, row_apply hN, col_apply hM, root_apply]
  rfl

/-- THE SCALE OF A ROW. -/
theorem qs_apply {M N : ℕ} (v : FVec Ideal (S2 M N) .f32) (h1 : (S2 M N).Reduces [1] (S1 M)) (hφ : FKind.Formats .f32)
    (hacc : (0xFF800000#32 : BitVec 32) = FKind.maximumf.neutral .f32 hφ) (h2 : (S1 M).ShapeCasts (S2 M 1)) (r : Fin M) :
    select (cmpf .oeq (shapeCast (S2 M 1) (multiReduction .maximumf [1] (S1 M) (absf v) 0xFF800000#32 h1 hφ hacc) h2)
        (broadcast (S2 M 1) (Scalar.ofBits .f32 0x00000000#32 : Ideal .f32))) (broadcast (S2 M 1) (Scalar.ofBits .f32 0x3F800000#32 : Ideal .f32))
      (divf (shapeCast (S2 M 1) (multiReduction .maximumf [1] (S1 M) (absf v) 0xFF800000#32 h1 hφ hacc) h2)
        (broadcast (S2 M 1) (Scalar.ofBits .f32 0x43E00000#32 : Ideal .f32))) (ix2 r 0)
      = qs fun k => v (ix2 r k) := by
  have e : shapeCast (S2 M 1) (multiReduction .maximumf [1] (S1 M) (absf v) 0xFF800000#32 h1 hφ hacc) h2 (ix2 r 0) = amax fun k => v (ix2 r k) :=
    (column_cast _ h2 r).trans (max_row _ h1 hφ hacc r)
  show Scalar.select (FloatOps.cmpf (F := Ideal) (φ := .f32) .oeq (shapeCast (S2 M 1) _ h2 (ix2 r 0)) _) _ (Ideal.div (shapeCast (S2 M 1) _ h2 (ix2 r 0)) _) = _
  rw [e]
  rfl

/-- THE CODES OF A ROW. -/
theorem code_apply {M N : ℕ} (hM : M ≠ 1) (v : FVec Ideal (S2 M N) .f32) (s : FVec Ideal (S2 M 1) .f32) (h : (S2 M 1).Broadcasts (S2 M N)) (r : Fin M) (c : Fin N)
    (hs : s (ix2 r 0) = qs fun k => v (ix2 r k)) :
    minimumf (broadcast (S2 M N) (Scalar.ofBits .f32 0x43E00000#32 : Ideal .f32)) (maximumf (broadcast (S2 M N) (Scalar.ofBits .f32 0xC3E00000#32 : Ideal .f32))
        (divf v (broadcastTo (S2 M N) s h))) (ix2 r c) = code (fun k => v (ix2 r k)) c := by
  rw [minimumf_apply, maximumf_apply, divf_apply, col_apply hM, hs]
  rfl

/-! ## Heads -/

/-- One head's rotation as a roll of the lanes with the sign folded into the sine. -/
theorem roll_apply {M : ℕ} (n co si : FVec Ideal (S2 M 128) .f32) (hr : (S2 M 128).Rotates 1 none) (hi : (S2 1 128).Iotas .tc 32 [1])
    (hb : (S2 1 128).Broadcasts (S2 M 128)) (r : Fin M) (l : Fin 128) :
    addf (mulf n co) (mulf (dynamicRotate 1 64#32 none n hr) (mulf si (broadcastTo (S2 M 128)
        (select (cmpi .slt (iota .tc (S2 1 128) 32 [1] hi) (broadcast (S2 1 128) 64#32)) (broadcast (S2 1 128) (Scalar.ofBits .f32 0xBF800000#32 : Ideal .f32))
          (broadcast (S2 1 128) (Scalar.ofBits .f32 0x3F800000#32 : Ideal .f32))) hb))) (ix2 r l)
      = rope (fun k => n (ix2 r k)) (fun k => co (ix2 r k)) (fun k => si (ix2 r k)) l := by
  have hl := l.isLt
  rw [addf_apply, mulf_apply, mulf_apply, mulf_apply, row_apply (by decide)]
  refine congrArg (fun z : EReal => n (ix2 r l) * co (ix2 r l) + z) ?_
  have esel : (select (cmpi .slt (iota .tc (S2 1 128) 32 [1] hi) (broadcast (S2 1 128) 64#32)) (broadcast (S2 1 128) (Scalar.ofBits .f32 0xBF800000#32 : Ideal .f32))
          (broadcast (S2 1 128) (Scalar.ofBits .f32 0x3F800000#32 : Ideal .f32))) (ix2 0 l) = if l.val < 64 then (-1 : EReal) else 1 := by
    show Scalar.select (IntOp.cmpi .slt (BitVec.ofNat 32 (0 * 128 + l.val)) 64#32) (Ideal.ofBits .f32 0xBF800000#32) (Ideal.ofBits .f32 0x3F800000#32) = _
    have e : IntOp.cmpi .slt (BitVec.ofNat 32 l.val) 64#32 = if l.val < 64 then 1#1 else 0#1 :=
      (by decide : ∀ l : Fin 128, IntOp.cmpi .slt (BitVec.ofNat 32 l.val) 64#32 = if l.val < 64 then 1#1 else 0#1) l
    rw [Nat.zero_mul, Nat.zero_add, e, show Ideal.ofBits .f32 0xBF800000#32 = -1 from ideal_negOnePat .f32, show Ideal.ofBits .f32 0x3F800000#32 = 1 from ideal_onePat .f32]
    by_cases h : l.val < 64
    · rw [if_pos h, if_pos h]; rfl
    · rw [if_neg h, if_neg h]; rfl
  rw [esel]
  unfold other
  by_cases h : l.val < 64
  · rw [dif_pos h, if_pos h, dynamicRotate_apply 1 64#32 n hr _ (ix2 r ⟨l.val + 64, by omega⟩) (fun b => by
      fin_cases b
      · rfl
      · show l.val + 64 = (l.val + 128 - 64 % 128) % 128; omega)]
    rw [mul_neg_one, mul_neg, neg_mul]
  · rw [dif_neg h, if_neg h, dynamicRotate_apply 1 64#32 n hr _ (ix2 r ⟨l.val - 64, by omega⟩) (fun b => by
      fin_cases b
      · rfl
      · show l.val - 64 = (l.val + 128 - 64 % 128) % 128; omega), mul_one]

/-- A static scale per head. -/
theorem b131 {α : Type} {M H L : ℕ} (hH : H ≠ 1) (v : (S3 1 H 1).Idx → α) (h : (S3 1 H 1).Broadcasts (S3 M H L)) (r : Fin M) (n : Fin H) (l : Fin L) :
    broadcastTo (S3 M H L) v h (ix3 r n l) = v (ix3 0 n 0) :=
  broadcastTo_apply v h _ _ fun a => by
    fin_cases a
    · rfl
    · exact (if_neg hH).symm
    · rfl
theorem b331 {α : Type} {M H L : ℕ} (hM : M ≠ 1) (hH : H ≠ 1) (v : (S3 M H 1).Idx → α) (h : (S3 M H 1).Broadcasts (S3 M H L)) (r : Fin M) (n : Fin H) (l : Fin L) :
    broadcastTo (S3 M H L) v h (ix3 r n l) = v (ix3 r n 0) :=
  broadcastTo_apply v h _ _ fun a => by
    fin_cases a
    · exact (if_neg hM).symm
    · exact (if_neg hH).symm
    · rfl
theorem b113 {α : Type} {M H L : ℕ} (hL : L ≠ 1) (v : (S3 1 1 L).Idx → α) (h : (S3 1 1 L).Broadcasts (S3 M H L)) (r : Fin M) (n : Fin H) (l : Fin L) :
    broadcastTo (S3 M H L) v h (ix3 r n l) = v (ix3 0 0 l) :=
  broadcastTo_apply v h _ _ fun a => by
    fin_cases a
    · rfl
    · rfl
    · exact (if_neg hL).symm
theorem b313 {α : Type} {M H L : ℕ} (hM : M ≠ 1) (hL : L ≠ 1) (v : (S3 M 1 L).Idx → α) (h : (S3 M 1 L).Broadcasts (S3 M H L)) (r : Fin M) (n : Fin H) (l : Fin L) :
    broadcastTo (S3 M H L) v h (ix3 r n l) = v (ix3 r 0 l) :=
  broadcastTo_apply v h _ _ fun a => by
    fin_cases a
    · exact (if_neg hM).symm
    · rfl
    · exact (if_neg hL).symm

/-- The rows' heads, side by side, as an axis of their own. -/
theorem heads_cast {α : Type} {M H N : ℕ} (hN : N = H * 128) (v : (S2 M N).Idx → α) (h : (S2 M N).ShapeCasts (S3 M H 128)) (r : Fin M) (n : Fin H) (l : Fin 128) (j : Fin N)
    (hj : j.val = 128 * n.val + l.val) : shapeCast (S3 M H 128) v h (ix3 r n l) = v (ix2 r j) :=
  shapeCast_apply _ h _ _ (by
    rw [Shape.rowMajor_val_two, Shape.rowMajor_val_three]
    show r.val * N + j.val = (r.val * H + n.val) * 128 + l.val
    rw [hj, hN]; ring)
theorem unheads_cast {α : Type} {M H N : ℕ} (hN : N = H * 128) (v : (S3 M H 128).Idx → α) (h : (S3 M H 128).ShapeCasts (S2 M N)) (r : Fin M) (n : Fin H) (l : Fin 128) (j : Fin N)
    (hj : j.val = 128 * n.val + l.val) : shapeCast (S2 M N) v h (ix2 r j) = v (ix3 r n l) :=
  shapeCast_apply _ h _ _ (by
    rw [Shape.rowMajor_val_two, Shape.rowMajor_val_three]
    show (r.val * H + n.val) * 128 + l.val = r.val * N + j.val
    rw [hj, hN]; ring)
/-- A matrix with an axis of one head put in. -/
theorem mid_cast {α : Type} {M L : ℕ} (v : (S2 M L).Idx → α) (h : (S2 M L).ShapeCasts (S3 M 1 L)) (r : Fin M) (l : Fin L) : shapeCast (S3 M 1 L) v h (ix3 r 0 l) = v (ix2 r l) :=
  shapeCast_apply _ h _ _ (by
    rw [Shape.rowMajor_val_two, Shape.rowMajor_val_three]
    show r.val * L + l.val = (r.val * 1 + 0) * L + l.val
    rw [Nat.mul_one, Nat.add_zero])

/-- THE NORM OF A HEAD'S ROW. -/
theorem nrm_head {M H : ℕ} (hM : M ≠ 1) (hH : H ≠ 1) (v : FVec Ideal (S3 M H 128) .f32) (w : FVec Ideal (S3 1 1 128) .f32)
    (h1 : (S3 M H 128).Reduces [2] (S2 M H)) (hφ : FKind.Formats .f32)
    (hacc : (0x00000000#32 : BitVec 32) = FKind.add.neutral .f32 hφ) (h2 : (S2 M H).ShapeCasts (S3 M H 1)) (h3 : (S3 M H 1).Broadcasts (S3 M H 128))
    (h4 : (S3 1 1 128).Broadcasts (S3 M H 128)) (r : Fin M) (n : Fin H) (l : Fin 128) :
    mulf (divf v (broadcastTo (S3 M H 128) (sqrt (addf (divf (shapeCast (S3 M H 1) (multiReduction .add [2] (S2 M H) (mulf v v) 0x00000000#32 h1 hφ hacc) h2)
        (broadcast (S3 M H 1) (Scalar.ofBits .f32 0x43000000#32 : Ideal .f32))) (broadcast (S3 M H 1) (Scalar.ofBits .f32 0x358637BD#32 : Ideal .f32)))) h3)) (broadcastTo (S3 M H 128) w h4) (ix3 r n l)
      = nrm 0x43000000#32 (fun k => v (ix3 r n k)) (fun k => w (ix3 0 0 k)) l := by
  rw [mulf_apply, divf_apply, b113 (by decide), b331 hM hH]
  refine congrArg (fun z : EReal => Ideal.div (v (ix3 r n l)) (FloatOps.sqrt ((Ideal.div z (k32 0x43000000#32) + k32 0x358637BD#32 : EReal) : Ideal .f32) : Ideal .f32) * w (ix3 0 0 l)) ?_
  refine Eq.trans (shapeCast_apply _ h2 (ix3 r n 0) (ix2 r n) ?_) (sum_head _ h1 hφ hacc r n)
  rw [Shape.rowMajor_val_two, Shape.rowMajor_val_three]
  show r.val * H + n.val = (r.val * H + n.val) * 1 + 0
  omega

/-- THE ROTATION OF A HEAD'S ROW, the halves concatenated. -/
theorem halves_apply {M H : ℕ} (hM : M ≠ 1) (v : FVec Ideal (S3 M H 128) .f32) (co si : FVec Ideal (S3 M 1 128) .f32)
    (h1 : (S3 M H 128).Slices ![0, 0, 64] (S3 M H 64)) (h2 : (S3 M H 128).Slices ![0, 0, 0] (S3 M H 64))
    (h3 : Shape.Concatenates [S3 M H 64, S3 M H 64] (S3 M H 128) 2) (h4 h4' : (S3 M 1 128).Broadcasts (S3 M H 128)) (r : Fin M) (n : Fin H) (l : Fin 128) :
    addf (mulf v (broadcastTo (S3 M H 128) co h4)) (mulf (concatenate (S3 M H 128) 2
        [⟨S3 M H 64, subf (broadcast (S3 M H 64) (Scalar.ofBits .f32 0x00000000#32 : Ideal .f32)) (extractStridedSlice (S3 M H 64) ![0, 0, 64] v h1)⟩,
         ⟨S3 M H 64, extractStridedSlice (S3 M H 64) ![0, 0, 0] v h2⟩] h3) (broadcastTo (S3 M H 128) si h4')) (ix3 r n l)
      = rope (fun k => v (ix3 r n k)) (fun k => co (ix3 r 0 k)) (fun k => si (ix3 r 0 k)) l := by
  have hl := l.isLt
  rw [addf_apply, mulf_apply, mulf_apply, b313 hM (by decide), b313 hM (by decide)]
  refine congrArg (fun z : EReal => v (ix3 r n l) * co (ix3 r 0 l) + z * si (ix3 r 0 l)) ?_
  unfold other
  by_cases h : l.val < 64
  · rw [dif_pos h]
    refine (concatenate_pair_apply_left (t := S3 M H 128) (s₁ := S3 M H 64) (s₂ := S3 M H 64) 2 _ _ h3 _ rfl (ix3 r n ⟨l.val, h⟩)
      (fun b => by fin_cases b <;> rfl)).trans ?_
    rw [subf_apply]
    have e : extractStridedSlice (S3 M H 64) ![0, 0, 64] v h1 (ix3 r n ⟨l.val, h⟩) = v (ix3 r n ⟨l.val + 64, by omega⟩) := by
      unfold extractStridedSlice
      refine congrArg v (funext fun a => Fin.ext ?_)
      fin_cases a
      · show 0 + r.val = r.val; omega
      · show 0 + n.val = n.val; omega
      · show 64 + l.val = l.val + 64; omega
    rw [e]
    show Ideal.ofBits .f32 0x00000000#32 - _ = _
    rw [Ideal.ofBits_zero_f32, zero_sub]
  · rw [dif_neg h]
    refine (concatenate_pair_apply_right (t := S3 M H 128) (s₁ := S3 M H 64) (s₂ := S3 M H 64) 2 _ _ h3 _ rfl rfl (ix3 r n ⟨l.val - 64, by omega⟩)
      (fun b hb => by fin_cases b <;> first | rfl | exact absurd rfl hb) (by show l.val - 64 + 64 = l.val; omega)).trans ?_
    unfold extractStridedSlice
    refine congrArg v (funext fun a => Fin.ext ?_)
    fin_cases a
    · show 0 + r.val = r.val; omega
    · show 0 + n.val = n.val; omega
    · show 0 + (l.val - 64) = l.val - 64; omega

/-! ## The projections -/

/-- The features before their norm: the product with the packed int4 matrix, scaled by column. -/
def h (th : FVec Ideal (S2 768 12800) .bf16) (wf : IVec (S2 6400 2560) 8) (sf : FVec Ideal (S2 1 2560) .f32) (r : Fin 768) (c : Fin 2560) : EReal :=
  (∑ k : Fin 12800, th (ix2 r k) * (FloatOps.sitofp .bf16 (nib rfl wf k c) : Ideal .bf16)) * sf (ix2 0 c)

/-- The features' rows, -/
def ctx (th : FVec Ideal (S2 768 12800) .bf16) (wf : IVec (S2 6400 2560) 8) (sf fw : FVec Ideal (S2 1 2560) .f32) (r : Fin 768) : Fin 2560 → EReal :=
  nrm 0x45200000#32 (h th wf sf r) fun c => fw (ix2 0 c)

/-- and the stream's. -/
def str (x : FVec Ideal (S2 768 2560) .bf16) (aw : FVec Ideal (S2 1 2560) .f32) (r : Fin 768) : Fin 2560 → EReal :=
  nrm 0x45200000#32 (fun c => x (ix2 r c)) fun c => aw (ix2 0 c)

/-- Column `n` of the projection matrix, -/
def col (n : ℕ) : Fin 6144 := ⟨n % 6144, Nat.mod_lt _ (by decide)⟩

theorem col_eq (n : ℕ) (j : Fin 6144) (hj : j.val = n) : col n = j := Fin.ext (by
  have := j.isLt
  show n % 6144 = j.val
  rw [hj, Nat.mod_eq_of_lt]; omega)

/-- and of a row's product with it: the codes' product, scaled by the row's and by the column's scale. -/
def prj (wq : FVec Ideal (S2 2560 6144) .fp8e4m3) (sq : FVec Ideal (S2 1 6144) .f32) (v : Fin 2560 → EReal) (n : ℕ) : EReal :=
  (∑ k : Fin 2560, code v k * wq (ix2 k (col n))) * qs v * sq (ix2 0 (col n))

/-- One head of it, normed and rotated: the 128 columns from column `o`. -/
def hd (wq : FVec Ideal (S2 2560 6144) .fp8e4m3) (sq : FVec Ideal (S2 1 6144) .f32) (v : Fin 2560 → EReal) (o : ℕ) (w co si : Fin 128 → EReal) : Fin 128 → EReal :=
  rope (nrm 0x43000000#32 (fun l => prj wq sq v (o + l.val)) w) co si

theorem nrm_congr {n : ℕ} (d : BitVec 32) {v v' w w' : Fin n → EReal} (h : ∀ k, v k = v' k) (hw : ∀ k, w k = w' k) (c : Fin n) : nrm d v w c = nrm d v' w' c := by
  rw [show v = v' from funext h, show w = w' from funext hw]
theorem code_congr {n : ℕ} {v v' : Fin n → EReal} (h : ∀ k, v k = v' k) (c : Fin n) : code v c = code v' c := by rw [show v = v' from funext h]
theorem qs_congr {n : ℕ} {v v' : Fin n → EReal} (h : ∀ k, v k = v' k) : qs v = qs v' := by rw [show v = v' from funext h]
theorem rope_congr {n n' co co' si si' : Fin 128 → EReal} (h : ∀ k, n k = n' k) (hc : ∀ k, co k = co' k) (hs : ∀ k, si k = si' k) (l : Fin 128) :
    rope n co si l = rope n' co' si' l := by
  rw [show n = n' from funext h, show co = co' from funext hc, show si = si' from funext hs]

/-! ## The results, as functions of the arrays -/

/-- The arrays both programs read: theta, the packed matrix with its scales, the two norms' weights, the stream, the projection matrix with its
    scales, the heads' weights, the two pairs of rotation tables, and the static scales of keys and values. -/
structure In where
  th : FVec Ideal (S2 768 12800) .bf16
  wf : IVec (S2 6400 2560) 8
  sf : FVec Ideal (S2 1 2560) .f32
  fw : FVec Ideal (S2 1 2560) .f32
  x : FVec Ideal (S2 768 2560) .bf16
  aw : FVec Ideal (S2 1 2560) .f32
  wq : FVec Ideal (S2 2560 6144) .fp8e4m3
  sq : FVec Ideal (S2 1 6144) .f32
  qw : FVec Ideal (S2 1 128) .f32
  kw : FVec Ideal (S2 1 128) .f32
  cc : FVec Ideal (S2 768 128) .f32
  cs : FVec Ideal (S2 768 128) .f32
  bc : FVec Ideal (S2 768 128) .f32
  bs : FVec Ideal (S2 768 128) .f32
  ks : Fin 8 → EReal
  vs : Fin 8 → EReal

variable (A : In)

/-- A features' row after its norm, -/
def In.c (r : Fin 768) : Fin 2560 → EReal := ctx A.th A.wf A.sf A.fw r
/-- and a stream's. -/
def In.s (r : Fin 768) : Fin 2560 → EReal := str A.x A.aw r

/-- Which head a column is in, and where in it. -/
def hn (j : Fin 1024) : Fin 8 := ⟨j.val / 128, by have := j.isLt; omega⟩
def hl {n : ℕ} (j : Fin n) : Fin 128 := ⟨j.val % 128, Nat.mod_lt _ (by decide)⟩

def In.z16 : FVec Ideal (S2 768 2560) .bf16 := fun j => A.c (j 0) (j 1)
def In.z17 : FVec Ideal (S2 768 2560) .bf16 := fun j => h A.th A.wf A.sf (j 0) (j 1)
def In.z18 : FVec Ideal (S2 768 2560) .fp8e4m3 := fun j => code (A.c (j 0)) (j 1)
def In.z19 : FVec Ideal (S2 768 1) .f32 := fun j => qs (A.c (j 0))
def In.z20 : FVec Ideal (S2 768 1024) .fp8e4m3 := fun j =>
  clip (Ideal.div (hd A.wq A.sq (A.c (j 0)) (4096 + 128 * (hn (j 1)).val) (fun l => A.kw (ix2 0 l)) (fun l => A.cc (ix2 (j 0) l)) (fun l => A.cs (ix2 (j 0) l)) (hl (j 1))) (A.ks (hn (j 1))))
def In.z21 : FVec Ideal (S2 768 1024) .fp8e4m3 := fun j => clip (Ideal.div (prj A.wq A.sq (A.c (j 0)) (5120 + (j 1).val)) (A.vs (hn (j 1))))
def In.z22 : FVec Ideal (S2 768 2560) .fp8e4m3 := fun j => code (A.s (j 0)) (j 1)
def In.z23 : FVec Ideal (S2 768 1) .f32 := fun j => qs (A.s (j 0))
def In.z24 : FVec Ideal (S2 768 4096) .bf16 := fun j =>
  hd A.wq A.sq (A.s (j 0)) (128 * ((j 1).val / 128)) (fun l => A.qw (ix2 0 l)) (fun l => A.bc (ix2 (j 0) l)) (fun l => A.bs (ix2 (j 0) l)) (hl (j 1))
def In.z25 : FVec Ideal (S2 768 1024) .bf16 := fun j =>
  hd A.wq A.sq (A.s (j 0)) (4096 + 128 * ((j 1).val / 128)) (fun l => A.kw (ix2 0 l)) (fun l => A.bc (ix2 (j 0) l)) (fun l => A.bs (ix2 (j 0) l)) (hl (j 1))
def In.z26 : FVec Ideal (S2 768 1024) .bf16 := fun j => prj A.wq A.sq (A.s (j 0)) (5120 + (j 1).val)

end Cert.ProjSpec

end
-- ==== Proof.ProjIdeal.Value.lean ====
/- THE VALUES OF THE POINTS ARE THE FORMULAS: what the points of the projections leave in the results' buffers, read at an index. -/
module

public import proofs.«01_k».proof.Proof.ProjIdeal.State
public import proofs.«01_k».proof.Proof.ProjSpec
public import Idealize.ShloMosaic.Lib.Pipeline.ValueKit.Geometry

@[expose] public section

set_option maxRecDepth 65536

noncomputable section

namespace Cert.ProjIdeal.Gen

open Idealize.ShloMosaic Idealize.ShloMosaic.TcCoe Idealize.ShloMosaic.ValueIdx Cert.Int4 Cert.MlpSpec
open Cert.Held (sub strips)
open Cert.ProjSpec (In nrm amax qs clip code rope ctx str prj hd hn hl col col_eq nrm_apply qs_apply code_apply roll_apply nrm_congr qs_congr code_congr rope_congr)
open scoped BigOperators

/-! ## The payloads at an index -/

theorem pay62_apply (acc : Vec Ideal S768x2560 .f32) (a : Vec Ideal S768x1280 .bf16) (w : Vec Ideal S640x2560 .i8) (r : Fin 768) (c : Fin 2560) :
    k0_pay62 (F := Ideal) acc a w (ix2 r c)
      = acc (ix2 r c) + ∑ k : Fin 1280, a (ix2 r k) * (FloatOps.sitofp .bf16 (nib (P := 640) (K := 1280) rfl w k c) : Ideal .bf16) := by
  unfold k0_pay62
  simp only [shapeCast_self]
  rw [addf_apply, unpacked_apply (M := 768) (P := 640) (C := 2560) (K := 1280) rfl dot_S768x1280_S1280x2560_S768x2560_1_0_0_1_n_n rfl]

theorem pay1_apply (a : Vec Ideal S768x2560 .fp8e4m3) (w : Vec Ideal S2560x512 .fp8e4m3) (r : Fin 768) (q : Fin 512) :
    k0_pay1 (F := Ideal) a w (ix2 r q) = ∑ k : Fin 2560, a (ix2 r k) * w (ix2 k q) := by
  unfold k0_pay1
  simp only [shapeCast_self]
  exact product_apply (M := 768) (K := 2560) (N := 512) dot_S768x2560_S2560x512_S768x512_1_0_0_1_n_n rfl _ _ r q

theorem pay2_apply (a : Vec Ideal S768x2560 .fp8e4m3) (w : Vec Ideal S2560x512 .fp8e4m3) (r : Fin 768) (q : Fin 512) :
    k0_pay2 (F := Ideal) a w (ix2 r q) = ∑ k : Fin 2560, a (ix2 r k) * w (ix2 k q) := by
  unfold k0_pay2
  simp only [shapeCast_self]
  exact product_apply (M := 768) (K := 2560) (N := 512) dot_S768x2560_S2560x512_S768x512_1_0_0_1_n_n rfl _ _ r q

theorem pay3_apply (v : Vec Ideal S96x2560 .f32) (s : Vec Ideal S1x2560 .f32) (r : Fin 96) (c : Fin 2560) :
    k0_pay3 (F := Ideal) v s (ix2 r c) = v (ix2 r c) * s (ix2 0 c) := by
  unfold k0_pay3
  simp only [shapeCast_self]
  rw [mulf_apply, row_apply (by decide)]

section rows
variable (v : Vec Ideal S96x2560 .f32) (s w : Vec Ideal S1x2560 .f32) (r : Fin 96) (c : Fin 2560) (R : Fin 2560 → EReal)

/-- A block of 96 rows of the features: their norm, scales and codes, where `R` is the norm of the row. -/
theorem pay5_apply (h : Fin 2560 → EReal) (hh : ∀ k, v (ix2 r k) * s (ix2 0 k) = h k) :
    k0_pay5 (F := Ideal) v s w (ix2 r c) = nrm 0x45200000#32 h (fun k => w (ix2 0 k)) c := by
  unfold k0_pay5
  simp only [shapeCast_self]
  exact (nrm_apply (by decide) (by decide) _ _ _ _ _ _ _ _ _ r c).trans (nrm_congr _ (fun k => (pay3_apply v s r k).trans (hh k)) (fun _ => rfl) c)

theorem pay7_apply (hR : ∀ k, k0_pay5 (F := Ideal) v s w (ix2 r k) = R k) : k0_pay7 (F := Ideal) v s w (ix2 r 0) = qs R := by
  unfold k0_pay7
  exact (qs_apply _ _ _ _ _ r).trans (qs_congr hR)

theorem pay66_apply (hR : ∀ k, k0_pay5 (F := Ideal) v s w (ix2 r k) = R k) :
    k0_pay66 (F := Ideal) (Scalar.ofBits .f32 0x43E00000#32) (k0_pay8 v s w) (ix2 r c) = code R c := by
  unfold k0_pay66 k0_pay8
  rw [truncf_apply]
  exact (code_apply (by decide) _ _ _ r c ((pay7_apply v s w r R hR).trans (qs_congr fun k => (hR k).symm))).trans (code_congr hR c)

variable (x : Vec Ideal S96x2560 .bf16)

/-- A block of 96 rows of the stream, likewise. -/
theorem pay63_apply : k0_pay63 (F := Ideal) x w (ix2 r c) = nrm 0x45200000#32 (fun k => x (ix2 r k)) (fun k => w (ix2 0 k)) c := by
  unfold k0_pay63
  simp only [shapeCast_self]
  exact (nrm_apply (by decide) (by decide) _ _ _ _ _ _ _ _ _ r c).trans (nrm_congr _ (fun _ => rfl) (fun _ => rfl) c)

theorem pay64_apply (hR : ∀ k, k0_pay63 (F := Ideal) x w (ix2 r k) = R k) : k0_pay64 (F := Ideal) x w (ix2 r 0) = qs R := by
  unfold k0_pay64
  exact (qs_apply _ _ _ _ _ r).trans (qs_congr hR)

theorem pay65_apply (hR : ∀ k, k0_pay63 (F := Ideal) x w (ix2 r k) = R k) : k0_pay65 (F := Ideal) x w (ix2 r c) = code R c := by
  unfold k0_pay65
  rw [truncf_apply]
  exact (code_apply (by decide) _ _ _ r c ((pay64_apply w r R x hR).trans (qs_congr fun k => (hR k).symm))).trans (code_congr hR c)

end rows

section heads
variable (v : Vec Ideal S768x128 .f32) (sc : Vec Ideal S768x1 .f32) (sq w : Vec Ideal S1x128 .f32) (co si : Vec Ideal S768x128 .f32) (s : EReal)
  (r : Fin 768) (l : Fin 128) (p : Fin 128 → EReal)

theorem scaled_apply : mulf (F := Ideal) (φ := .f32) (mulf (F := Ideal) (φ := .f32) v (broadcastTo S768x128 sc broadcasts_S768x1_S768x128)) (broadcastTo S768x128 sq broadcasts_S1x128_S768x128) (ix2 r l)
    = v (ix2 r l) * sc (ix2 r 0) * sq (ix2 0 l) := by
  rw [mulf_apply, mulf_apply, row_apply (by decide), col_apply (by decide)]

theorem pay9_apply (hp : ∀ k, v (ix2 r k) * sc (ix2 r 0) * sq (ix2 0 k) = p k) :
    k0_pay9 (F := Ideal) v sc sq w (ix2 r l) = nrm 0x43000000#32 p (fun k => w (ix2 0 k)) l := by
  unfold k0_pay9
  simp only [shapeCast_self]
  exact (nrm_apply (by decide) (by decide) _ _ _ _ _ _ _ _ _ r l).trans (nrm_congr _ (fun k => (scaled_apply v sc sq r k).trans (hp k)) (fun _ => rfl) l)

/-- ONE HEAD of the stream, of a row whose projection is `p`. -/
theorem qHead_apply (hp : ∀ k, v (ix2 r k) * sc (ix2 r 0) * sq (ix2 0 k) = p k) :
    qHead (F := Ideal) v sc sq w co si (ix2 r l) = rope (nrm 0x43000000#32 p (fun k => w (ix2 0 k))) (fun k => co (ix2 r k)) (fun k => si (ix2 r k)) l := by
  unfold qHead k0_pay14 k0_pay10 k0_pay11 k0_pay12 k0_pay13
  simp only [shapeCast_self]
  rw [truncf_apply]
  exact (roll_apply _ _ _ _ _ _ r l).trans (rope_congr (fun k => pay9_apply v sc sq w r k p hp) (fun _ => rfl) (fun _ => rfl) l)

theorem vbHead_apply : vbHead (F := Ideal) v sc sq (ix2 r l) = v (ix2 r l) * sc (ix2 r 0) * sq (ix2 0 l) := by
  unfold vbHead k0_pay52
  simp only [shapeCast_self]
  rw [truncf_apply]
  exact scaled_apply v sc sq r l

theorem vHead_apply : vHead (F := Ideal) v sc sq s (ix2 r l) = clip (Ideal.div (v (ix2 r l) * sc (ix2 r 0) * sq (ix2 0 l)) s) := by
  unfold vHead k0_pay60
  simp only [shapeCast_self]
  rw [truncf_apply, minimumf_apply, maximumf_apply, divf_apply, scaled_apply]
  rfl

/-- One head of the features: the same as the stream's, quantised with the head's static scale. -/
theorem kHead_apply (hp : ∀ k, v (ix2 r k) * sc (ix2 r 0) * sq (ix2 0 k) = p k) :
    kHead (F := Ideal) v sc sq w co si s (ix2 r l)
      = clip (Ideal.div (rope (nrm 0x43000000#32 p (fun k => w (ix2 0 k))) (fun k => co (ix2 r k)) (fun k => si (ix2 r k)) l) s) := by
  show k0_pay68 (F := Ideal) (k0_pay9 v sc sq w) _ _ co si s (ix2 r l) = _
  unfold k0_pay68 k0_pay51
  rw [truncf_apply, minimumf_apply, maximumf_apply, divf_apply]
  refine congrArg (fun z : EReal => clip (Ideal.div z s)) ?_
  exact (roll_apply _ _ _ _ _ _ r l).trans (rope_congr (fun k => pay9_apply v sc sq w r k p hp) (fun _ => rfl) (fun _ => rfl) l)

end heads

/-! ## The windows' blocks -/

variable (m : (ℓ : Loc nD τ sig) → Buf (Elt Ideal) ℓ)

theorem pt_of_lt {n : ℕ} (h : n < 23) : (pt n).val = n := Nat.mod_eq_of_lt h

theorem idx0 : ∀ (w : Fin cfg0.W), (w.val = 2 ∨ w.val = 3 ∨ w.val = 5 ∨ (7 ≤ w.val ∧ w.val ≤ 15) ∨ w.val = 18 ∨ w.val = 19 ∨ w.val = 22 ∨ w.val = 23) → ∀ (t : Fin cfg0.N) a, (cfg0.win w).index t a = 0 :=
  (by decide +kernel : ∀ (w : Fin 27), (w.val = 2 ∨ w.val = 3 ∨ w.val = 5 ∨ (7 ≤ w.val ∧ w.val ≤ 15) ∨ w.val = 18 ∨ w.val = 19 ∨ w.val = 22 ∨ w.val = 23) → ∀ (t : Fin grid0.N) a, (cfg0.win w).index t a = 0)
theorem idxA : ∀ t : Fin cfg0.N, t.val < 10 → win0_0.index t 0 = 0 ∧ win0_0.index t 1 = t.val ∧ win0_1.index t 0 = t.val ∧ win0_1.index t 1 = 0 :=
  (by decide +kernel : ∀ t : Fin grid0.N, t.val < 10 → win0_0.index t 0 = 0 ∧ win0_0.index t 1 = t.val ∧ win0_1.index t 0 = t.val ∧ win0_1.index t 1 = 0)
theorem idxB : ∀ t : Fin cfg0.N, t.val < 8 → win0_4.index t 0 = t.val ∧ win0_4.index t 1 = 0 :=
  (by decide +kernel : ∀ t : Fin grid0.N, t.val < 8 → win0_4.index t 0 = t.val ∧ win0_4.index t 1 = 0)
theorem idxC : ∀ t : Fin cfg0.N, 10 ≤ t.val → t.val ≤ 21 → win0_6.index t 0 = 0 ∧ win0_6.index t 1 = t.val - 10 :=
  (by decide +kernel : ∀ t : Fin grid0.N, 10 ≤ t.val → t.val ≤ 21 → win0_6.index t 0 = 0 ∧ win0_6.index t 1 = t.val - 10)

theorem blk_0 (c : Dev nD) (t : Fin cfg0.N) (ht : t.val < 10) (r : Fin 768) (q : Fin 1280) (k : Fin 12800) (hk : k.val = 1280 * t.val + q.val) : iblk m c 0 t (ix2 r q) = V m c main_arg0 (ix2 r k) := by
  obtain ⟨h0, h1, -⟩ := idxA t ht
  show V m c main_arg0 (((cfg0.win 0).blk t).view.emb (ix2 r q)) = _
  refine congrArg _ (funext fun a => Fin.ext (((cfg0.win 0).rect_emb_val t _ a).trans ?_))
  fin_cases a
  · show win0_0.index t 0 * 768 + r.val = r.val; rw [h0]; omega
  · show win0_0.index t 1 * 1280 + q.val = k.val; rw [h1]; omega
theorem blk_1 (c : Dev nD) (t : Fin cfg0.N) (ht : t.val < 10) (p : Fin 640) (k : Fin 2560) (r : Fin 6400) (hr : r.val = 640 * t.val + p.val) : iblk m c 1 t (ix2 p k) = V m c main_arg1 (ix2 r k) := by
  obtain ⟨-, -, h0, h1⟩ := idxA t ht
  show V m c main_arg1 (((cfg0.win 1).blk t).view.emb (ix2 p k)) = _
  refine congrArg _ (funext fun a => Fin.ext (((cfg0.win 1).rect_emb_val t _ a).trans ?_))
  fin_cases a
  · show win0_1.index t 0 * 640 + p.val = r.val; rw [h0]; omega
  · show win0_1.index t 1 * 2560 + k.val = k.val; rw [h1]; omega
theorem blk_4 (c : Dev nD) (t : Fin cfg0.N) (ht : t.val < 8) (p : Fin 96) (k : Fin 2560) (r : Fin 768) (hr : r.val = 96 * t.val + p.val) : iblk m c 4 t (ix2 p k) = V m c main_v0 (ix2 r k) := by
  obtain ⟨h0, h1⟩ := idxB t ht
  show V m c main_v0 (((cfg0.win 4).blk t).view.emb (ix2 p k)) = _
  refine congrArg _ (funext fun a => Fin.ext (((cfg0.win 4).rect_emb_val t _ a).trans ?_))
  fin_cases a
  · show win0_4.index t 0 * 96 + p.val = r.val; rw [h0]; omega
  · show win0_4.index t 1 * 2560 + k.val = k.val; rw [h1]; omega
theorem blk_6 (c : Dev nD) (t : Fin cfg0.N) (ht : 10 ≤ t.val) (ht' : t.val ≤ 21) (r : Fin 2560) (q : Fin 512) (k : Fin 6144) (hk : k.val = 512 * (t.val - 10) + q.val) : iblk m c 6 t (ix2 r q) = V m c main_arg6 (ix2 r k) := by
  obtain ⟨h0, h1⟩ := idxC t ht ht'
  show V m c main_arg6 (((cfg0.win 6).blk t).view.emb (ix2 r q)) = _
  refine congrArg _ (funext fun a => Fin.ext (((cfg0.win 6).rect_emb_val t _ a).trans ?_))
  fin_cases a
  · show win0_6.index t 0 * 2560 + r.val = r.val; rw [h0]; omega
  · show win0_6.index t 1 * 512 + q.val = k.val; rw [h1]; omega
theorem blk_2 (c : Dev nD) (t : Fin cfg0.N) : iblk m c 2 t = V m c main_v1 :=
  funext fun y => congrArg (V m c main_v1) (funext fun a => Fin.ext (Pipeline.Window.rect_emb_val_of_index_zero (cfg0.win 2) t a (idx0 2 (by decide) t a) y))
theorem blk_3 (c : Dev nD) (t : Fin cfg0.N) : iblk m c 3 t = V m c main_v2 :=
  funext fun y => congrArg (V m c main_v2) (funext fun a => Fin.ext (Pipeline.Window.rect_emb_val_of_index_zero (cfg0.win 3) t a (idx0 3 (by decide) t a) y))
theorem blk_5 (c : Dev nD) (t : Fin cfg0.N) : iblk m c 5 t = V m c main_v3 :=
  funext fun y => congrArg (V m c main_v3) (funext fun a => Fin.ext (Pipeline.Window.rect_emb_val_of_index_zero (cfg0.win 5) t a (idx0 5 (by decide) t a) y))
theorem blk_7 (c : Dev nD) (t : Fin cfg0.N) : iblk m c 7 t = V m c main_v4 :=
  funext fun y => congrArg (V m c main_v4) (funext fun a => Fin.ext (Pipeline.Window.rect_emb_val_of_index_zero (cfg0.win 7) t a (idx0 7 (by decide) t a) y))
theorem blk_8 (c : Dev nD) (t : Fin cfg0.N) : iblk m c 8 t = V m c main_v5 :=
  funext fun y => congrArg (V m c main_v5) (funext fun a => Fin.ext (Pipeline.Window.rect_emb_val_of_index_zero (cfg0.win 8) t a (idx0 8 (by decide) t a) y))
theorem blk_9 (c : Dev nD) (t : Fin cfg0.N) : iblk m c 9 t = V m c main_v6 :=
  funext fun y => congrArg (V m c main_v6) (funext fun a => Fin.ext (Pipeline.Window.rect_emb_val_of_index_zero (cfg0.win 9) t a (idx0 9 (by decide) t a) y))
theorem blk_10 (c : Dev nD) (t : Fin cfg0.N) : iblk m c 10 t = V m c main_arg10 :=
  funext fun y => congrArg (V m c main_arg10) (funext fun a => Fin.ext (Pipeline.Window.rect_emb_val_of_index_zero (cfg0.win 10) t a (idx0 10 (by decide) t a) y))
theorem blk_11 (c : Dev nD) (t : Fin cfg0.N) : iblk m c 11 t = V m c main_arg11 :=
  funext fun y => congrArg (V m c main_arg11) (funext fun a => Fin.ext (Pipeline.Window.rect_emb_val_of_index_zero (cfg0.win 11) t a (idx0 11 (by decide) t a) y))
theorem blk_12 (c : Dev nD) (t : Fin cfg0.N) : iblk m c 12 t = V m c main_v7 :=
  funext fun y => congrArg (V m c main_v7) (funext fun a => Fin.ext (Pipeline.Window.rect_emb_val_of_index_zero (cfg0.win 12) t a (idx0 12 (by decide) t a) y))
theorem blk_13 (c : Dev nD) (t : Fin cfg0.N) : iblk m c 13 t = V m c main_v8 :=
  funext fun y => congrArg (V m c main_v8) (funext fun a => Fin.ext (Pipeline.Window.rect_emb_val_of_index_zero (cfg0.win 13) t a (idx0 13 (by decide) t a) y))
theorem blk_14 (c : Dev nD) (t : Fin cfg0.N) : iblk m c 14 t = V m c main_arg14 :=
  funext fun y => congrArg (V m c main_arg14) (funext fun a => Fin.ext (Pipeline.Window.rect_emb_val_of_index_zero (cfg0.win 14) t a (idx0 14 (by decide) t a) y))
theorem blk_15 (c : Dev nD) (t : Fin cfg0.N) : iblk m c 15 t = V m c main_arg15 :=
  funext fun y => congrArg (V m c main_arg15) (funext fun a => Fin.ext (Pipeline.Window.rect_emb_val_of_index_zero (cfg0.win 15) t a (idx0 15 (by decide) t a) y))

/-- The arrays the program reads. -/
def inp (c : Dev nD) : In where
  th := V m c main_arg0
  wf := V m c main_arg1
  sf := V m c main_v1
  fw := V m c main_v2
  x := V m c main_v0
  aw := V m c main_v3
  wq := V m c main_arg6
  sq := V m c main_v4
  qw := V m c main_v5
  kw := V m c main_v6
  cc := V m c main_arg10
  cs := V m c main_arg11
  bc := V m c main_v7
  bs := V m c main_v8
  ks := fun n => V m c main_arg14 (ix1 n)
  vs := fun n => V m c main_arg15 (ix1 n)

/-! ## The stream's codes and scales -/

theorem s_row (c : Dev nD) (R : Fin 768) (k : Fin 2560) : k0_pay63 (F := Ideal) (iblk m c 4 (pt (R.val / 96))) (iblk m c 5 (pt (R.val / 96))) (ix2 ⟨R.val % 96, Nat.mod_lt _ (by decide)⟩ k) = (inp m c).s R k := by
  have hR := R.isLt
  have hp : (pt (R.val / 96)).val = R.val / 96 := pt_of_lt (by omega)
  refine (pay63_apply _ _ _ _).trans (nrm_congr _ (fun k => blk_4 m c _ (by omega) _ k R ?_) (fun k => congrFun (blk_5 m c _) (ix2 0 k)) k)
  show R.val = 96 * (pt (R.val / 96)).val + R.val % 96
  omega

theorem X6_apply (c : Dev nD) (R : Fin 768) (k : Fin 2560) : X6 m c (ix2 R k) = code ((inp m c).s R) k := by
  unfold X6
  exact pay65_apply _ _ _ _ _ fun k => s_row m c R k
theorem XS_apply (c : Dev nD) (R : Fin 768) : XS m c (ix2 R 0) = qs ((inp m c).s R) := by
  unfold XS
  exact pay64_apply _ _ _ _ fun k => s_row m c R k

/-! ## The features -/

/-- A tile of packed rows holds the array's rows. -/
theorem nib_row (w : IVec (S2 640 2560) 8) (W : IVec (S2 6400 2560) 8) (n : ℕ)
    (h : ∀ (p : Fin 640) (k : Fin 2560) (r : Fin 6400), r.val = 640 * n + p.val → w (ix2 p k) = W (ix2 r k)) (q : Fin 1280) (k : Fin 2560)
    (i : Fin 12800) (hi : i.val = 1280 * n + q.val) : nib (P := 640) (K := 1280) rfl w q k = nib (P := 6400) (K := 12800) rfl W i k := by
  have hq := q.isLt
  have hi' := i.isLt
  unfold nib
  rw [h ⟨q.val / 2, by omega⟩ k ⟨i.val / 2, by omega⟩ (by show i.val / 2 = 640 * n + q.val / 2; omega), show i.val % 2 = q.val % 2 by omega]

/-- A row's term of the first product. -/
def term (c : Dev nD) (r : Fin 768) (k : Fin 2560) (i : ℕ) : EReal :=
  if h : i < 12800 then (inp m c).th (ix2 r ⟨i, h⟩) * (FloatOps.sitofp .bf16 (nib (P := 6400) (K := 12800) rfl (inp m c).wf ⟨i, h⟩ k) : Ideal .bf16) else 0

/-- After `n` tiles the accumulator holds the sum over the first `1280 n` columns. -/
theorem Hs_apply (c : Dev nD) (r : Fin 768) (k : Fin 2560) : ∀ n : ℕ, n ≤ 10 → Hs m c n (ix2 r k) = ∑ i ∈ Finset.range (1280 * n), term m c r k i
  | 0, _ => by
    show k0_pay61 (F := Ideal) (ix2 r k) = _
    unfold k0_pay61
    simp only [shapeCast_self]
    rw [Nat.mul_zero, Finset.sum_range_zero]
    exact Ideal.ofBits_zero_f32
  | n + 1, hn => by
    have hp : (pt n).val = n := pt_of_lt (by omega)
    show k0_pay62 (F := Ideal) (Hs m c n) (iblk m c 0 (pt n)) (iblk m c 1 (pt n)) (ix2 r k) = _
    rw [pay62_apply, Hs_apply c r k n (by omega), Nat.mul_succ, Finset.sum_range_add, Finset.sum_range (n := 1280)]
    refine congrArg (_ + ·) (Finset.sum_congr rfl fun q _ => ?_)
    have hq := q.isLt
    unfold term
    rw [dif_pos (show 1280 * n + q.val < 12800 by omega), blk_0 m c (pt n) (by omega) r q ⟨1280 * n + q.val, by omega⟩ (by rw [hp]),
      nib_row _ (V m c main_arg1) n (fun p j i hi => blk_1 m c _ (by omega) p j i (by rw [hp, hi])) q k ⟨1280 * n + q.val, by omega⟩ rfl]
    rfl

theorem h_row (c : Dev nD) (t : Fin cfg0.N) (b : ℕ) (p : Fin 96) (k : Fin 2560) (R : Fin 768) (hR : R.val = 96 * b + p.val) :
    Hrow m c b (ix2 p k) * (iblk m c 2 t : Vec Ideal S1x2560 .f32) (ix2 0 k) = ProjSpec.h (inp m c).th (inp m c).wf (inp m c).sf R k := by
  have hR' := R.isLt
  have hk := k.isLt
  have e : Hrow m c b (ix2 p k) = Hs m c 10 (ix2 R k) := by
    unfold Hrow sub
    refine congrArg (Hs m c 10) (congrArg₂ ix2 (Fin.ext ?_) (Fin.ext ?_))
    · show (96 * b + p.val) % 768 = R.val; omega
    · show (0 + k.val) % 2560 = k.val; omega
  rw [e, Hs_apply m c R k 10 le_rfl, blk_2, show 1280 * 10 = 12800 from rfl, Finset.sum_range]
  unfold ProjSpec.h
  refine congrArg (fun z : EReal => z * (inp m c).sf (ix2 0 k)) (Finset.sum_congr rfl fun i _ => ?_)
  unfold term
  rw [dif_pos i.isLt]

theorem c_row (c : Dev nD) (t : Fin cfg0.N) (b : ℕ) (p : Fin 96) (k : Fin 2560) (R : Fin 768) (hR : R.val = 96 * b + p.val) :
    k0_pay5 (F := Ideal) (Hrow m c b) (iblk m c 2 t) (iblk m c 3 t) (ix2 p k) = (inp m c).c R k :=
  (pay5_apply _ _ _ p k _ fun k => h_row m c t b p k R hR).trans (nrm_congr _ (fun _ => rfl) (fun k => congrFun (blk_3 m c t) (ix2 0 k)) k)

theorem T0_apply (c : Dev nD) (t : ℕ) (p : Fin 96) (k : Fin 2560) (R : Fin 768) (hR : R.val = 96 * (t - 10) + p.val) : T0 m c t (ix2 p k) = (inp m c).z16 (ix2 R k) := by
  unfold T0 k0_pay6
  rw [truncf_apply]
  exact c_row m c _ _ p k R hR
theorem T1_apply (c : Dev nD) (t : ℕ) (p : Fin 96) (k : Fin 2560) (R : Fin 768) (hR : R.val = 96 * (t - 10) + p.val) : T1 m c t (ix2 p k) = (inp m c).z17 (ix2 R k) := by
  unfold T1 k0_pay4
  rw [truncf_apply]
  exact (pay3_apply _ _ p k).trans (h_row m c _ _ p k R hR)
theorem CC_apply (c : Dev nD) (R : Fin 768) (k : Fin 2560) : CC m c (ix2 R k) = code ((inp m c).c R) k := by
  unfold CC
  exact pay66_apply _ _ _ _ _ _ fun k => c_row m c _ _ _ k R (Nat.div_add_mod R.val 96).symm
theorem CS_apply (c : Dev nD) (R : Fin 768) : CS m c (ix2 R 0) = qs ((inp m c).c R) := by
  unfold CS
  exact pay7_apply _ _ _ _ _ fun k => c_row m c _ _ _ k R (Nat.div_add_mod R.val 96).symm

/-! ## The projections' tiles -/

/-- The window of an array, at an index that stays inside. -/
theorem sub_apply {α : Type} {n0 n1 : ℕ} [NeZero n0] [NeZero n1] {k0 k1 : ℕ} (X : (S2 n0 n1).Idx → α) (o : Fin 2 → ℕ) (a : Fin k0) (b : Fin k1) (A : Fin n0) (B : Fin n1)
    (hA : o 0 + a.val = A.val) (hB : o 1 + b.val = B.val) : sub k0 k1 X o (ix2 a b) = X (ix2 A B) := by
  unfold sub
  refine congrArg X (congrArg₂ ix2 (Fin.ext ?_) (Fin.ext ?_))
  · show (o 0 + a.val) % n0 = A.val; rw [hA, Nat.mod_eq_of_lt A.isLt]
  · show (o 1 + b.val) % n1 = B.val; rw [hB, Nat.mod_eq_of_lt B.isLt]

/-- One row of a strip of 128 columns of a tile, scaled, is the row's projection: `v` the row, `A` its codes, `S` its scale. -/
theorem strip (c : Dev nD) (A : Vec Ideal S768x2560 .fp8e4m3) (T : Vec Ideal S768x512 .f32) (S : Vec Ideal S768x1 .f32) (v : Fin 2560 → EReal) (R : Fin 768) (n k : ℕ) (hn : 10 ≤ n) (hn' : n ≤ 21) (hk : k < 4)
    (hT : ∀ q : Fin 512, T (ix2 R q) = ∑ k : Fin 2560, A (ix2 R k) * (iblk m c 6 (pt n) : Vec Ideal S2560x512 .fp8e4m3) (ix2 k q))
    (hA : ∀ k, A (ix2 R k) = code v k) (hS : S (ix2 R 0) = qs v) (t : Fin cfg0.N) (o : Fin 2 → ℕ) (ho : o = ![0, 512 * (n - 10) + 128 * k]) (l : Fin 128) :
    sub 768 128 T ![0, 128 * k] (ix2 R l) * S (ix2 R 0) * sub 1 128 (iblk m c 7 t : Vec Ideal S1x6144 .f32) o (ix2 0 l)
      = prj (inp m c).wq (inp m c).sq v (512 * (n - 10) + 128 * k + l.val) := by
  have hl := l.isLt
  have hp : (pt n).val = n := pt_of_lt (by omega)
  subst ho
  rw [sub_apply T ![0, 128 * k] R l R ⟨128 * k + l.val, by omega⟩ (Nat.zero_add _) rfl, hT, hS,
    sub_apply (iblk m c 7 t : Vec Ideal S1x6144 .f32) ![0, 512 * (n - 10) + 128 * k] (0 : Fin 1) l 0 (col (512 * (n - 10) + 128 * k + l.val)) rfl
      (by show 512 * (n - 10) + 128 * k + l.val = (512 * (n - 10) + 128 * k + l.val) % 6144; omega), blk_7]
  unfold prj
  refine congrArg (fun z : EReal => z * qs v * (inp m c).sq (ix2 0 (col (512 * (n - 10) + 128 * k + l.val)))) (Finset.sum_congr rfl fun i _ => ?_)
  rw [hA, blk_6 m c (pt n) (by omega) (by omega) i ⟨128 * k + l.val, by omega⟩ (col (512 * (n - 10) + 128 * k + l.val))
    (by show (512 * (n - 10) + 128 * k + l.val) % 6144 = 512 * ((pt n).val - 10) + (128 * k + l.val); rw [hp]; omega)]
  rfl

/-- … for the stream's rows, -/
theorem strip_s (c : Dev nD) (R : Fin 768) (n k : ℕ) (hn : 10 ≤ n) (hn' : n ≤ 21) (hk : k < 4) (t : Fin cfg0.N) (o : Fin 2 → ℕ) (ho : o = ![0, 512 * (n - 10) + 128 * k]) (l : Fin 128) :
    sub 768 128 (AX m c n) ![0, 128 * k] (ix2 R l) * XS m c (ix2 R 0) * sub 1 128 (iblk m c 7 t : Vec Ideal S1x6144 .f32) o (ix2 0 l)
      = prj (inp m c).wq (inp m c).sq ((inp m c).s R) (512 * (n - 10) + 128 * k + l.val) :=
  strip m c (X6 m c) _ _ _ R n k hn hn' hk (fun q => by unfold AX; exact pay1_apply _ _ R q) (fun k => X6_apply m c R k) (XS_apply m c R) t o ho l
/-- and for the features'. -/
theorem strip_c (c : Dev nD) (R : Fin 768) (n k : ℕ) (hn : 10 ≤ n) (hn' : n ≤ 21) (hk : k < 4) (t : Fin cfg0.N) (o : Fin 2 → ℕ) (ho : o = ![0, 512 * (n - 10) + 128 * k]) (l : Fin 128) :
    sub 768 128 (AC m c n) ![0, 128 * k] (ix2 R l) * CS m c (ix2 R 0) * sub 1 128 (iblk m c 7 t : Vec Ideal S1x6144 .f32) o (ix2 0 l)
      = prj (inp m c).wq (inp m c).sq ((inp m c).c R) (512 * (n - 10) + 128 * k + l.val) :=
  strip m c (CC m c) _ _ _ R n k hn hn' hk (fun q => by unfold AC; exact pay2_apply _ _ R q) (fun k => CC_apply m c R k) (CS_apply m c R) t o ho l

/-! ## The heads' tiles -/

theorem off5 : ∀ t : Fin cfg0.N, 11 ≤ t.val → t.val ≤ 18 → ∀ k : Fin 4, k0_off5 (grid0.coords t) (BitVec.ofNat 32 (128 * k.val)) = ![0, 512 * (t.val - 1 - 10) + 128 * k.val] :=
  (by decide +kernel : ∀ t : Fin grid0.N, 11 ≤ t.val → t.val ≤ 18 → ∀ k : Fin 4, k0_off5 (grid0.coords t) (BitVec.ofNat 32 (128 * k.val)) = ![0, 512 * (t.val - 1 - 10) + 128 * k.val])
theorem off6 : ∀ t : Fin cfg0.N, 19 ≤ t.val → t.val ≤ 20 → ∀ k : Fin 4, k0_off6 (grid0.coords t) (BitVec.ofNat 32 (128 * k.val)) = ![0, 512 * (t.val - 1 - 10) + 128 * k.val] :=
  (by decide +kernel : ∀ t : Fin grid0.N, 19 ≤ t.val → t.val ≤ 20 → ∀ k : Fin 4, k0_off6 (grid0.coords t) (BitVec.ofNat 32 (128 * k.val)) = ![0, 512 * (t.val - 1 - 10) + 128 * k.val])
theorem off8 : ∀ t : Fin cfg0.N, 21 ≤ t.val → ∀ k : Fin 4, k0_off8 (grid0.coords t) (BitVec.ofNat 32 (128 * k.val)) = ![0, 512 * (t.val - 1 - 10) + 128 * k.val] :=
  (by decide +kernel : ∀ t : Fin grid0.N, 21 ≤ t.val → ∀ k : Fin 4, k0_off8 (grid0.coords t) (BitVec.ofNat 32 (128 * k.val)) = ![0, 512 * (t.val - 1 - 10) + 128 * k.val])
theorem off7 : ∀ t : Fin cfg0.N, 19 ≤ t.val → t.val ≤ 20 → ∀ k : Fin 4, k0_off7 (grid0.coords t) (BitVec.ofNat 32 k.val) 0 = 4 * (t.val - 19) + k.val :=
  (by decide +kernel : ∀ t : Fin grid0.N, 19 ≤ t.val → t.val ≤ 20 → ∀ k : Fin 4, k0_off7 (grid0.coords t) (BitVec.ofNat 32 k.val) 0 = 4 * (t.val - 19) + k.val)
theorem off9 : ∀ t : Fin cfg0.N, 21 ≤ t.val → ∀ k : Fin 4, k0_off9 (grid0.coords t) (BitVec.ofNat 32 k.val) 0 = 4 * (t.val - 21) + k.val :=
  (by decide +kernel : ∀ t : Fin grid0.N, 21 ≤ t.val → ∀ k : Fin 4, k0_off9 (grid0.coords t) (BitVec.ofNat 32 k.val) 0 = 4 * (t.val - 21) + k.val)

theorem strips_apply {e : EltTy} (P : ℕ → Vec Ideal S768x128 e) (R : Fin 768) (j : Fin 512) : strips P (ix2 R j) = P (j.val / 128) (ix2 R (hl j)) := rfl

/-- The heads of one tile, columns and numbers: column `j` of the tile at `n` is column `J = 512 (n - 10) + j - o` of the result. -/
theorem T8_apply (c : Dev nD) (t : ℕ) (ht : 11 ≤ t) (ht' : t ≤ 18) (R : Fin 768) (j : Fin 512) (J : Fin 4096) (hJ : J.val = 512 * (t - 11) + j.val) : T8 m c t (ix2 R j) = (inp m c).z24 (ix2 R J) := by
  have hj := j.isLt
  have hp : (pt t).val = t := pt_of_lt (by omega)
  have o := off5 (pt t) (by omega) (by omega) ⟨j.val / 128, by omega⟩
  rw [hp] at o
  unfold T8
  rw [strips_apply, blk_8, blk_12, blk_13]
  refine (qHead_apply _ _ _ _ _ _ R (hl j) _ fun k => strip_s m c R (t - 1) (j.val / 128) (by omega) (by omega) (by omega) _ _ o k).trans ?_
  rw [show 512 * (t - 1 - 10) + 128 * (j.val / 128) = 128 * (J.val / 128) by omega, show hl j = hl J from Fin.ext (by show j.val % 128 = J.val % 128; omega)]
  rfl
theorem T9_apply (c : Dev nD) (t : ℕ) (ht : 19 ≤ t) (ht' : t ≤ 20) (R : Fin 768) (j : Fin 512) (J : Fin 1024) (hJ : J.val = 512 * (t - 19) + j.val) : T9 m c t (ix2 R j) = (inp m c).z25 (ix2 R J) := by
  have hj := j.isLt
  have hp : (pt t).val = t := pt_of_lt (by omega)
  have o := off6 (pt t) (by omega) (by omega) ⟨j.val / 128, by omega⟩
  rw [hp] at o
  unfold T9
  rw [strips_apply, blk_9, blk_12, blk_13]
  refine (qHead_apply _ _ _ _ _ _ R (hl j) _ fun k => strip_s m c R (t - 1) (j.val / 128) (by omega) (by omega) (by omega) _ _ o k).trans ?_
  rw [show 512 * (t - 1 - 10) + 128 * (j.val / 128) = 4096 + 128 * (J.val / 128) by omega, show hl j = hl J from Fin.ext (by show j.val % 128 = J.val % 128; omega)]
  rfl
theorem T10_apply (c : Dev nD) (t : ℕ) (ht : 21 ≤ t) (ht' : t ≤ 22) (R : Fin 768) (j : Fin 512) (J : Fin 1024) (hJ : J.val = 512 * (t - 21) + j.val) : T10 m c t (ix2 R j) = (inp m c).z26 (ix2 R J) := by
  have hj := j.isLt
  have hp : (pt t).val = t := pt_of_lt (by omega)
  have o := off8 (pt t) (by omega) ⟨j.val / 128, by omega⟩
  rw [hp] at o
  unfold T10
  rw [strips_apply]
  refine (vbHead_apply _ _ _ R (hl j)).trans ((strip_s m c R (t - 1) (j.val / 128) (by omega) (by omega) (by omega) _ _ o (hl j)).trans ?_)
  rw [show 512 * (t - 1 - 10) + 128 * (j.val / 128) + (hl j).val = 5120 + J.val by show 512 * (t - 1 - 10) + 128 * (j.val / 128) + j.val % 128 = _; omega]
  rfl
theorem T4_apply (c : Dev nD) (t : ℕ) (ht : 19 ≤ t) (ht' : t ≤ 20) (R : Fin 768) (j : Fin 512) (J : Fin 1024) (hJ : J.val = 512 * (t - 19) + j.val) : T4 m c t (ix2 R j) = (inp m c).z20 (ix2 R J) := by
  have hj := j.isLt
  have hp : (pt t).val = t := pt_of_lt (by omega)
  have o := off6 (pt t) (by omega) (by omega) ⟨j.val / 128, by omega⟩
  have o' := off7 (pt t) (by omega) (by omega) ⟨j.val / 128, by omega⟩
  rw [hp] at o o'
  have en : (Fin.ofNat 8 (k0_off7 (grid0.coords (pt t)) (BitVec.ofNat 32 (j.val / 128)) 0) : Fin 8) = hn J := Fin.ext (by
    refine (congrArg (· % 8) o').trans ?_
    show (4 * (t - 19) + j.val / 128) % 8 = J.val / 128
    omega)
  unfold T4
  rw [strips_apply, blk_9, blk_10, blk_11, blk_14]
  refine (kHead_apply _ _ _ _ _ _ _ R (hl j) _ fun k => strip_c m c R (t - 1) (j.val / 128) (by omega) (by omega) (by omega) _ _ o k).trans ?_
  rw [en, show 512 * (t - 1 - 10) + 128 * (j.val / 128) = 4096 + 128 * (hn J).val by show _ = 4096 + 128 * (J.val / 128); omega, show hl j = hl J from Fin.ext (by show j.val % 128 = J.val % 128; omega)]
  rfl
theorem T5_apply (c : Dev nD) (t : ℕ) (ht : 21 ≤ t) (ht' : t ≤ 22) (R : Fin 768) (j : Fin 512) (J : Fin 1024) (hJ : J.val = 512 * (t - 21) + j.val) : T5 m c t (ix2 R j) = (inp m c).z21 (ix2 R J) := by
  have hj := j.isLt
  have hp : (pt t).val = t := pt_of_lt (by omega)
  have o := off8 (pt t) (by omega) ⟨j.val / 128, by omega⟩
  have o' := off9 (pt t) (by omega) ⟨j.val / 128, by omega⟩
  rw [hp] at o o'
  have en : (Fin.ofNat 8 (k0_off9 (grid0.coords (pt t)) (BitVec.ofNat 32 (j.val / 128)) 0) : Fin 8) = hn J := Fin.ext (by
    refine (congrArg (· % 8) o').trans ?_
    show (4 * (t - 21) + j.val / 128) % 8 = J.val / 128
    omega)
  unfold T5
  rw [strips_apply, blk_15]
  refine (vHead_apply _ _ _ _ R (hl j)).trans ((congrArg (fun z : EReal => clip (Ideal.div z (V m c main_arg15 (ix1 (Fin.ofNat 8 (k0_off9 (grid0.coords (pt t)) (BitVec.ofNat 32 (j.val / 128)) 0)))))) (strip_c m c R (t - 1) (j.val / 128) (by omega) (by omega) (by omega) _ _ o (hl j))).trans ?_)
  rw [en, show 512 * (t - 1 - 10) + 128 * (j.val / 128) + (hl j).val = 5120 + J.val by show 512 * (t - 1 - 10) + 128 * (j.val / 128) + j.val % 128 = _; omega]
  rfl

end Cert.ProjIdeal.Gen

end
-- ==== Proof.ProjIdeal.Arrays.lean ====
/- THE RESULTS' ARRAYS: each point that is written back leaves its block of the formula, and the blocks cover the array. -/
module

public import proofs.«01_k».proof.Proof.ProjIdeal.Run
public import proofs.«01_k».proof.Proof.ProjIdeal.Value

@[expose] public section

set_option maxRecDepth 65536

noncomputable section

namespace Cert.ProjIdeal.Gen

open Idealize.ShloMosaic Idealize.ShloMosaic.TcCoe Idealize.ShloMosaic.ValueIdx Idealize.SL.Sem
open Idealize.ShloMosaic.Pipeline (Dat RDat Cfg Window)
open Cert.ProjSpec (In)

variable (m : (ℓ : Loc nD τ sig) → Buf (Elt Ideal) ℓ)

/-- What the points may leave, of exact contents `after`. -/
abbrev Held (c : Dev nD) (after : (w : Fin cfg0.W) → Fin cfg0.N → (cfg0.win w).block.Idx → Elt Ideal (cfg0.win w).elt) : Prop :=
  ∀ (w : Fin cfg0.W) (u : Fin cfg0.N), (cfg0.win w).flush u = true → ((rdats m c).Leaves w u (after w u))

theorem Held.rl {c : Dev nD} {after} (h : Held m c after) (w : Fin cfg0.W) (hw : marked w = true) (u : Fin cfg0.N) (hf : (cfg0.win w).flush u = true) : Rl m c w u (after w u) :=
  Dat.toRRel_leaves _ hw (h w u hf)

theorem idx_16 : ∀ t : Fin cfg0.N, (cfg0.win 16).flush t = true → 10 ≤ t.val ∧ t.val ≤ 22 ∧ win0_16.index t 0 = min t.val 17 - 10 ∧ win0_16.index t 1 = 0 :=
  (by decide +kernel : ∀ t : Fin grid0.N, (cfg0.win 16).flush t = true → 10 ≤ t.val ∧ t.val ≤ 22 ∧ win0_16.index t 0 = min t.val 17 - 10 ∧ win0_16.index t 1 = 0)
theorem arr_16 (c : Dev nD) (after) (h : Held m c after) : ((rdats m c).withAfter after).arrAt 16 cfg0.N = (inp m c).z16 := by
  refine Dat.arrAt_eq_of_covers _ 16 _ (by decide +kernel) fun t hf y => ?_
  obtain ⟨h0, h1, i0, i1⟩ := idx_16 t hf
  have hx : after 16 t = T0 m c (min t.val 17) := h.rl m 16 rfl t hf h0
  obtain ⟨r, q, rfl⟩ : ∃ (r : Fin 96) (q : Fin 2560), y = ix2 r q := ⟨y 0, y 1, eq_ix2 y⟩
  have hr := r.isLt
  have hq := q.isLt
  show after 16 t (ix2 r q) = _
  have e : ((cfg0.win 16).blk t).view.emb (ix2 r q) = (ix2 ⟨96 * (min t.val 17 - 10) + r.val, by omega⟩ q : S768x2560.Idx) := funext fun a => Fin.ext (((cfg0.win 16).rect_emb_val t _ a).trans (by
    fin_cases a
    · show win0_16.index t 0 * 96 + r.val = 96 * (min t.val 17 - 10) + r.val; rw [i0]; omega
    · show win0_16.index t 1 * 2560 + q.val = q.val; rw [i1]; omega))
  rw [e, hx]
  exact T0_apply m c _ r q _ rfl

theorem idx_17 : ∀ t : Fin cfg0.N, (cfg0.win 17).flush t = true → 10 ≤ t.val ∧ t.val ≤ 22 ∧ win0_17.index t 0 = min t.val 17 - 10 ∧ win0_17.index t 1 = 0 :=
  (by decide +kernel : ∀ t : Fin grid0.N, (cfg0.win 17).flush t = true → 10 ≤ t.val ∧ t.val ≤ 22 ∧ win0_17.index t 0 = min t.val 17 - 10 ∧ win0_17.index t 1 = 0)
theorem arr_17 (c : Dev nD) (after) (h : Held m c after) : ((rdats m c).withAfter after).arrAt 17 cfg0.N = (inp m c).z17 := by
  refine Dat.arrAt_eq_of_covers _ 17 _ (by decide +kernel) fun t hf y => ?_
  obtain ⟨h0, h1, i0, i1⟩ := idx_17 t hf
  have hx : after 17 t = T1 m c (min t.val 17) := h.rl m 17 rfl t hf h0
  obtain ⟨r, q, rfl⟩ : ∃ (r : Fin 96) (q : Fin 2560), y = ix2 r q := ⟨y 0, y 1, eq_ix2 y⟩
  have hr := r.isLt
  have hq := q.isLt
  show after 17 t (ix2 r q) = _
  have e : ((cfg0.win 17).blk t).view.emb (ix2 r q) = (ix2 ⟨96 * (min t.val 17 - 10) + r.val, by omega⟩ q : S768x2560.Idx) := funext fun a => Fin.ext (((cfg0.win 17).rect_emb_val t _ a).trans (by
    fin_cases a
    · show win0_17.index t 0 * 96 + r.val = 96 * (min t.val 17 - 10) + r.val; rw [i0]; omega
    · show win0_17.index t 1 * 2560 + q.val = q.val; rw [i1]; omega))
  rw [e, hx]
  exact T1_apply m c _ r q _ rfl

theorem idx_20 : ∀ t : Fin cfg0.N, (cfg0.win 20).flush t = true → 19 ≤ t.val ∧ t.val ≤ 22 ∧ win0_20.index t 0 = 0 ∧ win0_20.index t 1 = min t.val 20 - 19 :=
  (by decide +kernel : ∀ t : Fin grid0.N, (cfg0.win 20).flush t = true → 19 ≤ t.val ∧ t.val ≤ 22 ∧ win0_20.index t 0 = 0 ∧ win0_20.index t 1 = min t.val 20 - 19)
theorem arr_20 (c : Dev nD) (after) (h : Held m c after) : ((rdats m c).withAfter after).arrAt 20 cfg0.N = (inp m c).z20 := by
  refine Dat.arrAt_eq_of_covers _ 20 _ (by decide +kernel) fun t hf y => ?_
  obtain ⟨h0, h1, i0, i1⟩ := idx_20 t hf
  have hx : after 20 t = T4 m c (min t.val 20) := h.rl m 20 rfl t hf h0
  obtain ⟨r, q, rfl⟩ : ∃ (r : Fin 768) (q : Fin 512), y = ix2 r q := ⟨y 0, y 1, eq_ix2 y⟩
  have hr := r.isLt
  have hq := q.isLt
  show after 20 t (ix2 r q) = _
  have e : ((cfg0.win 20).blk t).view.emb (ix2 r q) = (ix2 r ⟨512 * ((min t.val 20) - 19) + q.val, by omega⟩ : S768x1024.Idx) := funext fun a => Fin.ext (((cfg0.win 20).rect_emb_val t _ a).trans (by
    fin_cases a
    · show win0_20.index t 0 * 768 + r.val = r.val; rw [i0]; omega
    · show win0_20.index t 1 * 512 + q.val = 512 * ((min t.val 20) - 19) + q.val; rw [i1]; omega))
  rw [e, hx]
  exact T4_apply m c _ (by omega) (by omega) r q _ rfl

theorem idx_21 : ∀ t : Fin cfg0.N, (cfg0.win 21).flush t = true → 21 ≤ t.val ∧ t.val ≤ 22 ∧ win0_21.index t 0 = 0 ∧ win0_21.index t 1 = t.val - 21 :=
  (by decide +kernel : ∀ t : Fin grid0.N, (cfg0.win 21).flush t = true → 21 ≤ t.val ∧ t.val ≤ 22 ∧ win0_21.index t 0 = 0 ∧ win0_21.index t 1 = t.val - 21)
theorem arr_21 (c : Dev nD) (after) (h : Held m c after) : ((rdats m c).withAfter after).arrAt 21 cfg0.N = (inp m c).z21 := by
  refine Dat.arrAt_eq_of_covers _ 21 _ (by decide +kernel) fun t hf y => ?_
  obtain ⟨h0, h1, i0, i1⟩ := idx_21 t hf
  have hx : after 21 t = T5 m c t.val := h.rl m 21 rfl t hf h0
  obtain ⟨r, q, rfl⟩ : ∃ (r : Fin 768) (q : Fin 512), y = ix2 r q := ⟨y 0, y 1, eq_ix2 y⟩
  have hr := r.isLt
  have hq := q.isLt
  show after 21 t (ix2 r q) = _
  have e : ((cfg0.win 21).blk t).view.emb (ix2 r q) = (ix2 r ⟨512 * (t.val - 21) + q.val, by omega⟩ : S768x1024.Idx) := funext fun a => Fin.ext (((cfg0.win 21).rect_emb_val t _ a).trans (by
    fin_cases a
    · show win0_21.index t 0 * 768 + r.val = r.val; rw [i0]; omega
    · show win0_21.index t 1 * 512 + q.val = 512 * (t.val - 21) + q.val; rw [i1]; omega))
  rw [e, hx]
  exact T5_apply m c _ (by omega) (by omega) r q _ rfl

theorem idx_24 : ∀ t : Fin cfg0.N, (cfg0.win 24).flush t = true → 11 ≤ t.val ∧ t.val ≤ 22 ∧ win0_24.index t 0 = 0 ∧ win0_24.index t 1 = min t.val 18 - 11 :=
  (by decide +kernel : ∀ t : Fin grid0.N, (cfg0.win 24).flush t = true → 11 ≤ t.val ∧ t.val ≤ 22 ∧ win0_24.index t 0 = 0 ∧ win0_24.index t 1 = min t.val 18 - 11)
theorem arr_24 (c : Dev nD) (after) (h : Held m c after) : ((rdats m c).withAfter after).arrAt 24 cfg0.N = (inp m c).z24 := by
  refine Dat.arrAt_eq_of_covers _ 24 _ (by decide +kernel) fun t hf y => ?_
  obtain ⟨h0, h1, i0, i1⟩ := idx_24 t hf
  have hx : after 24 t = T8 m c (min t.val 18) := h.rl m 24 rfl t hf h0
  obtain ⟨r, q, rfl⟩ : ∃ (r : Fin 768) (q : Fin 512), y = ix2 r q := ⟨y 0, y 1, eq_ix2 y⟩
  have hr := r.isLt
  have hq := q.isLt
  show after 24 t (ix2 r q) = _
  have e : ((cfg0.win 24).blk t).view.emb (ix2 r q) = (ix2 r ⟨512 * ((min t.val 18) - 11) + q.val, by omega⟩ : S768x4096.Idx) := funext fun a => Fin.ext (((cfg0.win 24).rect_emb_val t _ a).trans (by
    fin_cases a
    · show win0_24.index t 0 * 768 + r.val = r.val; rw [i0]; omega
    · show win0_24.index t 1 * 512 + q.val = 512 * ((min t.val 18) - 11) + q.val; rw [i1]; omega))
  rw [e, hx]
  exact T8_apply m c _ (by omega) (by omega) r q _ rfl

theorem idx_25 : ∀ t : Fin cfg0.N, (cfg0.win 25).flush t = true → 19 ≤ t.val ∧ t.val ≤ 22 ∧ win0_25.index t 0 = 0 ∧ win0_25.index t 1 = min t.val 20 - 19 :=
  (by decide +kernel : ∀ t : Fin grid0.N, (cfg0.win 25).flush t = true → 19 ≤ t.val ∧ t.val ≤ 22 ∧ win0_25.index t 0 = 0 ∧ win0_25.index t 1 = min t.val 20 - 19)
theorem arr_25 (c : Dev nD) (after) (h : Held m c after) : ((rdats m c).withAfter after).arrAt 25 cfg0.N = (inp m c).z25 := by
  refine Dat.arrAt_eq_of_covers _ 25 _ (by decide +kernel) fun t hf y => ?_
  obtain ⟨h0, h1, i0, i1⟩ := idx_25 t hf
  have hx : after 25 t = T9 m c (min t.val 20) := h.rl m 25 rfl t hf h0
  obtain ⟨r, q, rfl⟩ : ∃ (r : Fin 768) (q : Fin 512), y = ix2 r q := ⟨y 0, y 1, eq_ix2 y⟩
  have hr := r.isLt
  have hq := q.isLt
  show after 25 t (ix2 r q) = _
  have e : ((cfg0.win 25).blk t).view.emb (ix2 r q) = (ix2 r ⟨512 * ((min t.val 20) - 19) + q.val, by omega⟩ : S768x1024.Idx) := funext fun a => Fin.ext (((cfg0.win 25).rect_emb_val t _ a).trans (by
    fin_cases a
    · show win0_25.index t 0 * 768 + r.val = r.val; rw [i0]; omega
    · show win0_25.index t 1 * 512 + q.val = 512 * ((min t.val 20) - 19) + q.val; rw [i1]; omega))
  rw [e, hx]
  exact T9_apply m c _ (by omega) (by omega) r q _ rfl

theorem idx_26 : ∀ t : Fin cfg0.N, (cfg0.win 26).flush t = true → 21 ≤ t.val ∧ t.val ≤ 22 ∧ win0_26.index t 0 = 0 ∧ win0_26.index t 1 = t.val - 21 :=
  (by decide +kernel : ∀ t : Fin grid0.N, (cfg0.win 26).flush t = true → 21 ≤ t.val ∧ t.val ≤ 22 ∧ win0_26.index t 0 = 0 ∧ win0_26.index t 1 = t.val - 21)
theorem arr_26 (c : Dev nD) (after) (h : Held m c after) : ((rdats m c).withAfter after).arrAt 26 cfg0.N = (inp m c).z26 := by
  refine Dat.arrAt_eq_of_covers _ 26 _ (by decide +kernel) fun t hf y => ?_
  obtain ⟨h0, h1, i0, i1⟩ := idx_26 t hf
  have hx : after 26 t = T10 m c t.val := h.rl m 26 rfl t hf h0
  obtain ⟨r, q, rfl⟩ : ∃ (r : Fin 768) (q : Fin 512), y = ix2 r q := ⟨y 0, y 1, eq_ix2 y⟩
  have hr := r.isLt
  have hq := q.isLt
  show after 26 t (ix2 r q) = _
  have e : ((cfg0.win 26).blk t).view.emb (ix2 r q) = (ix2 r ⟨512 * (t.val - 21) + q.val, by omega⟩ : S768x1024.Idx) := funext fun a => Fin.ext (((cfg0.win 26).rect_emb_val t _ a).trans (by
    fin_cases a
    · show win0_26.index t 0 * 768 + r.val = r.val; rw [i0]; omega
    · show win0_26.index t 1 * 512 + q.val = 512 * (t.val - 21) + q.val; rw [i1]; omega))
  rw [e, hx]
  exact T10_apply m c _ (by omega) (by omega) r q _ rfl

theorem last_18 : ∀ t : Fin cfg0.N, (cfg0.win 18).flush t = true → 22 ≤ t.val :=
  (by decide +kernel : ∀ t : Fin grid0.N, (cfg0.win 18).flush t = true → 22 ≤ t.val)
theorem arr_18 (c : Dev nD) (after) (h : Held m c after) : ((rdats m c).withAfter after).arrAt 18 cfg0.N = (inp m c).z18 := by
  refine Dat.arrAt_eq_of_covers _ 18 _ (by decide +kernel) fun t hf y => Eq.trans ?_ (congrArg (inp m c).z18 (funext fun a => Fin.ext (Pipeline.Window.rect_emb_val_of_index_zero (cfg0.win 18) t a (idx0 18 (by decide) t a) y)).symm)
  have h0 := last_18 t hf
  have hx : after 18 t = CC m c := (h.rl m 18 rfl t hf : UpTo _ _ _).full (by omega)
  show after 18 t y = _
  rw [hx]
  obtain ⟨r, q, rfl⟩ : ∃ (r : Fin 768) (q : Fin 2560), y = ix2 r q := ⟨y 0, y 1, eq_ix2 y⟩
  exact CC_apply m c r q

theorem last_19 : ∀ t : Fin cfg0.N, (cfg0.win 19).flush t = true → 22 ≤ t.val :=
  (by decide +kernel : ∀ t : Fin grid0.N, (cfg0.win 19).flush t = true → 22 ≤ t.val)
theorem arr_19 (c : Dev nD) (after) (h : Held m c after) : ((rdats m c).withAfter after).arrAt 19 cfg0.N = (inp m c).z19 := by
  refine Dat.arrAt_eq_of_covers _ 19 _ (by decide +kernel) fun t hf y => Eq.trans ?_ (congrArg (inp m c).z19 (funext fun a => Fin.ext (Pipeline.Window.rect_emb_val_of_index_zero (cfg0.win 19) t a (idx0 19 (by decide) t a) y)).symm)
  have h0 := last_19 t hf
  have hx : after 19 t = CS m c := (h.rl m 19 rfl t hf : UpTo _ _ _).full (by omega)
  show after 19 t y = _
  rw [hx]
  obtain ⟨r, rfl⟩ : ∃ (r : Fin 768), y = ix2 r 0 := ⟨y 0, (eq_ix2 y).trans (congrArg (ix2 (y 0)) (Subsingleton.elim (α := Fin 1) _ _))⟩
  exact CS_apply m c r

theorem last_22 : ∀ t : Fin cfg0.N, (cfg0.win 22).flush t = true → 22 ≤ t.val :=
  (by decide +kernel : ∀ t : Fin grid0.N, (cfg0.win 22).flush t = true → 22 ≤ t.val)
theorem arr_22 (c : Dev nD) (after) (h : Held m c after) : ((rdats m c).withAfter after).arrAt 22 cfg0.N = (inp m c).z22 := by
  refine Dat.arrAt_eq_of_covers _ 22 _ (by decide +kernel) fun t hf y => Eq.trans ?_ (congrArg (inp m c).z22 (funext fun a => Fin.ext (Pipeline.Window.rect_emb_val_of_index_zero (cfg0.win 22) t a (idx0 22 (by decide) t a) y)).symm)
  have h0 := last_22 t hf
  have hx : after 22 t = X6 m c := (h.rl m 22 rfl t hf : UpTo _ _ _).full (by omega)
  show after 22 t y = _
  rw [hx]
  obtain ⟨r, q, rfl⟩ : ∃ (r : Fin 768) (q : Fin 2560), y = ix2 r q := ⟨y 0, y 1, eq_ix2 y⟩
  exact X6_apply m c r q

theorem last_23 : ∀ t : Fin cfg0.N, (cfg0.win 23).flush t = true → 22 ≤ t.val :=
  (by decide +kernel : ∀ t : Fin grid0.N, (cfg0.win 23).flush t = true → 22 ≤ t.val)
theorem arr_23 (c : Dev nD) (after) (h : Held m c after) : ((rdats m c).withAfter after).arrAt 23 cfg0.N = (inp m c).z23 := by
  refine Dat.arrAt_eq_of_covers _ 23 _ (by decide +kernel) fun t hf y => Eq.trans ?_ (congrArg (inp m c).z23 (funext fun a => Fin.ext (Pipeline.Window.rect_emb_val_of_index_zero (cfg0.win 23) t a (idx0 23 (by decide) t a) y)).symm)
  have h0 := last_23 t hf
  have hx : after 23 t = XS m c := (h.rl m 23 rfl t hf : UpTo _ _ _).full (by omega)
  show after 23 t y = _
  rw [hx]
  obtain ⟨r, rfl⟩ : ∃ (r : Fin 768), y = ix2 r 0 := ⟨y 0, (eq_ix2 y).trans (congrArg (ix2 (y 0)) (Subsingleton.elim (α := Fin 1) _ _))⟩
  exact XS_apply m c r

set_option maxHeartbeats 4000000 in
/-- THE RUN'S RESULTS, at the formulas. -/
theorem results (ρ : Dev nD → PrngReg) : θ_run (defs (F := Ideal)) (onTc (τ := τ) (main (F := Ideal))) ⟨m, fun _ => 0, ρ⟩ fun r => ∀ c : Dev nD,
      r.2.mem ((c.tc : Thread nD τ).loc main_v9_0) = (inp m c).z16
      ∧ r.2.mem ((c.tc : Thread nD τ).loc main_v9_1) = (inp m c).z17
      ∧ r.2.mem ((c.tc : Thread nD τ).loc main_v9_2) = (inp m c).z18
      ∧ r.2.mem ((c.tc : Thread nD τ).loc main_v9_3) = (inp m c).z19
      ∧ r.2.mem ((c.tc : Thread nD τ).loc main_v9_4) = (inp m c).z20
      ∧ r.2.mem ((c.tc : Thread nD τ).loc main_v9_5) = (inp m c).z21
      ∧ r.2.mem ((c.tc : Thread nD τ).loc main_v9_6) = (inp m c).z22
      ∧ r.2.mem ((c.tc : Thread nD τ).loc main_v9_7) = (inp m c).z23
      ∧ r.2.mem ((c.tc : Thread nD τ).loc main_v9_8) = (inp m c).z24
      ∧ r.2.mem ((c.tc : Thread nD τ).loc main_v9_9) = (inp m c).z25
      ∧ r.2.mem ((c.tc : Thread nD τ).loc main_v9_10) = (inp m c).z26 := by
  refine (θ_run _ _ _).mono (fun r h c => ?_) (run_main_quiescent m ρ)
  obtain ⟨after, hl, ha⟩ := h.1.exists_exact c
  exact ⟨(ha 16).trans (arr_16 m c after hl), (ha 17).trans (arr_17 m c after hl), (ha 18).trans (arr_18 m c after hl), (ha 19).trans (arr_19 m c after hl), (ha 20).trans (arr_20 m c after hl), (ha 21).trans (arr_21 m c after hl), (ha 22).trans (arr_22 m c after hl), (ha 23).trans (arr_23 m c after hl), (ha 24).trans (arr_24 m c after hl), (ha 25).trans (arr_25 m c after hl), (ha 26).trans (arr_26 m c after hl)⟩

end Cert.ProjIdeal.Gen

end
-- ==== Proof.ProjReference.lean ====
/- WHAT THE PROJECTIONS' REFERENCE COMPUTES: its one point's stores, read at an index, are the formulas of ProjSpec. -/
module

public import proofs.«01_k».proof.Proof.Gen.ProjReferenceIdeal.Value
public import proofs.«01_k».proof.Proof.ProjSpec
public import Idealize.ShloMosaic.Lib.Pipeline.ValueKit.Geometry

@[expose] public section

set_option maxRecDepth 16384

noncomputable section

namespace Cert.ProjReferenceIdeal.Gen

open Idealize.ShloMosaic Idealize.ShloMosaic.ValueIdx Cert.Int4 Cert.MlpSpec
open Cert.ProjSpec (In nrm amax qs clip code rope ctx str prj hd hn hl col col_eq nrm_apply qs_apply code_apply nrm_congr qs_congr code_congr rope_congr nrm_head halves_apply heads_cast unheads_cast mid_cast b131)
open scoped BigOperators

variable (A : In)

/-- The codes' largest magnitude. -/
abbrev k448 : Ideal .f32 := Scalar.ofBits .f32 0x43E00000#32

/-! ## The features' rows -/

theorem h_apply (r : Fin 768) (c : Fin 2560) : k0_pay4 (F := Ideal) A.th A.wf A.sf (ix2 r c) = ProjSpec.h A.th A.wf A.sf r c := by
  unfold k0_pay4
  simp only [shapeCast_self]
  rw [mulf_apply, split_apply (M := 768) (P := 6400) (C := 2560) (K := 12800) rfl dot_S768x6400_S6400x2560_S768x2560_1_0_0_1_n_n rfl, row_apply (by decide)]
  rfl

theorem c_apply (r : Fin 768) (c : Fin 2560) : k0_pay5 (F := Ideal) A.th A.wf A.sf A.fw (ix2 r c) = A.c r c := by
  unfold k0_pay5
  simp only [shapeCast_self]
  exact (nrm_apply (by decide) (by decide) _ _ _ _ _ _ _ _ _ r c).trans (nrm_congr _ (fun k => h_apply A r k) (fun _ => rfl) c)

theorem c_scale (r : Fin 768) : k0_pay8 (F := Ideal) (k0_pay6 A.th A.wf A.sf A.fw) (k0_pay7 (F := Ideal) A.th A.wf A.sf A.fw) k448 (ix2 r 0) = qs (A.c r) := by
  unfold k0_pay8 k0_pay7 k0_pay6
  exact (qs_apply _ _ _ _ _ r).trans (qs_congr fun k => c_apply A r k)

theorem c_code (r : Fin 768) (c : Fin 2560) : k0_pay9 (F := Ideal) (k0_pay5 A.th A.wf A.sf A.fw) (k0_pay6 A.th A.wf A.sf A.fw) (k0_pay7 (F := Ideal) A.th A.wf A.sf A.fw) k448 (ix2 r c) = code (A.c r) c := by
  unfold k0_pay9
  rw [truncf_apply]
  exact (code_apply (by decide) _ _ _ r c ((c_scale A r).trans (qs_congr fun k => (c_apply A r k).symm))).trans (code_congr (fun k => c_apply A r k) c)

/-- Their keys and values: the projection's columns from 4096 on. -/
theorem c_proj (r : Fin 768) (j : Fin 2048) : k0_pay17 (F := Ideal) (k0_pay5 A.th A.wf A.sf A.fw) (k0_pay6 A.th A.wf A.sf A.fw) (k0_pay7 (F := Ideal) A.th A.wf A.sf A.fw) k448 A.wq A.sq (ix2 r j)
    = prj A.wq A.sq (A.c r) (4096 + j.val) := by
  have hj := j.isLt
  unfold k0_pay17 k0_pay16
  simp only [shapeCast_self]
  rw [mulf_apply, mulf_apply, product_apply (M := 768) (K := 2560) (N := 2048) dot_S768x2560_S2560x2048_S768x2048_1_0_0_1_n_n rfl, row_apply (by decide), col_apply (by decide), c_scale,
    slice_apply (M := 1) (N := 6144) (N' := 2048) 4096 _ _ 0 j (by omega)]
  unfold prj
  rw [col_eq (4096 + j.val) ⟨4096 + j.val, by omega⟩ rfl]
  refine congrArg (fun z : EReal => z * qs (A.c r) * A.sq (ix2 0 ⟨4096 + j.val, by omega⟩)) (Finset.sum_congr rfl fun k _ => ?_)
  rw [c_code, slice_apply (M := 2560) (N := 6144) (N' := 2048) 4096 _ _ k j (by omega)]

theorem c_keys (r : Fin 768) (n : Fin 8) (l : Fin 128) : k0_pay18 (F := Ideal) (k0_pay5 A.th A.wf A.sf A.fw) (k0_pay6 A.th A.wf A.sf A.fw) (k0_pay7 (F := Ideal) A.th A.wf A.sf A.fw) k448 A.wq A.sq (ix3 r n l)
    = prj A.wq A.sq (A.c r) (4096 + 128 * n.val + l.val) := by
  have hn := n.isLt
  have hl := l.isLt
  unfold k0_pay18
  refine (heads_cast (H := 8) (N := 1024) rfl _ _ r n l ⟨128 * n.val + l.val, by omega⟩ rfl).trans ?_
  refine (slice_apply (M := 768) (N := 2048) (N' := 1024) 0 _ _ r ⟨128 * n.val + l.val, by omega⟩ (by show 0 + (128 * n.val + l.val) < 2048; omega)).trans ?_
  refine (c_proj A r _).trans (congrArg (prj A.wq A.sq (A.c r)) ?_)
  show 4096 + (0 + (128 * n.val + l.val)) = _
  omega

theorem c_values (r : Fin 768) (n : Fin 8) (l : Fin 128) : k0_pay21 (F := Ideal) (k0_pay17 (k0_pay5 A.th A.wf A.sf A.fw) (k0_pay6 A.th A.wf A.sf A.fw) (k0_pay7 (F := Ideal) A.th A.wf A.sf A.fw) k448 A.wq A.sq) (ix3 r n l)
    = prj A.wq A.sq (A.c r) (5120 + (128 * n.val + l.val)) := by
  have hn := n.isLt
  have hl := l.isLt
  unfold k0_pay21
  refine (heads_cast (H := 8) (N := 1024) rfl _ _ r n l ⟨128 * n.val + l.val, by omega⟩ rfl).trans ?_
  refine (slice_apply (M := 768) (N := 2048) (N' := 1024) 1024 _ _ r ⟨128 * n.val + l.val, by omega⟩ (by show 1024 + (128 * n.val + l.val) < 2048; omega)).trans ?_
  refine (c_proj A r _).trans (congrArg (prj A.wq A.sq (A.c r)) ?_)
  show 4096 + (1024 + (128 * n.val + l.val)) = _
  omega

/-! ## The stream's rows -/

theorem s_apply (r : Fin 768) (c : Fin 2560) : k0_pay22 (F := Ideal) A.x A.aw (ix2 r c) = A.s r c := by
  unfold k0_pay22
  simp only [shapeCast_self]
  exact (nrm_apply (by decide) (by decide) _ _ _ _ _ _ _ _ _ r c).trans (nrm_congr _ (fun _ => rfl) (fun _ => rfl) c)

theorem s_scale (r : Fin 768) : k0_pay26 (F := Ideal) (k0_pay23 A.x A.aw) (k0_pay24 (F := Ideal) A.x A.aw) k0_pay25 (ix2 r 0) = qs (A.s r) := by
  unfold k0_pay26 k0_pay25 k0_pay24 k0_pay23
  exact (qs_apply _ _ _ _ _ r).trans (qs_congr fun k => s_apply A r k)

theorem s_code (r : Fin 768) (c : Fin 2560) : k0_pay27 (F := Ideal) (k0_pay22 A.x A.aw) (k0_pay23 A.x A.aw) (k0_pay24 (F := Ideal) A.x A.aw) k0_pay25 (ix2 r c) = code (A.s r) c := by
  unfold k0_pay27
  rw [truncf_apply]
  exact (code_apply (by decide) _ _ _ r c ((s_scale A r).trans (qs_congr fun k => (s_apply A r k).symm))).trans (code_congr (fun k => s_apply A r k) c)

theorem s_proj (r : Fin 768) (j : Fin 6144) : k0_pay28 (F := Ideal) A.wq (k0_pay16 A.sq) (k0_pay22 A.x A.aw) (k0_pay23 A.x A.aw) (k0_pay24 (F := Ideal) A.x A.aw) k0_pay25 (ix2 r j)
    = prj A.wq A.sq (A.s r) j.val := by
  unfold k0_pay28 k0_pay16
  simp only [shapeCast_self]
  rw [mulf_apply, mulf_apply, product_apply (M := 768) (K := 2560) (N := 6144) dot_S768x2560_S2560x6144_S768x6144_1_0_0_1_n_n rfl, row_apply (by decide), col_apply (by decide), s_scale]
  unfold prj
  rw [col_eq j.val j rfl]
  refine congrArg (fun z : EReal => z * qs (A.s r) * A.sq (ix2 0 j)) (Finset.sum_congr rfl fun k _ => ?_)
  rw [s_code]

/-! ## Heads -/

/-- The keys of the features, normed and rotated. -/
theorem pay20_apply (co si : FVec Ideal S768x1x128 .f32) (w : FVec Ideal S1x1x128 .f32) (v : FVec Ideal S768x8x128 .f32) (r : Fin 768) (n : Fin 8) (l : Fin 128) :
    k0_pay20 (F := Ideal) co si w v (mulf v v) (ix3 r n l)
      = rope (nrm 0x43000000#32 (fun k => v (ix3 r n k)) (fun k => w (ix3 0 0 k))) (fun k => co (ix3 r 0 k)) (fun k => si (ix3 r 0 k)) l := by
  unfold k0_pay20
  exact (halves_apply (by decide) _ _ _ _ _ _ _ _ r n l).trans (rope_congr (fun k => nrm_head (by decide) (by decide) _ _ _ _ _ _ _ _ r n k) (fun _ => rfl) (fun _ => rfl) l)

/-- The stream's queries. -/
theorem pay29_apply (co si : FVec Ideal S768x1x128 .f32) (w : FVec Ideal S1x1x128 .f32) (r : Fin 768) (n : Fin 32) (l : Fin 128) :
    k0_pay29 (F := Ideal) co si w A.wq (k0_pay16 A.sq) (k0_pay22 A.x A.aw) (k0_pay23 A.x A.aw) (k0_pay24 (F := Ideal) A.x A.aw) k0_pay25 (ix3 r n l)
      = hd A.wq A.sq (A.s r) (128 * n.val) (fun k => w (ix3 0 0 k)) (fun k => co (ix3 r 0 k)) (fun k => si (ix3 r 0 k)) l := by
  have hn := n.isLt
  unfold k0_pay29
  rw [truncf_apply]
  refine (halves_apply (by decide) _ _ _ _ _ _ _ _ r n l).trans (rope_congr (fun k => (nrm_head (by decide) (by decide) _ _ _ _ _ _ _ _ r n k).trans (nrm_congr _ (fun k => ?_) (fun _ => rfl) k)) (fun _ => rfl) (fun _ => rfl) l)
  have hk := k.isLt
  refine (heads_cast (H := 32) (N := 4096) rfl _ _ r n k ⟨128 * n.val + k.val, by omega⟩ rfl).trans ?_
  refine (slice_apply (M := 768) (N := 6144) (N' := 4096) 0 _ _ r ⟨128 * n.val + k.val, by omega⟩ (by show 0 + (128 * n.val + k.val) < 6144; omega)).trans ?_
  refine (s_proj A r _).trans (congrArg (prj A.wq A.sq (A.s r)) ?_)
  show 0 + (128 * n.val + k.val) = _
  omega

/-- The stream's keys. -/
theorem pay32_apply (co si : FVec Ideal S768x1x128 .f32) (w : FVec Ideal S1x1x128 .f32) (r : Fin 768) (n : Fin 8) (l : Fin 128) :
    k0_pay32 (F := Ideal) co si w (k0_pay30 A.wq (k0_pay16 A.sq) (k0_pay22 A.x A.aw) (k0_pay23 A.x A.aw) (k0_pay24 (F := Ideal) A.x A.aw) k0_pay25)
        (k0_pay31 A.wq (k0_pay16 A.sq) (k0_pay22 A.x A.aw) (k0_pay23 A.x A.aw) (k0_pay24 (F := Ideal) A.x A.aw) k0_pay25) (ix3 r n l)
      = hd A.wq A.sq (A.s r) (4096 + 128 * n.val) (fun k => w (ix3 0 0 k)) (fun k => co (ix3 r 0 k)) (fun k => si (ix3 r 0 k)) l := by
  have hn := n.isLt
  unfold k0_pay32 k0_pay31
  rw [truncf_apply]
  refine (halves_apply (by decide) _ _ _ _ _ _ _ _ r n l).trans (rope_congr (fun k => (nrm_head (by decide) (by decide) _ _ _ _ _ _ _ _ r n k).trans (nrm_congr _ (fun k => ?_) (fun _ => rfl) k)) (fun _ => rfl) (fun _ => rfl) l)
  have hk := k.isLt
  unfold k0_pay30
  refine (heads_cast (H := 8) (N := 1024) rfl _ _ r n k ⟨128 * n.val + k.val, by omega⟩ rfl).trans ?_
  refine (slice_apply (M := 768) (N := 6144) (N' := 1024) 4096 _ _ r ⟨128 * n.val + k.val, by omega⟩ (by show 4096 + (128 * n.val + k.val) < 6144; omega)).trans ?_
  refine (s_proj A r _).trans (congrArg (prj A.wq A.sq (A.s r)) ?_)
  show 4096 + (128 * n.val + k.val) = _
  omega

/-! ## The stores -/

theorem hl_eq {n : ℕ} (j : Fin n) : j.val = 128 * (j.val / 128) + (hl j).val := (Nat.div_add_mod j.val 128).symm

theorem mid10 (x : Vec Ideal S768x128 .f32) (r : Fin 768) (k : Fin 128) : k0_pay10 (F := Ideal) x (ix3 r 0 k) = x (ix2 r k) := by
  unfold k0_pay10; simp only [shapeCast_self]; exact mid_cast x _ r k
theorem mid14 (x : Vec Ideal S1x128 .f32) (k : Fin 128) : k0_pay14 (F := Ideal) x (ix3 0 0 k) = x (ix2 0 k) := by
  unfold k0_pay14; simp only [shapeCast_self]; exact mid_cast x _ 0 k

theorem store20 (ks : Vec Ideal S1x8x1 .f32) (hk : ∀ n, ks (ix3 0 n 0) = A.ks n) :
    k0_pay36 (F := Ideal) (k0_pay20 (k0_pay12 A.cc) (k0_pay13 A.cs) (k0_pay15 A.kw)
      (k0_pay18 (k0_pay5 A.th A.wf A.sf A.fw) (k0_pay6 A.th A.wf A.sf A.fw) (k0_pay7 (F := Ideal) A.th A.wf A.sf A.fw) k448 A.wq A.sq)
      (k0_pay19 (k0_pay5 A.th A.wf A.sf A.fw) (k0_pay6 A.th A.wf A.sf A.fw) (k0_pay7 (F := Ideal) A.th A.wf A.sf A.fw) k448 A.wq A.sq)) ks = A.z20 := by
  funext j
  obtain ⟨r, j, rfl⟩ : ∃ (r : Fin 768) (c : Fin 1024), j = ix2 r c := ⟨j 0, j 1, eq_ix2 j⟩
  unfold k0_pay36 k0_pay19
  simp only [shapeCast_self]
  refine (unheads_cast (H := 8) (N := 1024) rfl _ _ r (hn j) (hl j) j (hl_eq j)).trans ?_
  rw [truncf_apply, minimumf_apply, maximumf_apply, divf_apply, b131 (by decide), pay20_apply, hk]
  refine congrArg (fun z : EReal => clip (Ideal.div z (A.ks (hn j)))) (rope_congr (fun k => nrm_congr _ (fun l => c_keys A r _ l) (fun l => mid14 A.kw l) k)
    (fun k => mid_cast A.cc _ r k) (fun k => mid_cast A.cs _ r k) (hl j))

theorem store21 (vs : Vec Ideal S1x8x1 .f32) (hk : ∀ n, vs (ix3 0 n 0) = A.vs n) :
    k0_pay1 (F := Ideal) (k0_pay21 (k0_pay17 (k0_pay5 A.th A.wf A.sf A.fw) (k0_pay6 A.th A.wf A.sf A.fw) (k0_pay7 (F := Ideal) A.th A.wf A.sf A.fw) k448 A.wq A.sq)) vs = A.z21 := by
  funext j
  obtain ⟨r, j, rfl⟩ : ∃ (r : Fin 768) (c : Fin 1024), j = ix2 r c := ⟨j 0, j 1, eq_ix2 j⟩
  unfold k0_pay1
  simp only [shapeCast_self]
  refine (unheads_cast (H := 8) (N := 1024) rfl _ _ r (hn j) (hl j) j (hl_eq j)).trans ?_
  rw [truncf_apply, minimumf_apply, maximumf_apply, divf_apply, b131 (by decide), c_values, hk]
  refine congrArg (fun z : ℕ => clip (Ideal.div (prj A.wq A.sq (A.c r) (5120 + z)) (A.vs (hn j)))) (hl_eq j).symm

theorem store24 : k0_pay2 (F := Ideal) (k0_pay29 (k0_pay10 A.bc) (k0_pay11 A.bs) (k0_pay14 A.qw) A.wq (k0_pay16 A.sq) (k0_pay22 A.x A.aw) (k0_pay23 A.x A.aw) (k0_pay24 (F := Ideal) A.x A.aw) k0_pay25) = A.z24 := by
  funext j
  obtain ⟨r, j, rfl⟩ : ∃ (r : Fin 768) (c : Fin 4096), j = ix2 r c := ⟨j 0, j 1, eq_ix2 j⟩
  have hj := j.isLt
  unfold k0_pay2
  refine (unheads_cast (H := 32) (N := 4096) rfl _ _ r ⟨j.val / 128, by omega⟩ (hl j) j (hl_eq j)).trans ?_
  rw [pay29_apply]
  exact rope_congr (fun k => nrm_congr _ (fun _ => rfl) (fun l => mid14 A.qw l) k) (fun k => mid10 A.bc r k) (fun k => mid10 A.bs r k) (hl j)

theorem store25 : k0_pay3 (F := Ideal) (k0_pay32 (k0_pay10 A.bc) (k0_pay11 A.bs) (k0_pay15 A.kw)
    (k0_pay30 A.wq (k0_pay16 A.sq) (k0_pay22 A.x A.aw) (k0_pay23 A.x A.aw) (k0_pay24 (F := Ideal) A.x A.aw) k0_pay25)
    (k0_pay31 A.wq (k0_pay16 A.sq) (k0_pay22 A.x A.aw) (k0_pay23 A.x A.aw) (k0_pay24 (F := Ideal) A.x A.aw) k0_pay25)) = A.z25 := by
  funext j
  obtain ⟨r, j, rfl⟩ : ∃ (r : Fin 768) (c : Fin 1024), j = ix2 r c := ⟨j 0, j 1, eq_ix2 j⟩
  have hj := j.isLt
  unfold k0_pay3
  refine (unheads_cast (H := 8) (N := 1024) rfl _ _ r ⟨j.val / 128, by omega⟩ (hl j) j (hl_eq j)).trans ?_
  rw [pay32_apply]
  exact rope_congr (fun k => nrm_congr _ (fun _ => rfl) (fun l => mid14 A.kw l) k) (fun k => mid10 A.bc r k) (fun k => mid10 A.bs r k) (hl j)

theorem store26 : k0_pay33 (F := Ideal) (k0_pay28 A.wq (k0_pay16 A.sq) (k0_pay22 A.x A.aw) (k0_pay23 A.x A.aw) (k0_pay24 (F := Ideal) A.x A.aw) k0_pay25) = A.z26 := by
  funext j
  obtain ⟨r, j, rfl⟩ : ∃ (r : Fin 768) (c : Fin 1024), j = ix2 r c := ⟨j 0, j 1, eq_ix2 j⟩
  have hj := j.isLt
  unfold k0_pay33
  rw [truncf_apply, slice_apply (M := 768) (N := 6144) (N' := 1024) 5120 _ _ r j (by omega), s_proj]
  rfl

/-! ## The one point reads and writes whole buffers -/

theorem zero2 : (![0, 0] : Fin 2 → ℕ) = fun _ => 0 := by funext a; fin_cases a <;> rfl
theorem zero3 : (![0, 0, 0] : Fin 3 → ℕ) = fun _ => 0 := by funext a; fin_cases a <;> rfl

theorem ld0 (x : Vec Ideal S768x12800 .bf16) : View.ld x r0_0 = x := View.ld_unit_zero (S := S768x12800) zero2 _ x
theorem ld1 (x : Vec Ideal S6400x2560 .i8) : View.ld x r0_1 = x := View.ld_unit_zero (S := S6400x2560) zero2 _ x
theorem ld2 (x : Vec Ideal S1x2560 .f32) : View.ld x r0_2 = x := View.ld_unit_zero (S := S1x2560) zero2 _ x
theorem ld3 (x : Vec Ideal S768x128 .f32) : View.ld x r0_3 = x := View.ld_unit_zero (S := S768x128) zero2 _ x
theorem ld4 (x : Vec Ideal S1x128 .f32) : View.ld x r0_4 = x := View.ld_unit_zero (S := S1x128) zero2 _ x
theorem ld5 (x : Vec Ideal S2560x6144 .fp8e4m3) : View.ld x r0_5 = x := View.ld_unit_zero (S := S2560x6144) zero2 _ x
theorem ld6 (x : Vec Ideal S1x6144 .f32) : View.ld x r0_6 = x := View.ld_unit_zero (S := S1x6144) zero2 _ x
theorem ld7 (x : Vec Ideal S768x2560 .bf16) : View.ld x r0_7 = x := View.ld_unit_zero (S := S768x2560) zero2 _ x
theorem ld9 (x : Vec Ideal S1x8x1 .f32) : View.ld x r0_9 = x := View.ld_unit_zero (S := S1x8x1) zero3 _ x

variable (ks vs : Vec Ideal S1x8x1 .f32)

theorem out16 : out0_16 (F := Ideal) A.th A.wf A.sf A.fw A.x A.aw A.wq A.sq A.qw A.kw A.cc A.cs A.bc A.bs ks vs = A.z16 := by
  unfold out0_16 k0_pay37
  rw [View.canon_unit_zero zero2, ld0, ld1, ld2, ld2]
  funext j
  obtain ⟨r, j, rfl⟩ : ∃ (r : Fin 768) (c : Fin 2560), j = ix2 r c := ⟨j 0, j 1, eq_ix2 j⟩
  exact c_apply A r j
theorem out17 : out0_17 (F := Ideal) A.th A.wf A.sf A.fw A.x A.aw A.wq A.sq A.qw A.kw A.cc A.cs A.bc A.bs ks vs = A.z17 := by
  unfold out0_17
  rw [View.canon_unit_zero zero2, ld0, ld1, ld2]
  funext j
  obtain ⟨r, j, rfl⟩ : ∃ (r : Fin 768) (c : Fin 2560), j = ix2 r c := ⟨j 0, j 1, eq_ix2 j⟩
  exact h_apply A r j
theorem out18 : out0_18 (F := Ideal) A.th A.wf A.sf A.fw A.x A.aw A.wq A.sq A.qw A.kw A.cc A.cs A.bc A.bs ks vs = A.z18 := by
  unfold out0_18 k0_pay39 k0_pay38 k0_pay37
  simp only [ld0, ld1, ld2]
  rw [View.canon_unit_zero zero2]
  funext j
  obtain ⟨r, j, rfl⟩ : ∃ (r : Fin 768) (c : Fin 2560), j = ix2 r c := ⟨j 0, j 1, eq_ix2 j⟩
  exact c_code A r j
theorem out19 : out0_19 (F := Ideal) A.th A.wf A.sf A.fw A.x A.aw A.wq A.sq A.qw A.kw A.cc A.cs A.bc A.bs ks vs = A.z19 := by
  unfold out0_19 k0_pay39 k0_pay38
  simp only [ld0, ld1, ld2]
  rw [View.canon_unit_zero zero2]
  funext j
  obtain ⟨r, rfl⟩ : ∃ (r : Fin 768), j = ix2 r 0 := ⟨j 0, (eq_ix2 j).trans (congrArg (ix2 (j 0)) (Subsingleton.elim (α := Fin 1) _ _))⟩
  exact c_scale A r
theorem out20 (hk : ∀ n, ks (ix3 0 n 0) = A.ks n) : out0_20 (F := Ideal) A.th A.wf A.sf A.fw A.x A.aw A.wq A.sq A.qw A.kw A.cc A.cs A.bc A.bs ks vs = A.z20 := by
  unfold out0_20 k0_pay42 k0_pay39 k0_pay38 k0_pay37
  simp only [ld0, ld1, ld2, ld3, ld4, ld5, ld6, ld9]
  rw [View.canon_unit_zero zero2]
  exact store20 A ks hk
theorem out21 (hk : ∀ n, vs (ix3 0 n 0) = A.vs n) : out0_21 (F := Ideal) A.th A.wf A.sf A.fw A.x A.aw A.wq A.sq A.qw A.kw A.cc A.cs A.bc A.bs ks vs = A.z21 := by
  unfold out0_21 k0_pay39 k0_pay38 k0_pay37
  simp only [ld0, ld1, ld2, ld5, ld6, ld9]
  rw [View.canon_unit_zero zero2]
  exact store21 A vs hk
theorem out22 : out0_22 (F := Ideal) A.th A.wf A.sf A.fw A.x A.aw A.wq A.sq A.qw A.kw A.cc A.cs A.bc A.bs ks vs = A.z22 := by
  unfold out0_22 k0_pay47 k0_pay46 k0_pay45 k0_pay44
  simp only [ld2, ld7]
  rw [View.canon_unit_zero zero2]
  funext j
  obtain ⟨r, j, rfl⟩ : ∃ (r : Fin 768) (c : Fin 2560), j = ix2 r c := ⟨j 0, j 1, eq_ix2 j⟩
  exact s_code A r j
theorem out23 : out0_23 (F := Ideal) A.th A.wf A.sf A.fw A.x A.aw A.wq A.sq A.qw A.kw A.cc A.cs A.bc A.bs ks vs = A.z23 := by
  unfold out0_23 k0_pay47 k0_pay46 k0_pay45
  simp only [ld2, ld7]
  rw [View.canon_unit_zero zero2]
  funext j
  obtain ⟨r, rfl⟩ : ∃ (r : Fin 768), j = ix2 r 0 := ⟨j 0, (eq_ix2 j).trans (congrArg (ix2 (j 0)) (Subsingleton.elim (α := Fin 1) _ _))⟩
  exact s_scale A r
theorem out24 : out0_24 (F := Ideal) A.th A.wf A.sf A.fw A.x A.aw A.wq A.sq A.qw A.kw A.cc A.cs A.bc A.bs ks vs = A.z24 := by
  unfold out0_24 k0_pay47 k0_pay46 k0_pay45 k0_pay44 k0_pay43 k0_pay41 k0_pay40
  simp only [ld2, ld3, ld4, ld5, ld6, ld7]
  rw [View.canon_unit_zero zero2]
  exact store24 A
theorem out25 : out0_25 (F := Ideal) A.th A.wf A.sf A.fw A.x A.aw A.wq A.sq A.qw A.kw A.cc A.cs A.bc A.bs ks vs = A.z25 := by
  unfold out0_25 k0_pay47 k0_pay46 k0_pay45 k0_pay44 k0_pay43 k0_pay42 k0_pay41 k0_pay40
  simp only [ld2, ld3, ld4, ld5, ld6, ld7]
  rw [View.canon_unit_zero zero2]
  exact store25 A
theorem out26 : out0_26 (F := Ideal) A.th A.wf A.sf A.fw A.x A.aw A.wq A.sq A.qw A.kw A.cc A.cs A.bc A.bs ks vs = A.z26 := by
  unfold out0_26 k0_pay47 k0_pay46 k0_pay45 k0_pay44 k0_pay43
  simp only [ld2, ld5, ld6, ld7]
  rw [View.canon_unit_zero zero2]
  exact store26 A

/-! ## The one point's blocks are the arrays -/

variable (m : (ℓ : Loc nD τ sig) → Buf (Elt Ideal) ℓ)

theorem idx : ∀ (w : Fin cfg0.W) (t : Fin cfg0.N) a, (cfg0.win w).index t a = 0 := (by decide +kernel : ∀ (w : Fin 27) (t : Fin grid0.N) a, (cfg0.win w).index t a = 0)

theorem blk_0 (c : Dev nD) (t : Fin cfg0.N) : iblk m c 0 t = V m c main_arg0 :=
  funext fun y => congrArg (V m c main_arg0) (funext fun a => Fin.ext (Pipeline.Window.rect_emb_val_of_index_zero (cfg0.win 0) t a (idx 0 t a) y))
theorem blk_1 (c : Dev nD) (t : Fin cfg0.N) : iblk m c 1 t = V m c main_arg1 :=
  funext fun y => congrArg (V m c main_arg1) (funext fun a => Fin.ext (Pipeline.Window.rect_emb_val_of_index_zero (cfg0.win 1) t a (idx 1 t a) y))
theorem blk_2 (c : Dev nD) (t : Fin cfg0.N) : iblk m c 2 t = V m c main_v0 :=
  funext fun y => congrArg (V m c main_v0) (funext fun a => Fin.ext (Pipeline.Window.rect_emb_val_of_index_zero (cfg0.win 2) t a (idx 2 t a) y))
theorem blk_3 (c : Dev nD) (t : Fin cfg0.N) : iblk m c 3 t = V m c main_v1 :=
  funext fun y => congrArg (V m c main_v1) (funext fun a => Fin.ext (Pipeline.Window.rect_emb_val_of_index_zero (cfg0.win 3) t a (idx 3 t a) y))
theorem blk_4 (c : Dev nD) (t : Fin cfg0.N) : iblk m c 4 t = V m c main_v2 :=
  funext fun y => congrArg (V m c main_v2) (funext fun a => Fin.ext (Pipeline.Window.rect_emb_val_of_index_zero (cfg0.win 4) t a (idx 4 t a) y))
theorem blk_5 (c : Dev nD) (t : Fin cfg0.N) : iblk m c 5 t = V m c main_v3 :=
  funext fun y => congrArg (V m c main_v3) (funext fun a => Fin.ext (Pipeline.Window.rect_emb_val_of_index_zero (cfg0.win 5) t a (idx 5 t a) y))
theorem blk_6 (c : Dev nD) (t : Fin cfg0.N) : iblk m c 6 t = V m c main_arg6 :=
  funext fun y => congrArg (V m c main_arg6) (funext fun a => Fin.ext (Pipeline.Window.rect_emb_val_of_index_zero (cfg0.win 6) t a (idx 6 t a) y))
theorem blk_7 (c : Dev nD) (t : Fin cfg0.N) : iblk m c 7 t = V m c main_v4 :=
  funext fun y => congrArg (V m c main_v4) (funext fun a => Fin.ext (Pipeline.Window.rect_emb_val_of_index_zero (cfg0.win 7) t a (idx 7 t a) y))
theorem blk_8 (c : Dev nD) (t : Fin cfg0.N) : iblk m c 8 t = V m c main_v5 :=
  funext fun y => congrArg (V m c main_v5) (funext fun a => Fin.ext (Pipeline.Window.rect_emb_val_of_index_zero (cfg0.win 8) t a (idx 8 t a) y))
theorem blk_9 (c : Dev nD) (t : Fin cfg0.N) : iblk m c 9 t = V m c main_v6 :=
  funext fun y => congrArg (V m c main_v6) (funext fun a => Fin.ext (Pipeline.Window.rect_emb_val_of_index_zero (cfg0.win 9) t a (idx 9 t a) y))
theorem blk_10 (c : Dev nD) (t : Fin cfg0.N) : iblk m c 10 t = V m c main_arg10 :=
  funext fun y => congrArg (V m c main_arg10) (funext fun a => Fin.ext (Pipeline.Window.rect_emb_val_of_index_zero (cfg0.win 10) t a (idx 10 t a) y))
theorem blk_11 (c : Dev nD) (t : Fin cfg0.N) : iblk m c 11 t = V m c main_arg11 :=
  funext fun y => congrArg (V m c main_arg11) (funext fun a => Fin.ext (Pipeline.Window.rect_emb_val_of_index_zero (cfg0.win 11) t a (idx 11 t a) y))
theorem blk_12 (c : Dev nD) (t : Fin cfg0.N) : iblk m c 12 t = V m c main_v7 :=
  funext fun y => congrArg (V m c main_v7) (funext fun a => Fin.ext (Pipeline.Window.rect_emb_val_of_index_zero (cfg0.win 12) t a (idx 12 t a) y))
theorem blk_13 (c : Dev nD) (t : Fin cfg0.N) : iblk m c 13 t = V m c main_v8 :=
  funext fun y => congrArg (V m c main_v8) (funext fun a => Fin.ext (Pipeline.Window.rect_emb_val_of_index_zero (cfg0.win 13) t a (idx 13 t a) y))
theorem blk_14 (c : Dev nD) (t : Fin cfg0.N) : iblk m c 14 t = V m c main_v9 :=
  funext fun y => congrArg (V m c main_v9) (funext fun a => Fin.ext (Pipeline.Window.rect_emb_val_of_index_zero (cfg0.win 14) t a (idx 14 t a) y))
theorem blk_15 (c : Dev nD) (t : Fin cfg0.N) : iblk m c 15 t = V m c main_v10 :=
  funext fun y => congrArg (V m c main_v10) (funext fun a => Fin.ext (Pipeline.Window.rect_emb_val_of_index_zero (cfg0.win 15) t a (idx 15 t a) y))

/-- The arrays the program reads. -/
def inp (c : Dev nD) : In where
  th := V m c main_arg0
  wf := V m c main_arg1
  sf := V m c main_v0
  fw := V m c main_v1
  x := V m c main_v2
  aw := V m c main_v3
  wq := V m c main_arg6
  sq := V m c main_v4
  qw := V m c main_v5
  kw := V m c main_v6
  cc := V m c main_arg10
  cs := V m c main_arg11
  bc := V m c main_v7
  bs := V m c main_v8
  ks := fun n => V m c main_v9 (ix3 0 n 0)
  vs := fun n => V m c main_v10 (ix3 0 n 0)

theorem arr_16 (c : Dev nD) : (dats m 0 c).arrAt 16 cfg0.N = (inp m c).z16 := by
  refine (dats m 0 c).arrAt_eq_of_covers 16 _ (by decide +kernel) fun t _ y => Eq.trans ?_ (congrArg (inp m c).z16 (funext fun a => Fin.ext (Pipeline.Window.rect_emb_val_of_index_zero (cfg0.win 16) t a (idx 16 t a) y)).symm)
  show (dats m 0 c).after 16 t y = _
  rw [after0_16, blk_0, blk_1, blk_2, blk_3, blk_4, blk_5, blk_6, blk_7, blk_8, blk_9, blk_10, blk_11, blk_12, blk_13, blk_14, blk_15]
  exact congrFun (out16 (inp m c) _ _) y
theorem arr_17 (c : Dev nD) : (dats m 0 c).arrAt 17 cfg0.N = (inp m c).z17 := by
  refine (dats m 0 c).arrAt_eq_of_covers 17 _ (by decide +kernel) fun t _ y => Eq.trans ?_ (congrArg (inp m c).z17 (funext fun a => Fin.ext (Pipeline.Window.rect_emb_val_of_index_zero (cfg0.win 17) t a (idx 17 t a) y)).symm)
  show (dats m 0 c).after 17 t y = _
  rw [after0_17, blk_0, blk_1, blk_2, blk_3, blk_4, blk_5, blk_6, blk_7, blk_8, blk_9, blk_10, blk_11, blk_12, blk_13, blk_14, blk_15]
  exact congrFun (out17 (inp m c) _ _) y
theorem arr_18 (c : Dev nD) : (dats m 0 c).arrAt 18 cfg0.N = (inp m c).z18 := by
  refine (dats m 0 c).arrAt_eq_of_covers 18 _ (by decide +kernel) fun t _ y => Eq.trans ?_ (congrArg (inp m c).z18 (funext fun a => Fin.ext (Pipeline.Window.rect_emb_val_of_index_zero (cfg0.win 18) t a (idx 18 t a) y)).symm)
  show (dats m 0 c).after 18 t y = _
  rw [after0_18, blk_0, blk_1, blk_2, blk_3, blk_4, blk_5, blk_6, blk_7, blk_8, blk_9, blk_10, blk_11, blk_12, blk_13, blk_14, blk_15]
  exact congrFun (out18 (inp m c) _ _) y
theorem arr_19 (c : Dev nD) : (dats m 0 c).arrAt 19 cfg0.N = (inp m c).z19 := by
  refine (dats m 0 c).arrAt_eq_of_covers 19 _ (by decide +kernel) fun t _ y => Eq.trans ?_ (congrArg (inp m c).z19 (funext fun a => Fin.ext (Pipeline.Window.rect_emb_val_of_index_zero (cfg0.win 19) t a (idx 19 t a) y)).symm)
  show (dats m 0 c).after 19 t y = _
  rw [after0_19, blk_0, blk_1, blk_2, blk_3, blk_4, blk_5, blk_6, blk_7, blk_8, blk_9, blk_10, blk_11, blk_12, blk_13, blk_14, blk_15]
  exact congrFun (out19 (inp m c) _ _) y
theorem arr_20 (c : Dev nD) : (dats m 0 c).arrAt 20 cfg0.N = (inp m c).z20 := by
  refine (dats m 0 c).arrAt_eq_of_covers 20 _ (by decide +kernel) fun t _ y => Eq.trans ?_ (congrArg (inp m c).z20 (funext fun a => Fin.ext (Pipeline.Window.rect_emb_val_of_index_zero (cfg0.win 20) t a (idx 20 t a) y)).symm)
  show (dats m 0 c).after 20 t y = _
  rw [after0_20, blk_0, blk_1, blk_2, blk_3, blk_4, blk_5, blk_6, blk_7, blk_8, blk_9, blk_10, blk_11, blk_12, blk_13, blk_14, blk_15]
  exact congrFun (out20 (inp m c) _ _ fun _ => rfl) y
theorem arr_21 (c : Dev nD) : (dats m 0 c).arrAt 21 cfg0.N = (inp m c).z21 := by
  refine (dats m 0 c).arrAt_eq_of_covers 21 _ (by decide +kernel) fun t _ y => Eq.trans ?_ (congrArg (inp m c).z21 (funext fun a => Fin.ext (Pipeline.Window.rect_emb_val_of_index_zero (cfg0.win 21) t a (idx 21 t a) y)).symm)
  show (dats m 0 c).after 21 t y = _
  rw [after0_21, blk_0, blk_1, blk_2, blk_3, blk_4, blk_5, blk_6, blk_7, blk_8, blk_9, blk_10, blk_11, blk_12, blk_13, blk_14, blk_15]
  exact congrFun (out21 (inp m c) _ _ fun _ => rfl) y
theorem arr_22 (c : Dev nD) : (dats m 0 c).arrAt 22 cfg0.N = (inp m c).z22 := by
  refine (dats m 0 c).arrAt_eq_of_covers 22 _ (by decide +kernel) fun t _ y => Eq.trans ?_ (congrArg (inp m c).z22 (funext fun a => Fin.ext (Pipeline.Window.rect_emb_val_of_index_zero (cfg0.win 22) t a (idx 22 t a) y)).symm)
  show (dats m 0 c).after 22 t y = _
  rw [after0_22, blk_0, blk_1, blk_2, blk_3, blk_4, blk_5, blk_6, blk_7, blk_8, blk_9, blk_10, blk_11, blk_12, blk_13, blk_14, blk_15]
  exact congrFun (out22 (inp m c) _ _) y
theorem arr_23 (c : Dev nD) : (dats m 0 c).arrAt 23 cfg0.N = (inp m c).z23 := by
  refine (dats m 0 c).arrAt_eq_of_covers 23 _ (by decide +kernel) fun t _ y => Eq.trans ?_ (congrArg (inp m c).z23 (funext fun a => Fin.ext (Pipeline.Window.rect_emb_val_of_index_zero (cfg0.win 23) t a (idx 23 t a) y)).symm)
  show (dats m 0 c).after 23 t y = _
  rw [after0_23, blk_0, blk_1, blk_2, blk_3, blk_4, blk_5, blk_6, blk_7, blk_8, blk_9, blk_10, blk_11, blk_12, blk_13, blk_14, blk_15]
  exact congrFun (out23 (inp m c) _ _) y
theorem arr_24 (c : Dev nD) : (dats m 0 c).arrAt 24 cfg0.N = (inp m c).z24 := by
  refine (dats m 0 c).arrAt_eq_of_covers 24 _ (by decide +kernel) fun t _ y => Eq.trans ?_ (congrArg (inp m c).z24 (funext fun a => Fin.ext (Pipeline.Window.rect_emb_val_of_index_zero (cfg0.win 24) t a (idx 24 t a) y)).symm)
  show (dats m 0 c).after 24 t y = _
  rw [after0_24, blk_0, blk_1, blk_2, blk_3, blk_4, blk_5, blk_6, blk_7, blk_8, blk_9, blk_10, blk_11, blk_12, blk_13, blk_14, blk_15]
  exact congrFun (out24 (inp m c) _ _) y
theorem arr_25 (c : Dev nD) : (dats m 0 c).arrAt 25 cfg0.N = (inp m c).z25 := by
  refine (dats m 0 c).arrAt_eq_of_covers 25 _ (by decide +kernel) fun t _ y => Eq.trans ?_ (congrArg (inp m c).z25 (funext fun a => Fin.ext (Pipeline.Window.rect_emb_val_of_index_zero (cfg0.win 25) t a (idx 25 t a) y)).symm)
  show (dats m 0 c).after 25 t y = _
  rw [after0_25, blk_0, blk_1, blk_2, blk_3, blk_4, blk_5, blk_6, blk_7, blk_8, blk_9, blk_10, blk_11, blk_12, blk_13, blk_14, blk_15]
  exact congrFun (out25 (inp m c) _ _) y
theorem arr_26 (c : Dev nD) : (dats m 0 c).arrAt 26 cfg0.N = (inp m c).z26 := by
  refine (dats m 0 c).arrAt_eq_of_covers 26 _ (by decide +kernel) fun t _ y => Eq.trans ?_ (congrArg (inp m c).z26 (funext fun a => Fin.ext (Pipeline.Window.rect_emb_val_of_index_zero (cfg0.win 26) t a (idx 26 t a) y)).symm)
  show (dats m 0 c).after 26 t y = _
  rw [after0_26, blk_0, blk_1, blk_2, blk_3, blk_4, blk_5, blk_6, blk_7, blk_8, blk_9, blk_10, blk_11, blk_12, blk_13, blk_14, blk_15]
  exact congrFun (out26 (inp m c) _ _) y

end Cert.ProjReferenceIdeal.Gen

end
-- ==== Proof.ProjAlgebraic.lean ====
/- THE TWO PROJECTIONS AGREE: each of the eleven result arrays is the same formula of the arguments in both programs. -/
module

public import proofs.«01_k».proof.Proof.ProjIdeal.Arrays
public import proofs.«01_k».proof.Proof.ProjReference
public import proofs.«01_k».proof.Defs
public import Idealize.ShloMosaic.Lib.Claim

@[expose] public section

set_option maxRecDepth 16384

noncomputable section

open Idealize.ShloMosaic Idealize.ShloMosaic.TcCoe Idealize.ShloMosaic.ValueIdx Idealize.SL.Sem Cert.ProjSpec

/-! ## The arguments the host line reshapes -/

namespace Cert.ProjIdeal.Gen

variable (m : (ℓ : Loc nD τ sig) → Buf (Elt Ideal) ℓ)

theorem V_v0 (c : Dev nD) : V m c main_v0 = shapeCast S768x2560 (m ((c : Thread nD τ).loc main_arg4)) shapeCasts_S48x16x2560_S768x2560 := by entry_read; rfl
theorem V_v1 (c : Dev nD) : V m c main_v1 = shapeCast S1x2560 (m ((c : Thread nD τ).loc main_arg2)) shapeCasts_S2560_S1x2560 := by entry_read; rfl
theorem V_v2 (c : Dev nD) : V m c main_v2 = shapeCast S1x2560 (m ((c : Thread nD τ).loc main_arg3)) shapeCasts_S2560_S1x2560 := by entry_read; rfl
theorem V_v3 (c : Dev nD) : V m c main_v3 = shapeCast S1x2560 (m ((c : Thread nD τ).loc main_arg5)) shapeCasts_S2560_S1x2560 := by entry_read; rfl
theorem V_v4 (c : Dev nD) : V m c main_v4 = shapeCast S1x6144 (m ((c : Thread nD τ).loc main_arg7)) shapeCasts_S6144_S1x6144 := by entry_read; rfl
theorem V_v5 (c : Dev nD) : V m c main_v5 = shapeCast S1x128 (m ((c : Thread nD τ).loc main_arg8)) shapeCasts_S128_S1x128 := by entry_read; rfl
theorem V_v6 (c : Dev nD) : V m c main_v6 = shapeCast S1x128 (m ((c : Thread nD τ).loc main_arg9)) shapeCasts_S128_S1x128 := by entry_read; rfl
theorem V_v7 (c : Dev nD) : V m c main_v7 = shapeCast S768x128 (m ((c : Thread nD τ).loc main_arg12)) shapeCasts_S48x16x128_S768x128 := by entry_read; rfl
theorem V_v8 (c : Dev nD) : V m c main_v8 = shapeCast S768x128 (m ((c : Thread nD τ).loc main_arg13)) shapeCasts_S48x16x128_S768x128 := by entry_read; rfl

/-- What the formulas read, of the arguments. -/
def args (a0 : Vec Ideal S768x12800 .bf16) (a1 : Vec Ideal S6400x2560 .i8) (a2 a3 : Vec Ideal S2560 .f32) (a4 : Vec Ideal S48x16x2560 .bf16) (a5 : Vec Ideal S2560 .f32)
    (a6 : Vec Ideal S2560x6144 .fp8e4m3) (a7 : Vec Ideal S6144 .f32) (a8 a9 : Vec Ideal S128 .f32) (a10 a11 : Vec Ideal S768x128 .f32)
    (a12 a13 : Vec Ideal S48x16x128 .f32) (a14 a15 : Vec Ideal S8 .f32) : In where
  th := a0
  wf := a1
  sf := (shapeCast S1x2560 a2 shapeCasts_S2560_S1x2560)
  fw := (shapeCast S1x2560 a3 shapeCasts_S2560_S1x2560)
  x := (shapeCast S768x2560 a4 shapeCasts_S48x16x2560_S768x2560)
  aw := (shapeCast S1x2560 a5 shapeCasts_S2560_S1x2560)
  wq := a6
  sq := (shapeCast S1x6144 a7 shapeCasts_S6144_S1x6144)
  qw := (shapeCast S1x128 a8 shapeCasts_S128_S1x128)
  kw := (shapeCast S1x128 a9 shapeCasts_S128_S1x128)
  cc := a10
  cs := a11
  bc := (shapeCast S768x128 a12 shapeCasts_S48x16x128_S768x128)
  bs := (shapeCast S768x128 a13 shapeCasts_S48x16x128_S768x128)
  ks := fun n => a14 (ix1 n)
  vs := fun n => a15 (ix1 n)

theorem inp_eq (c : Dev nD) : inp m c = args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold inp args
  rw [V_v0, V_v1, V_v2, V_v3, V_v4, V_v5, V_v6, V_v7, V_v8, V_main_arg0, V_main_arg1, V_main_arg6, V_main_arg10, V_main_arg11, V_main_arg14, V_main_arg15]

end Cert.ProjIdeal.Gen

namespace Cert.ProjReferenceIdeal.Gen

variable (m : (ℓ : Loc nD τ sig) → Buf (Elt Ideal) ℓ)

theorem V_v0 (c : Dev nD) : V m c main_v0 = shapeCast S1x2560 (m ((c : Thread nD τ).loc main_arg2)) shapeCasts_S2560_S1x2560 := by entry_read; rfl
theorem V_v1 (c : Dev nD) : V m c main_v1 = shapeCast S1x2560 (m ((c : Thread nD τ).loc main_arg3)) shapeCasts_S2560_S1x2560 := by entry_read; rfl
theorem V_v2 (c : Dev nD) : V m c main_v2 = shapeCast S768x2560 (m ((c : Thread nD τ).loc main_arg4)) shapeCasts_S48x16x2560_S768x2560 := by entry_read; rfl
theorem V_v3 (c : Dev nD) : V m c main_v3 = shapeCast S1x2560 (m ((c : Thread nD τ).loc main_arg5)) shapeCasts_S2560_S1x2560 := by entry_read; rfl
theorem V_v4 (c : Dev nD) : V m c main_v4 = shapeCast S1x6144 (m ((c : Thread nD τ).loc main_arg7)) shapeCasts_S6144_S1x6144 := by entry_read; rfl
theorem V_v5 (c : Dev nD) : V m c main_v5 = shapeCast S1x128 (m ((c : Thread nD τ).loc main_arg8)) shapeCasts_S128_S1x128 := by entry_read; rfl
theorem V_v6 (c : Dev nD) : V m c main_v6 = shapeCast S1x128 (m ((c : Thread nD τ).loc main_arg9)) shapeCasts_S128_S1x128 := by entry_read; rfl
theorem V_v7 (c : Dev nD) : V m c main_v7 = shapeCast S768x128 (m ((c : Thread nD τ).loc main_arg12)) shapeCasts_S48x16x128_S768x128 := by entry_read; rfl
theorem V_v8 (c : Dev nD) : V m c main_v8 = shapeCast S768x128 (m ((c : Thread nD τ).loc main_arg13)) shapeCasts_S48x16x128_S768x128 := by entry_read; rfl
theorem V_v9 (c : Dev nD) : V m c main_v9 = shapeCast S1x8x1 (m ((c : Thread nD τ).loc main_arg14)) shapeCasts_S8_S1x8x1 := by entry_read; rfl
theorem V_v10 (c : Dev nD) : V m c main_v10 = shapeCast S1x8x1 (m ((c : Thread nD τ).loc main_arg15)) shapeCasts_S8_S1x8x1 := by entry_read; rfl

/-- The heads' scales, read through their reshape. -/
theorem scale_apply (s : Vec Ideal S8 .f32) (n : Fin 8) : shapeCast S1x8x1 s shapeCasts_S8_S1x8x1 (ix3 0 n 0) = s (ix1 n) :=
  shapeCast_apply _ _ _ _ (by fin_cases n <;> rfl)

theorem inp_eq (c : Dev nD) : inp m c = Cert.ProjIdeal.Gen.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold inp Cert.ProjIdeal.Gen.args
  rw [V_v0, V_v1, V_v2, V_v3, V_v4, V_v5, V_v6, V_v7, V_v8, V_v9, V_v10, V_main_arg0, V_main_arg1, V_main_arg6, V_main_arg10, V_main_arg11]
  exact congrArg₂ (In.mk _ _ _ _ _ _ _ _ _ _ _ _ _ _) (funext fun n => scale_apply _ n) (funext fun n => scale_apply _ n)

end Cert.ProjReferenceIdeal.Gen

namespace Cert.ProjAlgebraic

set_option maxHeartbeats 4000000 in
theorem algebraic : Cert.algebraic_ProjIdeal_ProjReferenceIdeal (hProjIdeal := Cert.ProjIdeal.Gen.facts) (hProjReferenceIdeal := Cert.ProjReferenceIdeal.Gen.facts) := by
  intro m g m' g' _ hargs
  have hK := θ_run_and (Cert.ProjIdeal.Gen.results m g) (Cert.ProjIdeal.Gen.frame (F := Ideal) m g)
  refine ⟨fun c => (Cert.ProjIdeal.Gen.inp m c).z16, fun c => (Cert.ProjIdeal.Gen.inp m c).z17, fun c => (Cert.ProjIdeal.Gen.inp m c).z18, fun c => (Cert.ProjIdeal.Gen.inp m c).z19, fun c => (Cert.ProjIdeal.Gen.inp m c).z20, fun c => (Cert.ProjIdeal.Gen.inp m c).z21, fun c => (Cert.ProjIdeal.Gen.inp m c).z22, fun c => (Cert.ProjIdeal.Gen.inp m c).z23, fun c => (Cert.ProjIdeal.Gen.inp m c).z24, fun c => (Cert.ProjIdeal.Gen.inp m c).z25, fun c => (Cert.ProjIdeal.Gen.inp m c).z26, (θ_run _ _ _).mono (fun r h c => ?_) hK, (θ_run _ _ _).mono (fun r h c => ?_) (Cert.ProjReferenceIdeal.Value.run_blocks m' g')⟩
  · obtain ⟨h0, h1, h2, h3, h4, h5, h6, h7, h8, h9, h10⟩ := h.1 c
    exact ⟨h0, h1, h2, h3, h4, h5, h6, h7, h8, h9, h10, h.2.1 c⟩
  · obtain ⟨h0, h1, h2, h3, h4, h5, h6, h7, h8, h9, h10, hrest⟩ := h c
    obtain ⟨e0, e1, e2, e3, e4, e5, e6, e7, e8, e9, e10, e11, e12, e13, e14, e15⟩ := hargs c
    have e : Cert.ProjReferenceIdeal.Gen.inp m' c = Cert.ProjIdeal.Gen.inp m c := by
      rw [Cert.ProjReferenceIdeal.Gen.inp_eq, Cert.ProjIdeal.Gen.inp_eq, e0, e1, e2, e3, e4, e5, e6, e7, e8, e9, e10, e11, e12, e13, e14, e15]
    exact ⟨h0.trans ((Cert.ProjReferenceIdeal.Gen.arr_16 m' c).trans (congrArg In.z16 e)), h1.trans ((Cert.ProjReferenceIdeal.Gen.arr_17 m' c).trans (congrArg In.z17 e)), h2.trans ((Cert.ProjReferenceIdeal.Gen.arr_18 m' c).trans (congrArg In.z18 e)), h3.trans ((Cert.ProjReferenceIdeal.Gen.arr_19 m' c).trans (congrArg In.z19 e)), h4.trans ((Cert.ProjReferenceIdeal.Gen.arr_20 m' c).trans (congrArg In.z20 e)), h5.trans ((Cert.ProjReferenceIdeal.Gen.arr_21 m' c).trans (congrArg In.z21 e)), h6.trans ((Cert.ProjReferenceIdeal.Gen.arr_22 m' c).trans (congrArg In.z22 e)), h7.trans ((Cert.ProjReferenceIdeal.Gen.arr_23 m' c).trans (congrArg In.z23 e)), h8.trans ((Cert.ProjReferenceIdeal.Gen.arr_24 m' c).trans (congrArg In.z24 e)), h9.trans ((Cert.ProjReferenceIdeal.Gen.arr_25 m' c).trans (congrArg In.z25 e)), h10.trans ((Cert.ProjReferenceIdeal.Gen.arr_26 m' c).trans (congrArg In.z26 e)), hrest⟩

end Cert.ProjAlgebraic

end
-- ==== Proof.lean ====
module

public import proofs.«01_k».proof.Proof.Gen.MlpReferenceIdeal.Value
public import proofs.«01_k».proof.Proof.Mlp.Frame
public import proofs.«01_k».proof.Proof.MlpAlgebraic
public import proofs.«01_k».proof.Proof.Proj.Frame
public import proofs.«01_k».proof.Proof.ProjAlgebraic
public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Skeleton
public import proofs.«01_k».proof.Proof.Gen.MlpReferenceIdeal.Launch
public import proofs.«01_k».proof.Proof.Gen.MlpReferenceIdeal.Points
public import proofs.«01_k».proof.Proof.Gen.MlpReferenceIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Skeleton
public import proofs.«01_k».proof.Proof.Gen.ProjReferenceIdeal.Launch
public import proofs.«01_k».proof.Proof.Gen.ProjReferenceIdeal.Points
public import proofs.«01_k».proof.Proof.Gen.ProjReferenceIdeal.Frame
public import proofs.«01_k».proof.Proof.Gen.ProjReferenceIdeal.Value
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpReferenceIdeal.Gen.facts,
  Cert.Proj.Gen.facts, Cert.ProjIdeal.Gen.facts, Cert.ProjReferenceIdeal.Gen.facts,
  Cert.Mlp.quiescent, fun m ρ _ => Cert.MlpIdeal.Gen.frame m ρ, fun m ρ _ => Cert.MlpReferenceIdeal.Gen.frame m ρ,
  Cert.Proj.quiescent, fun m ρ _ => Cert.ProjIdeal.Gen.frame m ρ, fun m ρ _ => Cert.ProjReferenceIdeal.Gen.frame m ρ,
  trivial, Cert.MlpAlgebraic.algebraic, trivial, Cert.ProjAlgebraic.algebraic⟩

end Cert.Proof

end
